-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x4480 : Shape := ⟨3, ![8, 2048, 4480]⟩
abbrev S8x2048x1 : Shape := ⟨3, ![8, 2048, 1]⟩
abbrev S4480x20736 : Shape := ⟨2, ![4480, 20736]⟩
abbrev S1x20736 : Shape := ⟨2, ![1, 20736]⟩
abbrev S8x2048x20736 : Shape := ⟨3, ![8, 2048, 20736]⟩
abbrev S16384x4480 : Shape := ⟨2, ![16384, 4480]⟩
abbrev S32x1x512 : Shape := ⟨3, ![32, 1, 512]⟩
abbrev S16384x20736 : Shape := ⟨2, ![16384, 20736]⟩
abbrev S512x4480 : Shape := ⟨2, ![512, 4480]⟩
abbrev S1x1x512 : Shape := ⟨3, ![1, 1, 512]⟩
abbrev S4480x768 : Shape := ⟨2, ![4480, 768]⟩
abbrev S1x768 : Shape := ⟨2, ![1, 768]⟩
abbrev S512x768 : Shape := ⟨2, ![512, 768]⟩
abbrev S27x512x768 : Shape := ⟨3, ![27, 512, 768]⟩
abbrev S512x128 : Shape := ⟨2, ![512, 128]⟩
abbrev S512 : Shape := ⟨1, ![512]⟩
abbrev S512x1 : Shape := ⟨2, ![512, 1]⟩
abbrev S128x128 : Shape := ⟨2, ![128, 128]⟩
abbrev S1x128 : Shape := ⟨2, ![1, 128]⟩
abbrev S1x1x128 : Shape := ⟨3, ![1, 1, 128]⟩
abbrev S1x512x128 : Shape := ⟨3, ![1, 512, 128]⟩

abbrev nBuf : Space → Nat
  | .hbm => 10
  | .vmem => 18
  | .smem => 0
  | _ => 0

abbrev bufTy : (tb : Table) → Fin (tcTables nBuf tb) → BufTy
  | .hbm, ⟨0, _⟩ => ⟨S8x2048x4480, .fp8e4m3⟩
  | .hbm, ⟨1, _⟩ => ⟨S8x2048x1, .f32⟩
  | .hbm, ⟨2, _⟩ => ⟨S4480x20736, .fp8e4m3⟩
  | .hbm, ⟨3, _⟩ => ⟨S1x20736, .f32⟩
  | .hbm, ⟨4, _⟩ => ⟨S8x2048x20736, .bf16⟩
  | .hbm, ⟨5, _⟩ => ⟨S16384x4480, .fp8e4m3⟩
  | .hbm, ⟨6, _⟩ => ⟨S32x1x512, .f32⟩
  | .hbm, ⟨7, _⟩ => ⟨S16384x20736, .bf16⟩
  | .hbm, ⟨8, _⟩ => ⟨S16384x20736, .fp8e4m3⟩
  | .hbm, ⟨9, _⟩ => ⟨S32x1x512, .f32⟩
  | .local _ .vmem, ⟨0, _⟩ => ⟨S512x4480, .fp8e4m3⟩
  | .local _ .vmem, ⟨1, _⟩ => ⟨S512x4480, .fp8e4m3⟩
  | .local _ .vmem, ⟨2, _⟩ => ⟨S1x1x512, .f32⟩
  | .local _ .vmem, ⟨3, _⟩ => ⟨S1x1x512, .f32⟩
  | .local _ .vmem, ⟨4, _⟩ => ⟨S4480x768, .fp8e4m3⟩
  | .local _ .vmem, ⟨5, _⟩ => ⟨S4480x768, .fp8e4m3⟩
  | .local _ .vmem, ⟨6, _⟩ => ⟨S1x768, .f32⟩
  | .local _ .vmem, ⟨7, _⟩ => ⟨S1x768, .f32⟩
  | .local _ .vmem, ⟨8, _⟩ => ⟨S512x768, .bf16⟩
  | .local _ .vmem, ⟨9, _⟩ => ⟨S512x768, .bf16⟩
  | .local _ .vmem, ⟨10, _⟩ => ⟨S512x768, .fp8e4m3⟩
  | .local _ .vmem, ⟨11, _⟩ => ⟨S512x768, .fp8e4m3⟩
  | .local _ .vmem, ⟨12, _⟩ => ⟨S1x1x512, .f32⟩
  | .local _ .vmem, ⟨13, _⟩ => ⟨S1x1x512, .f32⟩
  | .local _ .vmem, ⟨14, _⟩ => ⟨S27x512x768, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | _, _ => ⟨S8x2048x4480, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![33, 27], ![false, false]⟩

def k0_cond3 (i : grid0.Coords) : BitVec 1 :=
  let arg0 : BitVec 32 := BitVec.ofNat 32 (i 0).val
  let c0_i32_4 : BitVec 32 := 0#32
  let v10 : BitVec 1 := Scalar.cmpi .eq arg0 c0_i32_4
  let v11 : BitVec 32 := Scalar.extui v10
  let c0_i32_5 : BitVec 32 := 0#32
  let v12 : BitVec 1 := Scalar.cmpi .ne v11 c0_i32_5
  v12

def k0_off1 (i : grid0.Coords) : Fin 3 → Nat :=
  let arg1 : BitVec 32 := BitVec.ofNat 32 (i 1).val
  let v35 : Index := Scalar.indexCast arg1
  let c0_20 : Index := 0#32
  let c0_21 : Index := 0#32
  ![v35.toNat, 0, 0]
def k0_off2 (i : grid0.Coords) : Fin 3 → Nat :=
  let arg1 : BitVec 32 := BitVec.ofNat 32 (i 1).val
  let v49 : Index := Scalar.indexCast arg1
  let c0_25 : Index := 0#32
  let c128_26 : Index := 128#32
  ![v49.toNat, 0, 128]
def k0_off3 (i : grid0.Coords) : Fin 3 → Nat :=
  let arg1 : BitVec 32 := BitVec.ofNat 32 (i 1).val
  let v64 : Index := Scalar.indexCast arg1
  let c0_30 : Index := 0#32
  let c256_31 : Index := 256#32
  ![v64.toNat, 0, 256]
def k0_off4 (i : grid0.Coords) : Fin 3 → Nat :=
  let arg1 : BitVec 32 := BitVec.ofNat 32 (i 1).val
  let v79 : Index := Scalar.indexCast arg1
  let c0_35 : Index := 0#32
  let c384_36 : Index := 384#32
  ![v79.toNat, 0, 384]
def k0_off5 (i : grid0.Coords) : Fin 3 → Nat :=
  let arg1 : BitVec 32 := BitVec.ofNat 32 (i 1).val
  let v94 : Index := Scalar.indexCast arg1
  let c0_40 : Index := 0#32
  let c512_41 : Index := 512#32
  ![v94.toNat, 0, 512]
def k0_off6 (i : grid0.Coords) : Fin 3 → Nat :=
  let arg1 : BitVec 32 := BitVec.ofNat 32 (i 1).val
  let v109 : Index := Scalar.indexCast arg1
  let c0_45 : Index := 0#32
  let c640_46 : Index := 640#32
  ![v109.toNat, 0, 640]
def k0_cond4 (i : grid0.Coords) : BitVec 1 :=
  let arg0 : BitVec 32 := BitVec.ofNat 32 (i 0).val
  let c0_i32_6 : BitVec 32 := 0#32
  let v13 : BitVec 1 := Scalar.cmpi .sgt arg0 c0_i32_6
  let c32_i32_7 : BitVec 32 := 32#32
  let v14 : BitVec 1 := Scalar.cmpi .slt arg0 c32_i32_7
  let v15 : BitVec 1 := Scalar.andi v13 v14
  let v16 : BitVec 32 := Scalar.extui v15
  let c0_i32_8 : BitVec 32 := 0#32
  let v17 : BitVec 1 := Scalar.cmpi .ne v16 c0_i32_8
  v17

def k0_off7 (i : grid0.Coords) : Fin 3 → Nat :=
  let arg1 : BitVec 32 := BitVec.ofNat 32 (i 1).val
  let v22 : Index := Scalar.indexCast arg1
  let c0_12 : Index := 0#32
  let c0_13 : Index := 0#32
  ![v22.toNat, 0, 0]
def k0_off8 (i : grid0.Coords) : Fin 3 → Nat :=
  let arg1 : BitVec 32 := BitVec.ofNat 32 (i 1).val
  let v32 : Index := Scalar.indexCast arg1
  let c0_17 : Index := 0#32
  let c128 : Index := 128#32
  ![v32.toNat, 0, 128]
def k0_off9 (i : grid0.Coords) : Fin 3 → Nat :=
  let arg1 : BitVec 32 := BitVec.ofNat 32 (i 1).val
  let v42 : Index := Scalar.indexCast arg1
  let c0_22 : Index := 0#32
  let c256 : Index := 256#32
  ![v42.toNat, 0, 256]
def k0_off10 (i : grid0.Coords) : Fin 3 → Nat :=
  let arg1 : BitVec 32 := BitVec.ofNat 32 (i 1).val
  let v52 : Index := Scalar.indexCast arg1
  let c0_27 : Index := 0#32
  let c384 : Index := 384#32
  ![v52.toNat, 0, 384]
def k0_off11 (i : grid0.Coords) : Fin 3 → Nat :=
  let arg1 : BitVec 32 := BitVec.ofNat 32 (i 1).val
  let v62 : Index := Scalar.indexCast arg1
  let c0_32 : Index := 0#32
  let c512 : Index := 512#32
  ![v62.toNat, 0, 512]
def k0_off12 (i : grid0.Coords) : Fin 3 → Nat :=
  let arg1 : BitVec 32 := BitVec.ofNat 32 (i 1).val
  let v72 : Index := Scalar.indexCast arg1
  let c0_37 : Index := 0#32
  let c640 : Index := 640#32
  ![v72.toNat, 0, 640]
def k0_cond5 (i : grid0.Coords) : BitVec 1 :=
  let arg0 : BitVec 32 := BitVec.ofNat 32 (i 0).val
  let c32_i32_9 : BitVec 32 := 32#32
  let v18 : BitVec 1 := Scalar.cmpi .eq arg0 c32_i32_9
  let v19 : BitVec 32 := Scalar.extui v18
  let c0_i32_10 : BitVec 32 := 0#32
  let v20 : BitVec 1 := Scalar.cmpi .ne v19 c0_i32_10
  v20

def k0_off13 (i : grid0.Coords) : Fin 3 → Nat :=
  let arg1 : BitVec 32 := BitVec.ofNat 32 (i 1).val
  let v22 : Index := Scalar.indexCast arg1
  let c0_12 : Index := 0#32
  let c0_13 : Index := 0#32
  ![v22.toNat, 0, 0]
def k0_off14 (i : grid0.Coords) : Fin 3 → Nat :=
  let arg1 : BitVec 32 := BitVec.ofNat 32 (i 1).val
  let v32 : Index := Scalar.indexCast arg1
  let c0_17 : Index := 0#32
  let c128 : Index := 128#32
  ![v32.toNat, 0, 128]
def k0_off15 (i : grid0.Coords) : Fin 3 → Nat :=
  let arg1 : BitVec 32 := BitVec.ofNat 32 (i 1).val
  let v42 : Index := Scalar.indexCast arg1
  let c0_22 : Index := 0#32
  let c256 : Index := 256#32
  ![v42.toNat, 0, 256]
def k0_off16 (i : grid0.Coords) : Fin 3 → Nat :=
  let arg1 : BitVec 32 := BitVec.ofNat 32 (i 1).val
  let v52 : Index := Scalar.indexCast arg1
  let c0_27 : Index := 0#32
  let c384 : Index := 384#32
  ![v52.toNat, 0, 384]
def k0_off17 (i : grid0.Coords) : Fin 3 → Nat :=
  let arg1 : BitVec 32 := BitVec.ofNat 32 (i 1).val
  let v62 : Index := Scalar.indexCast arg1
  let c0_32 : Index := 0#32
  let c512 : Index := 512#32
  ![v62.toNat, 0, 512]
def k0_off18 (i : grid0.Coords) : Fin 3 → Nat :=
  let arg1 : BitVec 32 := BitVec.ofNat 32 (i 1).val
  let v72 : Index := Scalar.indexCast arg1
  let c0_37 : Index := 0#32
  let c640 : Index := 640#32
  ![v72.toNat, 0, 640]
def k0_cond1 (i : grid0.Coords) : BitVec 1 :=
  let arg0 : BitVec 32 := BitVec.ofNat 32 (i 0).val
  let c0_i32 : BitVec 32 := 0#32
  let v0 : BitVec 1 := Scalar.cmpi .sgt arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 1 := Scalar.cmpi .eq arg0 c32_i32
  let c26_i32 : BitVec 32 := 26#32
  let v1 : BitVec 32 := Scalar.select v0 c26_i32 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 1 := Scalar.cmpi .eq arg0 c32_i32
  let c26_i32 : BitVec 32 := 26#32
  let v1 : BitVec 32 := Scalar.select v0 c26_i32 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c32_i32 : BitVec 32 := 32#32
  let v1 : BitVec 1 := Scalar.cmpi .eq arg0 c32_i32
  let c26_i32 : BitVec 32 := 26#32
  let v2 : BitVec 32 := Scalar.select v1 c26_i32 arg1
  let c0_i32 : BitVec 32 := 0#32
  ![v0.toNat, v2.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S512x4480 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4480x768 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x768 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S8x2048x4480 : Shape := ⟨3, ![8, 2048, 4480]⟩
abbrev S8x2048x1 : Shape := ⟨3, ![8, 2048, 1]⟩
abbrev S4480x20736 : Shape := ⟨2, ![4480, 20736]⟩
abbrev S1x20736 : Shape := ⟨2, ![1, 20736]⟩
abbrev S8x2048x20736 : Shape := ⟨3, ![8, 2048, 20736]⟩
abbrev S16384x4480 : Shape := ⟨2, ![16384, 4480]⟩
abbrev S16384x1 : Shape := ⟨2, ![16384, 1]⟩
abbrev S16384x20736 : Shape := ⟨2, ![16384, 20736]⟩
abbrev S32x1x512 : Shape := ⟨3, ![32, 1, 512]⟩
abbrev S16384 : Shape := ⟨1, ![16384]⟩
abbrev S1x246 : Shape := ⟨2, ![1, 246]⟩
abbrev S16384x246 : Shape := ⟨2, ![16384, 246]⟩

abbrev nBuf : Space → Nat
  | .hbm => 10
  | .vmem => 7
  | .smem => 0
  | _ => 0

abbrev bufTy : (tb : Table) → Fin (tcTables nBuf tb) → BufTy
  | .hbm, ⟨0, _⟩ => ⟨S8x2048x4480, .fp8e4m3⟩
  | .hbm, ⟨1, _⟩ => ⟨S8x2048x1, .f32⟩
  | .hbm, ⟨2, _⟩ => ⟨S4480x20736, .fp8e4m3⟩
  | .hbm, ⟨3, _⟩ => ⟨S1x20736, .f32⟩
  | .hbm, ⟨4, _⟩ => ⟨S8x2048x20736, .bf16⟩
  | .hbm, ⟨5, _⟩ => ⟨S16384x4480, .fp8e4m3⟩
  | .hbm, ⟨6, _⟩ => ⟨S16384x1, .f32⟩
  | .hbm, ⟨7, _⟩ => ⟨S16384x20736, .bf16⟩
  | .hbm, ⟨8, _⟩ => ⟨S16384x20736, .fp8e4m3⟩
  | .hbm, ⟨9, _⟩ => ⟨S32x1x512, .f32⟩
  | .local _ .vmem, ⟨0, _⟩ => ⟨S16384x4480, .fp8e4m3⟩
  | .local _ .vmem, ⟨1, _⟩ => ⟨S16384x1, .f32⟩
  | .local _ .vmem, ⟨2, _⟩ => ⟨S4480x20736, .fp8e4m3⟩
  | .local _ .vmem, ⟨3, _⟩ => ⟨S1x20736, .f32⟩
  | .local _ .vmem, ⟨4, _⟩ => ⟨S16384x20736, .bf16⟩
  | .local _ .vmem, ⟨5, _⟩ => ⟨S16384x20736, .fp8e4m3⟩
  | .local _ .vmem, ⟨6, _⟩ => ⟨S32x1x512, .f32⟩
  | _, _ => ⟨S8x2048x4480, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16384x4480 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4480x20736 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x20736 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x20736 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x20736 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Fn.lean ====
/-
  What the kernel's body computes, as functions of the blocks it reads: the block of `y` (`yv`), the running maximum
  of `|y|` per row and lane (`mv`, `amaxNew`), the row scales and their inverses (`scaleTile`, `invTile`), and the
  quantised block (`quant`). Each printed payload is one of these, read at an index.
-/
module

public import proofs.«01_k».proof.Proof.Gen.KernelIdeal.Skeleton
public import Idealize.ShloMosaic.Lib.PointwiseCore
public import Idealize.ShloMosaic.Lib.ValueIdxCore

@[expose] public section

set_option maxRecDepth 16384

noncomputable section

namespace Cert.KernelIdeal.Fn

open Idealize.ShloMosaic Idealize.SL.Sem
open Cert.KernelIdeal Cert.KernelIdeal.Gen

variable {F : FTy → Type} [FloatOps F]

/-- The lane of a column. -/
abbrev lane (k : Fin 768) : Fin 128 := ⟨k.val % 128, Nat.mod_lt _ (by decide)⟩
/-- Column `l` of the 128-wide chunk `n`. -/
abbrev col (n : Fin 6) (l : Fin 128) : Fin 768 := ⟨128 * n.val + l.val, by omega⟩

theorem lane_col (n : Fin 6) (l : Fin 128) : lane (col n l) = l := Fin.ext (by simp only [lane, col]; omega)

/-- A tile of 128 lanes repeated over the 768 columns. -/
def laneB (X : Vec F S512x128 .f32) : FVec F S512x768 .f32 := fun k => X (ix2 (k 0) (lane (k 1)))
/-- A row of 768 columns repeated over the rows. -/
def rowB (w : Vec F S1x768 .f32) : FVec F S512x768 .f32 := fun k => w (ix2 (0 : Fin 1) (k 1))

/-- The block of `y`: the product `d` times the row scales, times the column scales, plus the residual. -/
def yv (d : FVec F S512x768 .f32) (X : Vec F S512x128 .f32) (w : Vec F S1x768 .f32) (e : Vec F S512x768 .bf16) : FVec F S512x768 .f32 :=
  addf (mulf (mulf d (laneB X)) (rowB w)) (extf .f32 e bitsLt_bf16_f32)

/-- The 128-wide chunk `n` of a block. -/
def chunk (y : FVec F S512x768 .f32) (n : Fin 6) : FVec F S512x128 .f32 := fun k => y (ix2 (k 0) (col n (k 1)))

/-- The largest `|y|` of a block by row and lane, over the six chunks. -/
def mv (y : FVec F S512x768 .f32) : FVec F S512x128 .f32 :=
  maximumf (maximumf (maximumf (maximumf (maximumf (absf (chunk y 0)) (absf (chunk y 1))) (absf (chunk y 2))) (absf (chunk y 3))) (absf (chunk y 4))) (absf (chunk y 5))

/-- The running maximum after column block `j`. -/
def amaxNew (j : ℕ) (A : Vec F S512x128 .f32) (y : FVec F S512x768 .f32) : FVec F S512x128 .f32 :=
  if j = 0 then mv y else maximumf (mv y) A

/-- The exponents of the row scales, from the running maximum. -/
def expTile (A : Vec F S512x128 .f32) : IVec S512x128 32 :=
  k0_pay21 (k0_pay18 (k0_pay13 A) (k0_pay14 A) (k0_pay15 A) (k0_pay16 A)) (k0_pay19 (k0_pay13 A) (k0_pay14 A) (k0_pay15 A) (k0_pay16 A)) k0_pay20
/-- The row scales, by row and lane. -/
def scaleTile (A : Vec F S512x128 .f32) : FVec F S512x128 .f32 :=
  k0_pay22 (k0_pay18 (k0_pay13 A) (k0_pay14 A) (k0_pay15 A) (k0_pay16 A)) (k0_pay19 (k0_pay13 A) (k0_pay14 A) (k0_pay15 A) (k0_pay16 A)) k0_pay20
/-- The inverse row scales, by row and lane. -/
def invTile (A : Vec F S512x128 .f32) : FVec F S512x128 .f32 :=
  k0_pay23 (k0_pay18 (k0_pay13 A) (k0_pay14 A) (k0_pay15 A) (k0_pay16 A)) (k0_pay19 (k0_pay13 A) (k0_pay14 A) (k0_pay15 A) (k0_pay16 A)) k0_pay20
/-- The row scales as the scale window holds them. -/
def ysv (A : Vec F S512x128 .f32) : FVec F S1x1x512 .f32 := fun k => scaleTile A (ix2 (k 2) (0 : Fin 128))
/-- The input row scales by row, the same in every lane. -/
def xsb (x : Vec F S1x1x512 .f32) : FVec F S512x128 .f32 := fun k => x (ix3 (0 : Fin 1) (0 : Fin 1) (k 0))

/-- A block of `y` quantised by the inverse row scales. -/
def quant (y : FVec F S512x768 .f32) (I : Vec F S512x128 .f32) : FVec F S512x768 .fp8e4m3 :=
  truncf .fp8e4m3 (minimumf (broadcast S512x768 (Scalar.ofBits .f32 0x43E00000#32)) (maximumf (broadcast S512x768 (Scalar.ofBits .f32 0xC3E00000#32)) (mulf y (laneB I)))) bitsLt_fp8e4m3_f32

/-- Column block `j` of the stored `y`. -/
def slab (j : Fin 27) (Y : Vec F S27x512x768 .f32) : FVec F S512x768 .f32 := fun k => Y (ix3 j (k 0) (k 1))
/-- The stored `y` with column block `j` replaced. -/
def put (j : Fin 27) (Y : Vec F S27x512x768 .f32) (y : FVec F S512x768 .f32) : Vec F S27x512x768 .f32 := fun k =>
  if (k 0).val = j.val then y (ix2 (k 1) (k 2)) else Y k

theorem put_self (j : Fin 27) (Y : Vec F S27x512x768 .f32) (y : FVec F S512x768 .f32) (a : Fin 27) (r : Fin 512) (l : Fin 768) (h : a.val = j.val) : put j Y y (ix3 a r l) = y (ix2 r l) := if_pos h
theorem put_ne (j : Fin 27) (Y : Vec F S27x512x768 .f32) (y : FVec F S512x768 .f32) (a : Fin 27) (r : Fin 512) (l : Fin 768) (h : ¬ a.val = j.val) : put j Y y (ix3 a r l) = Y (ix3 a r l) := if_neg h

/-! ## The payloads -/

/-- Chunk 0 of the block of `y`. -/
theorem yc0 (x0 : Vec F S512x4480 .fp8e4m3) (x2 : Vec F S4480x768 .fp8e4m3) (X : Vec F S512x128 .f32) (w : Vec F S1x768 .f32) (e : Vec F S512x768 .bf16)
    (w' : Vec F S1x128 .f32) (e' : Vec F S512x128 .bf16) (hw : ∀ l, w' (ix2 0 l) = w (ix2 0 (col 0 l))) (he : ∀ r l, e' (ix2 r l) = e (ix2 r (col 0 l))) :
    k0_pay52 (k0_pay51 x0 x2 X) w' e' = chunk (yv (k0_pay50 x0 x2) X w e) 0 := by
  funext k
  obtain ⟨r, l, rfl⟩ : ∃ (r : Fin 512) (l : Fin 128), k = ix2 r l := ⟨k 0, k 1, eq_ix2 k⟩
  pointwise [k0_pay52, k0_pay51, chunk, yv, laneB, rowB]
  rw [hw, he, lane_col]
  rw [show (col 0 l) = ⟨l.val, by omega⟩ from Fin.ext (by simp [col])]

/-- Chunk 1 of the block of `y`. -/
theorem yc1 (x0 : Vec F S512x4480 .fp8e4m3) (x2 : Vec F S4480x768 .fp8e4m3) (X : Vec F S512x128 .f32) (w : Vec F S1x768 .f32) (e : Vec F S512x768 .bf16)
    (w' : Vec F S1x128 .f32) (e' : Vec F S512x128 .bf16) (hw : ∀ l, w' (ix2 0 l) = w (ix2 0 (col 1 l))) (he : ∀ r l, e' (ix2 r l) = e (ix2 r (col 1 l))) :
    k0_pay54 (k0_pay50 x0 x2) X w' e' = chunk (yv (k0_pay50 x0 x2) X w e) 1 := by
  funext k
  obtain ⟨r, l, rfl⟩ : ∃ (r : Fin 512) (l : Fin 128), k = ix2 r l := ⟨k 0, k 1, eq_ix2 k⟩
  pointwise [k0_pay54, chunk, yv, laneB, rowB]
  rw [hw, he, lane_col]
  rfl

/-- Chunk 2 of the block of `y`. -/
theorem yc2 (x0 : Vec F S512x4480 .fp8e4m3) (x2 : Vec F S4480x768 .fp8e4m3) (X : Vec F S512x128 .f32) (w : Vec F S1x768 .f32) (e : Vec F S512x768 .bf16)
    (w' : Vec F S1x128 .f32) (e' : Vec F S512x128 .bf16) (hw : ∀ l, w' (ix2 0 l) = w (ix2 0 (col 2 l))) (he : ∀ r l, e' (ix2 r l) = e (ix2 r (col 2 l))) :
    k0_pay57 (k0_pay50 x0 x2) X w' e' = chunk (yv (k0_pay50 x0 x2) X w e) 2 := by
  funext k
  obtain ⟨r, l, rfl⟩ : ∃ (r : Fin 512) (l : Fin 128), k = ix2 r l := ⟨k 0, k 1, eq_ix2 k⟩
  pointwise [k0_pay57, chunk, yv, laneB, rowB]
  rw [hw, he, lane_col]
  rfl

/-- Chunk 3 of the block of `y`. -/
theorem yc3 (x0 : Vec F S512x4480 .fp8e4m3) (x2 : Vec F S4480x768 .fp8e4m3) (X : Vec F S512x128 .f32) (w : Vec F S1x768 .f32) (e : Vec F S512x768 .bf16)
    (w' : Vec F S1x128 .f32) (e' : Vec F S512x128 .bf16) (hw : ∀ l, w' (ix2 0 l) = w (ix2 0 (col 3 l))) (he : ∀ r l, e' (ix2 r l) = e (ix2 r (col 3 l))) :
    k0_pay59 (k0_pay50 x0 x2) X w' e' = chunk (yv (k0_pay50 x0 x2) X w e) 3 := by
  funext k
  obtain ⟨r, l, rfl⟩ : ∃ (r : Fin 512) (l : Fin 128), k = ix2 r l := ⟨k 0, k 1, eq_ix2 k⟩
  pointwise [k0_pay59, chunk, yv, laneB, rowB]
  rw [hw, he, lane_col]
  rfl

/-- Chunk 4 of the block of `y`. -/
theorem yc4 (x0 : Vec F S512x4480 .fp8e4m3) (x2 : Vec F S4480x768 .fp8e4m3) (X : Vec F S512x128 .f32) (w : Vec F S1x768 .f32) (e : Vec F S512x768 .bf16)
    (w' : Vec F S1x128 .f32) (e' : Vec F S512x128 .bf16) (hw : ∀ l, w' (ix2 0 l) = w (ix2 0 (col 4 l))) (he : ∀ r l, e' (ix2 r l) = e (ix2 r (col 4 l))) :
    k0_pay61 (k0_pay50 x0 x2) X w' e' = chunk (yv (k0_pay50 x0 x2) X w e) 4 := by
  funext k
  obtain ⟨r, l, rfl⟩ : ∃ (r : Fin 512) (l : Fin 128), k = ix2 r l := ⟨k 0, k 1, eq_ix2 k⟩
  pointwise [k0_pay61, chunk, yv, laneB, rowB]
  rw [hw, he, lane_col]
  rfl

/-- Chunk 5 of the block of `y`. -/
theorem yc5 (x0 : Vec F S512x4480 .fp8e4m3) (x2 : Vec F S4480x768 .fp8e4m3) (X : Vec F S512x128 .f32) (w : Vec F S1x768 .f32) (e : Vec F S512x768 .bf16)
    (w' : Vec F S1x128 .f32) (e' : Vec F S512x128 .bf16) (hw : ∀ l, w' (ix2 0 l) = w (ix2 0 (col 5 l))) (he : ∀ r l, e' (ix2 r l) = e (ix2 r (col 5 l))) :
    k0_pay64 (k0_pay50 x0 x2) X w' e' = chunk (yv (k0_pay50 x0 x2) X w e) 5 := by
  funext k
  obtain ⟨r, l, rfl⟩ : ∃ (r : Fin 512) (l : Fin 128), k = ix2 r l := ⟨k 0, k 1, eq_ix2 k⟩
  pointwise [k0_pay64, chunk, yv, laneB, rowB]
  rw [hw, he, lane_col]
  rfl

/-- A stored chunk of `y` has a leading axis of one. -/
theorem pay8_apply (c : FVec F S512x128 .f32) (k : S1x512x128.Idx) : k0_pay8 c k = c (ix2 (k 1) (k 2)) := by
  obtain ⟨z, r, l, rfl⟩ : ∃ (z : Fin 1) (r : Fin 512) (l : Fin 128), k = ix3 z r l := ⟨k 0, k 1, k 2, eq_ix3 k⟩
  pointwise [k0_pay8]

/-- The new running maximum, from the chunks. -/
theorem pay9_eq (i : grid0.Coords) (x0 : Vec F S512x4480 .fp8e4m3) (x2 : Vec F S4480x768 .fp8e4m3) (X : Vec F S512x128 .f32) (y : FVec F S512x768 .f32) (A : Vec F S512x128 .f32)
    (w0 w1 w2 w3 w4 w5 : Vec F S1x128 .f32) (e0 e1 e2 e3 e4 e5 : Vec F S512x128 .bf16)
    (h0 : k0_pay52 (k0_pay51 x0 x2 X) w0 e0 = chunk y 0) (h1 : k0_pay54 (k0_pay50 x0 x2) X w1 e1 = chunk y 1) (h2 : k0_pay57 (k0_pay50 x0 x2) X w2 e2 = chunk y 2)
    (h3 : k0_pay59 (k0_pay50 x0 x2) X w3 e3 = chunk y 3) (h4 : k0_pay61 (k0_pay50 x0 x2) X w4 e4 = chunk y 4) (h5 : k0_pay64 (k0_pay50 x0 x2) X w5 e5 = chunk y 5) :
    k0_pay9 i (k0_pay63 (k0_pay50 x0 x2) X (k0_pay56 (k0_pay50 x0 x2) X (k0_pay51 x0 x2 X) w0 e0 w1 e1) (k0_pay57 (k0_pay50 x0 x2) X w2 e2) w3 e3 w4 e4)
      (k0_pay64 (k0_pay50 x0 x2) X w5 e5) A = amaxNew (i 1).val A y := by
  unfold k0_pay9 k0_pay63 k0_pay56
  simp only [h0, h1, h2, h3, h4, h5, shapeCast_self]
  unfold amaxNew mv
  by_cases hj : (i 1).val = 0
  · rw [if_pos hj, hj]; rfl
  · rw [if_neg hj]
    have hb : Scalar.cmpi .eq (BitVec.ofNat 32 (i 1).val) 0#32 = 0#1 := by
      have hlt : (i 1).val < 27 := (i 1).isLt
      have : BitVec.ofNat 32 (i 1).val ≠ 0#32 := by
        intro h; apply hj; have := congrArg BitVec.toNat h
        simp only [BitVec.toNat_ofNat] at this; omega
      show BitVec.ofBool (BitVec.ofNat 32 (i 1).val == 0#32) = 0#1
      rw [beq_eq_false_iff_ne.mpr this]; rfl
    rw [hb]; rfl

/-- A quantised chunk. -/
theorem qc (n : Fin 6) (Y : FVec F S512x768 .f32) (I : Vec F S512x128 .f32) (y' : Vec F S1x512x128 .f32) (hy : ∀ r l, y' (ix3 0 r l) = Y (ix2 r (col n l))) (k : S512x128.Idx) :
    k0_pay43 I y' k = quant Y I (ix2 (k 0) (col n (k 1))) := by
  obtain ⟨r, l, rfl⟩ : ∃ (r : Fin 512) (l : Fin 128), k = ix2 r l := ⟨k 0, k 1, eq_ix2 k⟩
  pointwise [k0_pay43, quant, laneB]
  rw [hy, lane_col]

/-- A row of a 128-row chunk. -/
abbrev rowc (n : Fin 4) (l : Fin 128) : Fin 512 := ⟨128 * n.val + l.val, by omega⟩

/-- A chunk of the input row scales, spread over the lanes. -/
theorem xsc (n : Fin 4) (x : Vec F S1x1x512 .f32) (x' : Vec F S1x1x128 .f32) (hx : ∀ l : Fin 128, x' (ix3 0 0 l) = x (ix3 0 0 (rowc n l))) (k : S128x128.Idx) :
    k0_pay1 x' k = xsb x (ix2 (rowc n (k 0)) (k 1)) := by
  obtain ⟨r, l, rfl⟩ : ∃ (r l : Fin 128), k = ix2 r l := ⟨k 0, k 1, eq_ix2 k⟩
  pointwise [k0_pay1, xsb]
  rw [hx]

/-- Chunk 0 of the row scales in the scale window. -/
theorem ysc0 (a : IVec S512x128 1) (b c : IVec S512x128 32) (k : S1x1x128.Idx) :
    k0_pay24 a b c k = (k0_pay22 a b c : FVec F S512x128 .f32) (ix2 (rowc 0 (k 2)) 0) := by
  obtain ⟨z, z', l, rfl⟩ : ∃ (z z' : Fin 1) (l : Fin 128), k = ix3 z z' l := ⟨k 0, k 1, k 2, eq_ix3 k⟩
  unfold k0_pay24
  generalize (k0_pay22 a b c : FVec F S512x128 .f32) = s
  pointwise
  exact congrArg s (congrArg (fun r => ix2 r (0 : Fin 128)) (Fin.ext (by simp [rowc])))

/-- Chunk 1 of the row scales in the scale window. -/
theorem ysc1 (a : IVec S512x128 1) (b c : IVec S512x128 32) (k : S1x1x128.Idx) :
    k0_pay25 a b c k = (k0_pay22 a b c : FVec F S512x128 .f32) (ix2 (rowc 1 (k 2)) 0) := by
  obtain ⟨z, z', l, rfl⟩ : ∃ (z z' : Fin 1) (l : Fin 128), k = ix3 z z' l := ⟨k 0, k 1, k 2, eq_ix3 k⟩
  unfold k0_pay25
  generalize (k0_pay22 a b c : FVec F S512x128 .f32) = s
  pointwise
  exact congrArg s (congrArg (fun r => ix2 r (0 : Fin 128)) (Fin.ext (by simp [rowc])))

/-- Chunk 2 of the row scales in the scale window. -/
theorem ysc2 (a : IVec S512x128 1) (b c : IVec S512x128 32) (k : S1x1x128.Idx) :
    k0_pay26 a b c k = (k0_pay22 a b c : FVec F S512x128 .f32) (ix2 (rowc 2 (k 2)) 0) := by
  obtain ⟨z, z', l, rfl⟩ : ∃ (z z' : Fin 1) (l : Fin 128), k = ix3 z z' l := ⟨k 0, k 1, k 2, eq_ix3 k⟩
  unfold k0_pay26
  generalize (k0_pay22 a b c : FVec F S512x128 .f32) = s
  pointwise
  exact congrArg s (congrArg (fun r => ix2 r (0 : Fin 128)) (Fin.ext (by simp [rowc])))

/-- Chunk 3 of the row scales in the scale window. -/
theorem ysc3 (a : IVec S512x128 1) (b c : IVec S512x128 32) (k : S1x1x128.Idx) :
    k0_pay27 a b c k = (k0_pay22 a b c : FVec F S512x128 .f32) (ix2 (rowc 3 (k 2)) 0) := by
  obtain ⟨z, z', l, rfl⟩ : ∃ (z z' : Fin 1) (l : Fin 128), k = ix3 z z' l := ⟨k 0, k 1, k 2, eq_ix3 k⟩
  unfold k0_pay27
  generalize (k0_pay22 a b c : FVec F S512x128 .f32) = s
  pointwise
  exact congrArg s (congrArg (fun r => ix2 r (0 : Fin 128)) (Fin.ext (by simp [rowc])))

end Cert.KernelIdeal.Fn
-- ==== Proof.Mem.lean ====
/-
  The body's loads and stores read back: a load of one chunk of a whole buffer, and a buffer after the stores of all
  its chunks.
-/
module

public import proofs.«01_k».proof.Proof.Fn
public import Idealize.ShloMosaic.Lib.Writes
public import Idealize.ShloMosaic.Lib.WholeRead
public import Idealize.ShloMosaic.Lib.VecWindow
public import Idealize.ShloMosaic.Lib.Pipeline.ValueKit.Tiles

@[expose] public section

set_option maxRecDepth 16384

noncomputable section

namespace Cert.KernelIdeal.Fn

open Idealize.ShloMosaic Idealize.SL.Sem
open Cert.KernelIdeal Cert.KernelIdeal.Gen

variable {F : FTy → Type} [FloatOps F] {κ : Kind} {sp : Space}

/-! ## Loads -/

/-- The element of a rank-two rectangle, by its coordinates. -/
theorem emb2 {n0 n1 o0 o1 : ℕ} {size : Fin 2 → ℕ} (inb) (x) (r : Fin n0) (l : Fin n1) (hr : r.val = o0 + (x 0).val) (hl : l.val = o1 + (x 1).val) :
    ix2 r l = (Rect.unit (s := ⟨2, ![n0, n1]⟩) ![o0, o1] size inb).emb x := by
  funext a; apply Fin.ext; refine .trans ?_ (Rect.idx_unit_val _ _ inb x a).symm
  fin_cases a
  · exact hr
  · exact hl

/-- The element of a rank-three rectangle, by its coordinates. -/
theorem emb3 {n0 n1 n2 o0 o1 o2 : ℕ} {size : Fin 3 → ℕ} (inb) (x) (q : Fin n0) (r : Fin n1) (l : Fin n2) (hq : q.val = o0 + (x 0).val) (hr : r.val = o1 + (x 1).val) (hl : l.val = o2 + (x 2).val) :
    ix3 q r l = (Rect.unit (s := ⟨3, ![n0, n1, n2]⟩) ![o0, o1, o2] size inb).emb x := by
  funext a; apply Fin.ext; refine .trans ?_ (Rect.idx_unit_val _ _ inb x a).symm
  fin_cases a
  · exact hq
  · exact hr
  · exact hl

/-- A load of the whole of a rank-two buffer. -/
theorem ld2 {n0 n1 : ℕ} {e : EltTy} {M : Memref sig κ sp ⟨2, ![n0, n1]⟩ e} (h : M.IsWhole) (x : Vec F ⟨2, ![n0, n1]⟩ e) (inb) :
    View.readAt (Elt F) M.view (Rect.unit ![0, 0] ![n0, n1] inb).toLoadRect (h.unread x) = x := by
  funext k
  rw [h.readAt_unread]
  exact congrArg x ((emb2 inb k (k 0) (k 1) (Nat.zero_add _).symm (Nat.zero_add _).symm).symm.trans (eq_ix2 k).symm)

/-- A load of columns `o …` of a rank-two buffer. -/
theorem ld2c {n0 n1 m : ℕ} {e : EltTy} {M : Memref sig κ sp ⟨2, ![n0, n1]⟩ e} (h : M.IsWhole) (x : Vec F ⟨2, ![n0, n1]⟩ e) (o : ℕ) (inb)
    (r : Fin n0) (l : Fin m) (l' : Fin n1) (hl : l'.val = o + l.val) :
    View.readAt (Elt F) M.view (Rect.unit (s := ⟨2, ![n0, n1]⟩) ![0, o] ![n0, m] inb).toLoadRect (h.unread x) (ix2 r l) = x (ix2 r l') := by
  rw [h.readAt_unread]
  exact congrArg x (emb2 inb (ix2 r l) r l' (Nat.zero_add _).symm hl).symm

/-- A load of one chunk of one column block of a rank-three buffer. -/
theorem ld3c {n0 n1 n2 m : ℕ} {e : EltTy} {M : Memref sig κ sp ⟨3, ![n0, n1, n2]⟩ e} (h : M.IsWhole) (x : Vec F ⟨3, ![n0, n1, n2]⟩ e)
    (off : Fin 3 → ℕ) (inb) (j o : ℕ) (ho : off = ![j, 0, o]) (z : Fin 1) (r : Fin n1) (l : Fin m) (j' : Fin n0) (l' : Fin n2) (hj : j'.val = j) (hl : l'.val = o + l.val) :
    View.readAt (Elt F) M.view (Rect.unit (s := ⟨3, ![n0, n1, n2]⟩) off ![1, n1, m] inb).toLoadRect (h.unread x) (ix3 z r l) = x (ix3 j' r l') := by
  subst ho
  rw [h.readAt_unread]
  exact congrArg x (emb3 inb (ix3 z r l) j' r l' (by show j'.val = j + z.val; omega) (Nat.zero_add _).symm hl).symm

/-! ## Stores -/

/-- The codes window after the stores of its six chunks. -/
theorem codes_read (v : View sig κ sp S512x768 .fp8e4m3) (f : v.ty.Contents (Elt F)) (G : Vec F S512x768 .fp8e4m3) (p0 p1 p2 p3 p4 p5 : Vec F S512x128 .fp8e4m3) (i0 i1 i2 i3 i4 i5)
    (h0 : ∀ k : S512x128.Idx, p0 k = G (ix2 (k 0) (col 0 (k 1))))
    (h1 : ∀ k : S512x128.Idx, p1 k = G (ix2 (k 0) (col 1 (k 1))))
    (h2 : ∀ k : S512x128.Idx, p2 k = G (ix2 (k 0) (col 2 (k 1))))
    (h3 : ∀ k : S512x128.Idx, p3 k = G (ix2 (k 0) (col 3 (k 1))))
    (h4 : ∀ k : S512x128.Idx, p4 k = G (ix2 (k 0) (col 4 (k 1))))
    (h5 : ∀ k : S512x128.Idx, p5 k = G (ix2 (k 0) (col 5 (k 1))))
    : v.read (Elt F) (v.writes (Elt F) f [⟨Rect.unit ![0, 640] S512x128.size i5, p5⟩, ⟨Rect.unit ![0, 512] S512x128.size i4, p4⟩, ⟨Rect.unit ![0, 384] S512x128.size i3, p3⟩, ⟨Rect.unit ![0, 256] S512x128.size i2, p2⟩, ⟨Rect.unit ![0, 128] S512x128.size i1, p1⟩, ⟨Rect.unit ![0, 0] S512x128.size i0, p0⟩]) = G := by
  funext y
  refine View.read_writes_apply_of_pieces v f G _ ?_ y (View.cover_of_tiled (s := S512x768) _ ![512, 128] (by rfl) y)
  intro p hp x
  simp only [List.mem_cons, List.not_mem_nil, or_false] at hp
  rcases hp with rfl | rfl | rfl | rfl | rfl | rfl
  · exact (h5 x).trans (congrArg G (emb2 i5 x _ _ (Nat.zero_add _).symm rfl))
  · exact (h4 x).trans (congrArg G (emb2 i4 x _ _ (Nat.zero_add _).symm rfl))
  · exact (h3 x).trans (congrArg G (emb2 i3 x _ _ (Nat.zero_add _).symm rfl))
  · exact (h2 x).trans (congrArg G (emb2 i2 x _ _ (Nat.zero_add _).symm rfl))
  · exact (h1 x).trans (congrArg G (emb2 i1 x _ _ (Nat.zero_add _).symm rfl))
  · exact (h0 x).trans (congrArg G (emb2 i0 x _ _ (Nat.zero_add _).symm rfl))

/-- The row-scale tile after the stores of its four row chunks. -/
theorem xsb_read (v : View sig κ sp S512x128 .f32) (f : v.ty.Contents (Elt F)) (G : Vec F S512x128 .f32) (p0 p1 p2 p3 : Vec F S128x128 .f32) (i0 i1 i2 i3)
    (h0 : ∀ k : S128x128.Idx, p0 k = G (ix2 (rowc 0 (k 0)) (k 1)))
    (h1 : ∀ k : S128x128.Idx, p1 k = G (ix2 (rowc 1 (k 0)) (k 1)))
    (h2 : ∀ k : S128x128.Idx, p2 k = G (ix2 (rowc 2 (k 0)) (k 1)))
    (h3 : ∀ k : S128x128.Idx, p3 k = G (ix2 (rowc 3 (k 0)) (k 1)))
    : v.read (Elt F) (v.writes (Elt F) f [⟨Rect.unit ![384, 0] S128x128.size i3, p3⟩, ⟨Rect.unit ![256, 0] S128x128.size i2, p2⟩, ⟨Rect.unit ![128, 0] S128x128.size i1, p1⟩, ⟨Rect.unit ![0, 0] S128x128.size i0, p0⟩]) = G := by
  funext y
  refine View.read_writes_apply_of_pieces v f G _ ?_ y (View.cover_of_tiled (s := S512x128) _ ![128, 128] (by rfl) y)
  intro p hp x
  simp only [List.mem_cons, List.not_mem_nil, or_false] at hp
  rcases hp with rfl | rfl | rfl | rfl
  · exact (h3 x).trans (congrArg G (emb2 i3 x _ _ rfl (Nat.zero_add _).symm))
  · exact (h2 x).trans (congrArg G (emb2 i2 x _ _ rfl (Nat.zero_add _).symm))
  · exact (h1 x).trans (congrArg G (emb2 i1 x _ _ rfl (Nat.zero_add _).symm))
  · exact (h0 x).trans (congrArg G (emb2 i0 x _ _ rfl (Nat.zero_add _).symm))

/-- The scale window after the stores of its four chunks. -/
theorem ys_read (v : View sig κ sp S1x1x512 .f32) (f : v.ty.Contents (Elt F)) (G : Vec F S1x1x512 .f32) (p0 p1 p2 p3 : Vec F S1x1x128 .f32) (i0 i1 i2 i3)
    (h0 : ∀ k : S1x1x128.Idx, p0 k = G (ix3 0 0 (rowc 0 (k 2))))
    (h1 : ∀ k : S1x1x128.Idx, p1 k = G (ix3 0 0 (rowc 1 (k 2))))
    (h2 : ∀ k : S1x1x128.Idx, p2 k = G (ix3 0 0 (rowc 2 (k 2))))
    (h3 : ∀ k : S1x1x128.Idx, p3 k = G (ix3 0 0 (rowc 3 (k 2))))
    : v.read (Elt F) (v.writes (Elt F) f [⟨Rect.unit ![0, 0, 384] S1x1x128.size i3, p3⟩, ⟨Rect.unit ![0, 0, 256] S1x1x128.size i2, p2⟩, ⟨Rect.unit ![0, 0, 128] S1x1x128.size i1, p1⟩, ⟨Rect.unit ![0, 0, 0] S1x1x128.size i0, p0⟩]) = G := by
  funext y
  refine View.read_writes_apply_of_pieces v f G _ ?_ y (View.cover_of_tiled (s := S1x1x512) _ ![1, 1, 128] (by rfl) y)
  intro p hp x
  simp only [List.mem_cons, List.not_mem_nil, or_false] at hp
  rcases hp with rfl | rfl | rfl | rfl
  · exact (h3 x).trans (congrArg G (emb3 i3 x _ _ _ (by have : (x 0).val < 1 := (x 0).isLt; show 0 = 0 + (x 0).val; omega) (by have : (x 1).val < 1 := (x 1).isLt; show 0 = 0 + (x 1).val; omega) rfl))
  · exact (h2 x).trans (congrArg G (emb3 i2 x _ _ _ (by have : (x 0).val < 1 := (x 0).isLt; show 0 = 0 + (x 0).val; omega) (by have : (x 1).val < 1 := (x 1).isLt; show 0 = 0 + (x 1).val; omega) rfl))
  · exact (h1 x).trans (congrArg G (emb3 i1 x _ _ _ (by have : (x 0).val < 1 := (x 0).isLt; show 0 = 0 + (x 0).val; omega) (by have : (x 1).val < 1 := (x 1).isLt; show 0 = 0 + (x 1).val; omega) rfl))
  · exact (h0 x).trans (congrArg G (emb3 i0 x _ _ _ (by have : (x 0).val < 1 := (x 0).isLt; show 0 = 0 + (x 0).val; omega) (by have : (x 1).val < 1 := (x 1).isLt; show 0 = 0 + (x 1).val; omega) rfl))

/-- The stored `y` after the stores of the six chunks of one column block. -/
theorem y_read {M : Memref sig κ sp S27x512x768 .f32} (h : M.IsWhole) (Y : Vec F S27x512x768 .f32) (j : Fin 27) (y : FVec F S512x768 .f32)
    (o0 o1 o2 o3 o4 o5 : Fin 3 → ℕ) (p0 p1 p2 p3 p4 p5 : Vec F S1x512x128 .f32) (i0 i1 i2 i3 i4 i5)
    (e0 : o0 = ![j.val, 0, 0]) (e1 : o1 = ![j.val, 0, 128]) (e2 : o2 = ![j.val, 0, 256]) (e3 : o3 = ![j.val, 0, 384]) (e4 : o4 = ![j.val, 0, 512]) (e5 : o5 = ![j.val, 0, 640])
    (h0 : ∀ k : S1x512x128.Idx, p0 k = y (ix2 (k 1) (col 0 (k 2))))
    (h1 : ∀ k : S1x512x128.Idx, p1 k = y (ix2 (k 1) (col 1 (k 2))))
    (h2 : ∀ k : S1x512x128.Idx, p2 k = y (ix2 (k 1) (col 2 (k 2))))
    (h3 : ∀ k : S1x512x128.Idx, p3 k = y (ix2 (k 1) (col 3 (k 2))))
    (h4 : ∀ k : S1x512x128.Idx, p4 k = y (ix2 (k 1) (col 4 (k 2))))
    (h5 : ∀ k : S1x512x128.Idx, p5 k = y (ix2 (k 1) (col 5 (k 2))))
    : M.view.read (Elt F) (M.view.writes (Elt F) (h.unread Y) [⟨Rect.unit (s := S27x512x768) o5 S1x512x128.size i5, p5⟩, ⟨Rect.unit (s := S27x512x768) o4 S1x512x128.size i4, p4⟩, ⟨Rect.unit (s := S27x512x768) o3 S1x512x128.size i3, p3⟩, ⟨Rect.unit (s := S27x512x768) o2 S1x512x128.size i2, p2⟩, ⟨Rect.unit (s := S27x512x768) o1 S1x512x128.size i1, p1⟩, ⟨Rect.unit (s := S27x512x768) o0 S1x512x128.size i0, p0⟩]) = put j Y y := by
  subst e0 e1 e2 e3 e4 e5
  funext k
  obtain ⟨a, r, l, rfl⟩ : ∃ (a : Fin 27) (r : Fin 512) (l : Fin 768), k = ix3 a r l := ⟨k 0, k 1, k 2, eq_ix3 k⟩
  by_cases ha : a.val = j.val
  · refine (View.read_writes_apply_of_pieces M.view _ (put j Y y) _ ?_ _ ?_)
    · intro p hp x
      simp only [List.mem_cons, List.not_mem_nil, or_false] at hp
      rcases hp with rfl | rfl | rfl | rfl | rfl | rfl
      · have hz : (x 0).val = 0 := by have : (x 0).val < 1 := (x 0).isLt; omega
        refine (h5 x).trans ((put_self j Y y _ _ _ rfl).symm.trans (congrArg (put j Y y) (emb3 i5 x j _ _ ?_ (Nat.zero_add _).symm rfl)))
        show j.val = j.val + (x 0).val
        omega
      · have hz : (x 0).val = 0 := by have : (x 0).val < 1 := (x 0).isLt; omega
        refine (h4 x).trans ((put_self j Y y _ _ _ rfl).symm.trans (congrArg (put j Y y) (emb3 i4 x j _ _ ?_ (Nat.zero_add _).symm rfl)))
        show j.val = j.val + (x 0).val
        omega
      · have hz : (x 0).val = 0 := by have : (x 0).val < 1 := (x 0).isLt; omega
        refine (h3 x).trans ((put_self j Y y _ _ _ rfl).symm.trans (congrArg (put j Y y) (emb3 i3 x j _ _ ?_ (Nat.zero_add _).symm rfl)))
        show j.val = j.val + (x 0).val
        omega
      · have hz : (x 0).val = 0 := by have : (x 0).val < 1 := (x 0).isLt; omega
        refine (h2 x).trans ((put_self j Y y _ _ _ rfl).symm.trans (congrArg (put j Y y) (emb3 i2 x j _ _ ?_ (Nat.zero_add _).symm rfl)))
        show j.val = j.val + (x 0).val
        omega
      · have hz : (x 0).val = 0 := by have : (x 0).val < 1 := (x 0).isLt; omega
        refine (h1 x).trans ((put_self j Y y _ _ _ rfl).symm.trans (congrArg (put j Y y) (emb3 i1 x j _ _ ?_ (Nat.zero_add _).symm rfl)))
        show j.val = j.val + (x 0).val
        omega
      · have hz : (x 0).val = 0 := by have : (x 0).val < 1 := (x 0).isLt; omega
        refine (h0 x).trans ((put_self j Y y _ _ _ rfl).symm.trans (congrArg (put j Y y) (emb3 i0 x j _ _ ?_ (Nat.zero_add _).symm rfl)))
        show j.val = j.val + (x 0).val
        omega
    · obtain ⟨n, hn⟩ : ∃ n : Fin 6, 128 * n.val ≤ l.val ∧ l.val < 128 * n.val + 128 := ⟨⟨l.val / 128, by omega⟩, by simp only; omega, by simp only; omega⟩
      have hm : ∀ (o : ℕ) (inb), o ≤ l.val → l.val < o + 128 → ix3 a r l ∈ (Rect.unit (s := S27x512x768) ![j.val, 0, o] S1x512x128.size inb).set := by
        intro o inb h1 h2
        rw [Rect.mem_set_unit]
        intro q
        fin_cases q
        · show j.val ≤ a.val ∧ a.val < j.val + 1; omega
        · show 0 ≤ r.val ∧ r.val < 0 + 512; omega
        · exact ⟨h1, h2⟩
      fin_cases n
      · exact ⟨_, (List.mem_cons_of_mem _ (List.mem_cons_of_mem _ (List.mem_cons_of_mem _ (List.mem_cons_of_mem _ (List.mem_cons_of_mem _ (List.mem_cons_self)))))), hm 0 i0 hn.1 hn.2⟩
      · exact ⟨_, (List.mem_cons_of_mem _ (List.mem_cons_of_mem _ (List.mem_cons_of_mem _ (List.mem_cons_of_mem _ (List.mem_cons_self))))), hm 128 i1 hn.1 hn.2⟩
      · exact ⟨_, (List.mem_cons_of_mem _ (List.mem_cons_of_mem _ (List.mem_cons_of_mem _ (List.mem_cons_self)))), hm 256 i2 hn.1 hn.2⟩
      · exact ⟨_, (List.mem_cons_of_mem _ (List.mem_cons_of_mem _ (List.mem_cons_self))), hm 384 i3 hn.1 hn.2⟩
      · exact ⟨_, (List.mem_cons_of_mem _ (List.mem_cons_self)), hm 512 i4 hn.1 hn.2⟩
      · exact ⟨_, (List.mem_cons_self), hm 640 i5 hn.1 hn.2⟩
  · rw [View.read_writes_apply_of_forall_not_mem M.view _ _ _ (by
      intro p hp hm
      simp only [List.mem_cons, List.not_mem_nil, or_false] at hp
      have hx : ∀ (o : ℕ) (inb), ¬ ix3 a r l ∈ (Rect.unit (s := S27x512x768) ![j.val, 0, o] S1x512x128.size inb).set := by
        intro o inb hm
        rw [Rect.mem_set_unit] at hm
        have : j.val ≤ a.val ∧ a.val < j.val + 1 := hm 0
        omega
      rcases hp with rfl | rfl | rfl | rfl | rfl | rfl
      · exact hx _ i5 hm
      · exact hx _ i4 hm
      · exact hx _ i3 hm
      · exact hx _ i2 hm
      · exact hx _ i1 hm
      · exact hx _ i0 hm
      ), h.read_unread, put_ne j Y y _ _ _ ha]

/-! ## The payloads at the loads -/

/-- A chunk of the codes, from the loaded chunk of `y`. -/
theorem qcr (n : Fin 6) {M : Memref sig κ sp S27x512x768 .f32} (h : M.IsWhole) (Y : Vec F S27x512x768 .f32) (j : Fin 27) (I I' : Vec F S512x128 .f32) (hI : I' = I)
    (off : Fin 3 → ℕ) (inb) (ho : off = ![j.val, 0, 128 * n.val]) (k : S512x128.Idx) :
    k0_pay43 I' (View.readAt (Elt F) M.view (Rect.unit (s := S27x512x768) off S1x512x128.size inb).toLoadRect (h.unread Y)) k = quant (slab j Y) I (ix2 (k 0) (col n (k 1))) := by
  subst hI
  exact qc n _ _ _ (fun r l => ld3c h Y off inb _ _ ho 0 r l j (col n l) rfl rfl) k

/-- A stored chunk of `y`. -/
theorem ypr (n : Fin 6) (y : FVec F S512x768 .f32) (c : FVec F S512x128 .f32) (h : c = chunk y n) (k : S1x512x128.Idx) :
    k0_pay8 c k = y (ix2 (k 1) (col n (k 2))) := by
  rw [pay8_apply, h]; rfl

section Loads
variable {M2 : Memref sig κ sp S512x4480 .fp8e4m3} (h2 : M2.IsWhole) {M4 : Memref sig κ sp S4480x768 .fp8e4m3} (h4 : M4.IsWhole) {M5 : Memref sig κ sp S1x768 .f32} (h5 : M5.IsWhole) {M6 : Memref sig κ sp S512x768 .bf16} (h6 : M6.IsWhole)
  (x0 : Vec F S512x4480 .fp8e4m3) (x2 : Vec F S4480x768 .fp8e4m3) (x3 : Vec F S1x768 .f32) (x4 : Vec F S512x768 .bf16)

/-- The left operand as loaded. -/
abbrev L2 := View.readAt (Elt F) M2.view (Rect.unit (s := S512x4480) ![0, 0] S512x4480.size inb_S512x4480_S512x4480_0_0).toLoadRect (h2.unread x0)
/-- The right operand as loaded. -/
abbrev L4 := View.readAt (Elt F) M4.view (Rect.unit (s := S4480x768) ![0, 0] S4480x768.size inb_S4480x768_S4480x768_0_0).toLoadRect (h4.unread x2)
/-- Chunk 0 of the column scales as loaded. -/
abbrev L5_0 := View.readAt (Elt F) M5.view (Rect.unit (s := S1x768) ![0, 0] S1x128.size inb_S1x768_S1x128_0_0).toLoadRect (h5.unread x3)
/-- Chunk 0 of the residual as loaded. -/
abbrev L6_0 := View.readAt (Elt F) M6.view (Rect.unit (s := S512x768) ![0, 0] S512x128.size inb_S512x768_S512x128_0_0).toLoadRect (h6.unread x4)
/-- Chunk 1 of the column scales as loaded. -/
abbrev L5_1 := View.readAt (Elt F) M5.view (Rect.unit (s := S1x768) ![0, 128] S1x128.size inb_S1x768_S1x128_0_128).toLoadRect (h5.unread x3)
/-- Chunk 1 of the residual as loaded. -/
abbrev L6_1 := View.readAt (Elt F) M6.view (Rect.unit (s := S512x768) ![0, 128] S512x128.size inb_S512x768_S512x128_0_128).toLoadRect (h6.unread x4)
/-- Chunk 2 of the column scales as loaded. -/
abbrev L5_2 := View.readAt (Elt F) M5.view (Rect.unit (s := S1x768) ![0, 256] S1x128.size inb_S1x768_S1x128_0_256).toLoadRect (h5.unread x3)
/-- Chunk 2 of the residual as loaded. -/
abbrev L6_2 := View.readAt (Elt F) M6.view (Rect.unit (s := S512x768) ![0, 256] S512x128.size inb_S512x768_S512x128_0_256).toLoadRect (h6.unread x4)
/-- Chunk 3 of the column scales as loaded. -/
abbrev L5_3 := View.readAt (Elt F) M5.view (Rect.unit (s := S1x768) ![0, 384] S1x128.size inb_S1x768_S1x128_0_384).toLoadRect (h5.unread x3)
/-- Chunk 3 of the residual as loaded. -/
abbrev L6_3 := View.readAt (Elt F) M6.view (Rect.unit (s := S512x768) ![0, 384] S512x128.size inb_S512x768_S512x128_0_384).toLoadRect (h6.unread x4)
/-- Chunk 4 of the column scales as loaded. -/
abbrev L5_4 := View.readAt (Elt F) M5.view (Rect.unit (s := S1x768) ![0, 512] S1x128.size inb_S1x768_S1x128_0_512).toLoadRect (h5.unread x3)
/-- Chunk 4 of the residual as loaded. -/
abbrev L6_4 := View.readAt (Elt F) M6.view (Rect.unit (s := S512x768) ![0, 512] S512x128.size inb_S512x768_S512x128_0_512).toLoadRect (h6.unread x4)
/-- Chunk 5 of the column scales as loaded. -/
abbrev L5_5 := View.readAt (Elt F) M5.view (Rect.unit (s := S1x768) ![0, 640] S1x128.size inb_S1x768_S1x128_0_640).toLoadRect (h5.unread x3)
/-- Chunk 5 of the residual as loaded. -/
abbrev L6_5 := View.readAt (Elt F) M6.view (Rect.unit (s := S512x768) ![0, 640] S512x128.size inb_S512x768_S512x128_0_640).toLoadRect (h6.unread x4)

/-- Chunk 0 of the block of `y`, from the loads. -/
theorem ych0 (X X' : Vec F S512x128 .f32) (hX : X' = X) :
    k0_pay52 (k0_pay51 (L2 h2 x0) (L4 h4 x2) X') (L5_0 h5 x3) (L6_0 h6 x4) = chunk (yv (k0_pay50 x0 x2) X x3 x4) 0 := by
  subst hX
  rw [show L2 h2 x0 = x0 from ld2 h2 x0 _, show L4 h4 x2 = x2 from ld2 h4 x2 _]
  exact yc0 x0 x2 X' x3 x4 _ _ (fun l => ld2c h5 x3 0 _ 0 l (col 0 l) rfl) (fun r l => ld2c h6 x4 0 _ r l (col 0 l) rfl)

/-- Chunk 1 of the block of `y`, from the loads. -/
theorem ych1 (X X' : Vec F S512x128 .f32) (hX : X' = X) :
    k0_pay54 (k0_pay50 (L2 h2 x0) (L4 h4 x2)) X' (L5_1 h5 x3) (L6_1 h6 x4) = chunk (yv (k0_pay50 x0 x2) X x3 x4) 1 := by
  subst hX
  rw [show L2 h2 x0 = x0 from ld2 h2 x0 _, show L4 h4 x2 = x2 from ld2 h4 x2 _]
  exact yc1 x0 x2 X' x3 x4 _ _ (fun l => ld2c h5 x3 128 _ 0 l (col 1 l) rfl) (fun r l => ld2c h6 x4 128 _ r l (col 1 l) rfl)

/-- Chunk 2 of the block of `y`, from the loads. -/
theorem ych2 (X X' : Vec F S512x128 .f32) (hX : X' = X) :
    k0_pay57 (k0_pay50 (L2 h2 x0) (L4 h4 x2)) X' (L5_2 h5 x3) (L6_2 h6 x4) = chunk (yv (k0_pay50 x0 x2) X x3 x4) 2 := by
  subst hX
  rw [show L2 h2 x0 = x0 from ld2 h2 x0 _, show L4 h4 x2 = x2 from ld2 h4 x2 _]
  exact yc2 x0 x2 X' x3 x4 _ _ (fun l => ld2c h5 x3 256 _ 0 l (col 2 l) rfl) (fun r l => ld2c h6 x4 256 _ r l (col 2 l) rfl)

/-- Chunk 3 of the block of `y`, from the loads. -/
theorem ych3 (X X' : Vec F S512x128 .f32) (hX : X' = X) :
    k0_pay59 (k0_pay50 (L2 h2 x0) (L4 h4 x2)) X' (L5_3 h5 x3) (L6_3 h6 x4) = chunk (yv (k0_pay50 x0 x2) X x3 x4) 3 := by
  subst hX
  rw [show L2 h2 x0 = x0 from ld2 h2 x0 _, show L4 h4 x2 = x2 from ld2 h4 x2 _]
  exact yc3 x0 x2 X' x3 x4 _ _ (fun l => ld2c h5 x3 384 _ 0 l (col 3 l) rfl) (fun r l => ld2c h6 x4 384 _ r l (col 3 l) rfl)

/-- Chunk 4 of the block of `y`, from the loads. -/
theorem ych4 (X X' : Vec F S512x128 .f32) (hX : X' = X) :
    k0_pay61 (k0_pay50 (L2 h2 x0) (L4 h4 x2)) X' (L5_4 h5 x3) (L6_4 h6 x4) = chunk (yv (k0_pay50 x0 x2) X x3 x4) 4 := by
  subst hX
  rw [show L2 h2 x0 = x0 from ld2 h2 x0 _, show L4 h4 x2 = x2 from ld2 h4 x2 _]
  exact yc4 x0 x2 X' x3 x4 _ _ (fun l => ld2c h5 x3 512 _ 0 l (col 4 l) rfl) (fun r l => ld2c h6 x4 512 _ r l (col 4 l) rfl)

/-- Chunk 5 of the block of `y`, from the loads. -/
theorem ych5 (X X' : Vec F S512x128 .f32) (hX : X' = X) :
    k0_pay64 (k0_pay50 (L2 h2 x0) (L4 h4 x2)) X' (L5_5 h5 x3) (L6_5 h6 x4) = chunk (yv (k0_pay50 x0 x2) X x3 x4) 5 := by
  subst hX
  rw [show L2 h2 x0 = x0 from ld2 h2 x0 _, show L4 h4 x2 = x2 from ld2 h4 x2 _]
  exact yc5 x0 x2 X' x3 x4 _ _ (fun l => ld2c h5 x3 640 _ 0 l (col 5 l) rfl) (fun r l => ld2c h6 x4 640 _ r l (col 5 l) rfl)

/-- The new running maximum, from the loads. -/
theorem amr (i : grid0.Coords) (X X' A A' : Vec F S512x128 .f32) (hX : X' = X) (hA : A' = A) :
    k0_pay9 i (k0_pay63 (k0_pay50 (L2 h2 x0) (L4 h4 x2)) X' (k0_pay56 (k0_pay50 (L2 h2 x0) (L4 h4 x2)) X' (k0_pay51 (L2 h2 x0) (L4 h4 x2) X') (L5_0 h5 x3) (L6_0 h6 x4) (L5_1 h5 x3) (L6_1 h6 x4)) (k0_pay57 (k0_pay50 (L2 h2 x0) (L4 h4 x2)) X' (L5_2 h5 x3) (L6_2 h6 x4)) (L5_3 h5 x3) (L6_3 h6 x4) (L5_4 h5 x3) (L6_4 h6 x4))
      (k0_pay64 (k0_pay50 (L2 h2 x0) (L4 h4 x2)) X' (L5_5 h5 x3) (L6_5 h6 x4)) A' = amaxNew (i 1).val A (yv (k0_pay50 x0 x2) X x3 x4) := by
  subst hA
  exact pay9_eq i _ _ X' _ A' _ _ _ _ _ _ _ _ _ _ _ _ (ych0 h2 h4 h5 h6 x0 x2 x3 x4 X X' hX) (ych1 h2 h4 h5 h6 x0 x2 x3 x4 X X' hX) (ych2 h2 h4 h5 h6 x0 x2 x3 x4 X X' hX) (ych3 h2 h4 h5 h6 x0 x2 x3 x4 X X' hX) (ych4 h2 h4 h5 h6 x0 x2 x3 x4 X X' hX) (ych5 h2 h4 h5 h6 x0 x2 x3 x4 X X' hX)

end Loads

/-! ## The two tiles a row block starts with -/

/-- A load of the whole of a rank-two view reads the view. -/
theorem ldw {n0 n1 : ℕ} {e : EltTy} (v : View sig κ sp ⟨2, ![n0, n1]⟩ e) (f : v.ty.Contents (Elt F)) (inb) :
    View.readAt (Elt F) v (Rect.unit ![0, 0] ![n0, n1] inb).toLoadRect f = v.read (Elt F) f := by
  funext k
  exact congrArg (v.read (Elt F) f) ((emb2 inb k (k 0) (k 1) (Nat.zero_add _).symm (Nat.zero_add _).symm).symm.trans (eq_ix2 k).symm)

/-- The row-scale tile after its stores holds the input row scales. -/
theorem xsb_of {M3 : Memref sig κ sp S1x1x512 .f32} (h3 : M3.IsWhole) (x1 : Vec F S1x1x512 .f32) (v : View sig κ sp S512x128 .f32) (f : v.ty.Contents (Elt F)) :
    v.read (Elt F) (v.writes (Elt F) f [⟨Rect.unit ![384, 0] S128x128.size inb_S512x128_S128x128_384_0, k0_pay4 (View.readAt (Elt F) M3.view (Rect.unit (s := S1x1x512) ![0, 0, 384] S1x1x128.size inb_S1x1x512_S1x1x128_0_0_384).toLoadRect (h3.unread x1))⟩, ⟨Rect.unit ![256, 0] S128x128.size inb_S512x128_S128x128_256_0, k0_pay3 (View.readAt (Elt F) M3.view (Rect.unit (s := S1x1x512) ![0, 0, 256] S1x1x128.size inb_S1x1x512_S1x1x128_0_0_256).toLoadRect (h3.unread x1))⟩, ⟨Rect.unit ![128, 0] S128x128.size inb_S512x128_S128x128_128_0, k0_pay2 (View.readAt (Elt F) M3.view (Rect.unit (s := S1x1x512) ![0, 0, 128] S1x1x128.size inb_S1x1x512_S1x1x128_0_0_128).toLoadRect (h3.unread x1))⟩, ⟨Rect.unit ![0, 0] S128x128.size inb_S512x128_S128x128_0_0, k0_pay1 (View.readAt (Elt F) M3.view (Rect.unit (s := S1x1x512) ![0, 0, 0] S1x1x128.size inb_S1x1x512_S1x1x128_0_0_0).toLoadRect (h3.unread x1))⟩]) = xsb x1 := by
  refine xsb_read v f (xsb x1) _ _ _ _ _ _ _ _ ?_ ?_ ?_ ?_
  · intro k; exact xsc 0 x1 _ (fun l => ld3c h3 x1 ![0, 0, 0] _ 0 0 rfl 0 0 l 0 _ rfl rfl) k
  · intro k; exact xsc 1 x1 _ (fun l => ld3c h3 x1 ![0, 0, 128] _ 0 128 rfl 0 0 l 0 _ rfl rfl) k
  · intro k; exact xsc 2 x1 _ (fun l => ld3c h3 x1 ![0, 0, 256] _ 0 256 rfl 0 0 l 0 _ rfl rfl) k
  · intro k; exact xsc 3 x1 _ (fun l => ld3c h3 x1 ![0, 0, 384] _ 0 384 rfl 0 0 l 0 _ rfl rfl) k

/-- Chunk 0 of the scale window, from the running maximum. -/
theorem ysr0 (A A' : Vec F S512x128 .f32) (hA : A' = A) (k : S1x1x128.Idx) :
    k0_pay24 (k0_pay18 (k0_pay13 A') (k0_pay14 A') (k0_pay15 A') (k0_pay16 A')) (k0_pay19 (k0_pay13 A') (k0_pay14 A') (k0_pay15 A') (k0_pay16 A')) k0_pay20 k
      = ysv A (ix3 0 0 (rowc 0 (k 2))) := by
  subst hA; exact ysc0 _ _ _ k

/-- Chunk 1 of the scale window, from the running maximum. -/
theorem ysr1 (A A' : Vec F S512x128 .f32) (hA : A' = A) (k : S1x1x128.Idx) :
    k0_pay25 (k0_pay18 (k0_pay13 A') (k0_pay14 A') (k0_pay15 A') (k0_pay16 A')) (k0_pay19 (k0_pay13 A') (k0_pay14 A') (k0_pay15 A') (k0_pay16 A')) k0_pay20 k
      = ysv A (ix3 0 0 (rowc 1 (k 2))) := by
  subst hA; exact ysc1 _ _ _ k

/-- Chunk 2 of the scale window, from the running maximum. -/
theorem ysr2 (A A' : Vec F S512x128 .f32) (hA : A' = A) (k : S1x1x128.Idx) :
    k0_pay26 (k0_pay18 (k0_pay13 A') (k0_pay14 A') (k0_pay15 A') (k0_pay16 A')) (k0_pay19 (k0_pay13 A') (k0_pay14 A') (k0_pay15 A') (k0_pay16 A')) k0_pay20 k
      = ysv A (ix3 0 0 (rowc 2 (k 2))) := by
  subst hA; exact ysc2 _ _ _ k

/-- Chunk 3 of the scale window, from the running maximum. -/
theorem ysr3 (A A' : Vec F S512x128 .f32) (hA : A' = A) (k : S1x1x128.Idx) :
    k0_pay27 (k0_pay18 (k0_pay13 A') (k0_pay14 A') (k0_pay15 A') (k0_pay16 A')) (k0_pay19 (k0_pay13 A') (k0_pay14 A') (k0_pay15 A') (k0_pay16 A')) k0_pay20 k
      = ysv A (ix3 0 0 (rowc 3 (k 2))) := by
  subst hA; exact ysc3 _ _ _ k

end Cert.KernelIdeal.Fn
-- ==== Proof.RunA.lean ====
/-
  The body run at the grid points of one kind: the first row block and the first column block.
-/
module

public import proofs.«01_k».proof.Proof.Mem
public import proofs.«01_k».proof.Proof.Gen.KernelIdeal.Frame

@[expose] public section

set_option maxRecDepth 16384

noncomputable section

namespace Cert.KernelIdeal.Fn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 4000000 in
/-- The body at such a point: what it leaves in every buffer. -/
theorem runA (c : Dev nD) (E : Set ℕ) (i : grid0.Coords) (arg2 : Memref sig .tc .vmem S512x4480 .fp8e4m3) (harg2 : arg2.IsWhole) (arg3 : Memref sig .tc .vmem S1x1x512 .f32) (harg3 : arg3.IsWhole) (arg4 : Memref sig .tc .vmem S4480x768 .fp8e4m3) (harg4 : arg4.IsWhole) (arg5 : Memref sig .tc .vmem S1x768 .f32) (harg5 : arg5.IsWhole) (arg6 : Memref sig .tc .vmem S512x768 .bf16) (harg6 : arg6.IsWhole) (arg7 : Memref sig .tc .vmem S512x768 .fp8e4m3) (harg7 : arg7.IsWhole) (arg8 : Memref sig .tc .vmem S1x1x512 .f32) (harg8 : arg8.IsWhole) (arg9 : Memref sig .tc .vmem S27x512x768 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (hc1 : ¬ k0_cond1 i = 1#1) (hc2 : (Scalar.cmpi .ne (Scalar.extui (Scalar.andi (Scalar.cmpi .slt (BitVec.ofNat 32 (i 0).val) 32#32) (Scalar.cmpi .eq (BitVec.ofNat 32 (i 1).val) 0#32)) : BitVec 32) 0#32 : BitVec 1) = 1#1) (hc3 : k0_cond3 i = 1#1) (hc4 : ¬ k0_cond4 i = 1#1) (hc5 : ¬ k0_cond5 i = 1#1)
    (x0 : Vec F S512x4480 .fp8e4m3) (x1 : Vec F S1x1x512 .f32) (x2 : Vec F S4480x768 .fp8e4m3) (x3 : Vec F S1x768 .f32) (x4 : Vec F S512x768 .bf16)
    (d5 : Vec F S512x768 .fp8e4m3) (d6 : Vec F S1x1x512 .f32) (Y : Vec F S27x512x768 .f32) (A I X : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare Y ∗ owns (c : Thread nD τ) arg10 fullShare A ∗ owns (c : Thread nD τ) arg11 fullShare I ∗ owns (c : Thread nD τ) arg12 fullShare X
      ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare (put ⟨(i 1).val, (i 1).isLt⟩ Y (yv (k0_pay50 x0 x2) (xsb x1) x3 x4)) ∗ owns (c : Thread nD τ) arg10 fullShare (amaxNew (i 1).val A (yv (k0_pay50 x0 x2) (xsb x1) x3 x4)) ∗ owns (c : Thread nD τ) arg11 fullShare I ∗ owns (c : Thread nD τ) arg12 fullShare (xsb x1)) -∗ K ⟨⟩))
      ⊢ wp frame (wpE (defs₀ (F := F)) Variants.none c none) E (cc0_fp8_linear_requant i arg2 harg2 arg3 harg3 arg4 harg4 arg5 harg5 arg6 harg6 arg7 harg7 arg8 harg8 arg9 harg9 arg10 harg10 arg11 harg11 arg12 harg12) K := by
  simp only [cc0_fp8_linear_requant_eq_skeleton]; unfold cc0_fp8_linear_requant_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  sl_exec (disch := first | sl_exact hc1 | sl_exact hc2 | sl_exact hc3 | sl_exact hc4 | sl_exact hc5)
  sl_step
  iapply Hk
  isplitl [H0]
  · iexists _; isplitr
    swap; · iexact H0
    ipureintro
    exact harg2.read_unread _
  isplitl [H1]
  · iexists _; isplitr
    swap; · iexact H1
    ipureintro
    exact harg3.read_unread _
  isplitl [H2]
  · iexists _; isplitr
    swap; · iexact H2
    ipureintro
    exact harg4.read_unread _
  isplitl [H3]
  · iexists _; isplitr
    swap; · iexact H3
    ipureintro
    exact harg5.read_unread _
  isplitl [H4]
  · iexists _; isplitr
    swap; · iexact H4
    ipureintro
    exact harg6.read_unread _
  isplitl [H5]
  · iexists _; isplitr
    swap; · iexact H5
    ipureintro
    exact harg7.read_unread _
  isplitl [H6]
  · iexists _; isplitr
    swap; · iexact H6
    ipureintro
    exact harg8.read_unread _
  isplitl [H7]
  · iexists _; isplitr
    swap; · iexact H7
    ipureintro
    refine y_read harg9 Y ⟨(i 1).val, (i 1).isLt⟩ (yv (k0_pay50 x0 x2) (xsb x1) x3 x4) _ _ _ _ _ _ _ _ _ _ _ _ _ _ _ _ _ _ (k0_off1_eq i) (k0_off2_eq i) (k0_off3_eq i) (k0_off4_eq i) (k0_off5_eq i) (k0_off6_eq i) ?_ ?_ ?_ ?_ ?_ ?_
    · intro k; exact ypr 0 _ _ (ych0 harg2 harg4 harg5 harg6 x0 x2 x3 x4 (xsb x1) _ ((ldw _ _ _).trans (xsb_of harg3 x1 _ _))) k
    · intro k; exact ypr 1 _ _ (ych1 harg2 harg4 harg5 harg6 x0 x2 x3 x4 (xsb x1) _ ((ldw _ _ _).trans (xsb_of harg3 x1 _ _))) k
    · intro k; exact ypr 2 _ _ (ych2 harg2 harg4 harg5 harg6 x0 x2 x3 x4 (xsb x1) _ ((ldw _ _ _).trans (xsb_of harg3 x1 _ _))) k
    · intro k; exact ypr 3 _ _ (ych3 harg2 harg4 harg5 harg6 x0 x2 x3 x4 (xsb x1) _ ((ldw _ _ _).trans (xsb_of harg3 x1 _ _))) k
    · intro k; exact ypr 4 _ _ (ych4 harg2 harg4 harg5 harg6 x0 x2 x3 x4 (xsb x1) _ ((ldw _ _ _).trans (xsb_of harg3 x1 _ _))) k
    · intro k; exact ypr 5 _ _ (ych5 harg2 harg4 harg5 harg6 x0 x2 x3 x4 (xsb x1) _ ((ldw _ _ _).trans (xsb_of harg3 x1 _ _))) k
  isplitl [H8]
  · iexists _; isplitr
    swap; · iexact H8
    ipureintro
    exact (View.read_writes_full _ _ _ _ _).trans (amr harg2 harg4 harg5 harg6 x0 x2 x3 x4 i (xsb x1) _ A _ ((ldw _ _ _).trans (xsb_of harg3 x1 _ _)) (ld2 harg10 A _))
  isplitl [H9]
  · iexists _; isplitr
    swap; · iexact H9
    ipureintro
    exact harg11.read_unread _
  iexists _; isplitr
  swap; · iexact H10
  ipureintro
  exact xsb_of harg3 x1 _ _

end Cert.KernelIdeal.Fn
-- ==== Proof.RunB.lean ====
/-
  The body run at the grid points of one kind: the first row block, past the first column block.
-/
module

public import proofs.«01_k».proof.Proof.Mem
public import proofs.«01_k».proof.Proof.Gen.KernelIdeal.Frame

@[expose] public section

set_option maxRecDepth 16384

noncomputable section

namespace Cert.KernelIdeal.Fn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 4000000 in
/-- The body at such a point: what it leaves in every buffer. -/
theorem runB (c : Dev nD) (E : Set ℕ) (i : grid0.Coords) (arg2 : Memref sig .tc .vmem S512x4480 .fp8e4m3) (harg2 : arg2.IsWhole) (arg3 : Memref sig .tc .vmem S1x1x512 .f32) (harg3 : arg3.IsWhole) (arg4 : Memref sig .tc .vmem S4480x768 .fp8e4m3) (harg4 : arg4.IsWhole) (arg5 : Memref sig .tc .vmem S1x768 .f32) (harg5 : arg5.IsWhole) (arg6 : Memref sig .tc .vmem S512x768 .bf16) (harg6 : arg6.IsWhole) (arg7 : Memref sig .tc .vmem S512x768 .fp8e4m3) (harg7 : arg7.IsWhole) (arg8 : Memref sig .tc .vmem S1x1x512 .f32) (harg8 : arg8.IsWhole) (arg9 : Memref sig .tc .vmem S27x512x768 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (hc1 : ¬ k0_cond1 i = 1#1) (hc2 : ¬ (Scalar.cmpi .ne (Scalar.extui (Scalar.andi (Scalar.cmpi .slt (BitVec.ofNat 32 (i 0).val) 32#32) (Scalar.cmpi .eq (BitVec.ofNat 32 (i 1).val) 0#32)) : BitVec 32) 0#32 : BitVec 1) = 1#1) (hc3 : k0_cond3 i = 1#1) (hc4 : ¬ k0_cond4 i = 1#1) (hc5 : ¬ k0_cond5 i = 1#1)
    (x0 : Vec F S512x4480 .fp8e4m3) (x1 : Vec F S1x1x512 .f32) (x2 : Vec F S4480x768 .fp8e4m3) (x3 : Vec F S1x768 .f32) (x4 : Vec F S512x768 .bf16)
    (d5 : Vec F S512x768 .fp8e4m3) (d6 : Vec F S1x1x512 .f32) (Y : Vec F S27x512x768 .f32) (A I X : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare Y ∗ owns (c : Thread nD τ) arg10 fullShare A ∗ owns (c : Thread nD τ) arg11 fullShare I ∗ owns (c : Thread nD τ) arg12 fullShare X
      ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare (put ⟨(i 1).val, (i 1).isLt⟩ Y (yv (k0_pay50 x0 x2) X x3 x4)) ∗ owns (c : Thread nD τ) arg10 fullShare (amaxNew (i 1).val A (yv (k0_pay50 x0 x2) X x3 x4)) ∗ owns (c : Thread nD τ) arg11 fullShare I ∗ owns (c : Thread nD τ) arg12 fullShare X) -∗ K ⟨⟩))
      ⊢ wp frame (wpE (defs₀ (F := F)) Variants.none c none) E (cc0_fp8_linear_requant i arg2 harg2 arg3 harg3 arg4 harg4 arg5 harg5 arg6 harg6 arg7 harg7 arg8 harg8 arg9 harg9 arg10 harg10 arg11 harg11 arg12 harg12) K := by
  simp only [cc0_fp8_linear_requant_eq_skeleton]; unfold cc0_fp8_linear_requant_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  sl_exec (disch := first | sl_exact hc1 | sl_exact hc2 | sl_exact hc3 | sl_exact hc4 | sl_exact hc5)
  sl_step
  iapply Hk
  isplitl [H0]
  · iexists _; isplitr
    swap; · iexact H0
    ipureintro
    exact harg2.read_unread _
  isplitl [H1]
  · iexists _; isplitr
    swap; · iexact H1
    ipureintro
    exact harg3.read_unread _
  isplitl [H2]
  · iexists _; isplitr
    swap; · iexact H2
    ipureintro
    exact harg4.read_unread _
  isplitl [H3]
  · iexists _; isplitr
    swap; · iexact H3
    ipureintro
    exact harg5.read_unread _
  isplitl [H4]
  · iexists _; isplitr
    swap; · iexact H4
    ipureintro
    exact harg6.read_unread _
  isplitl [H5]
  · iexists _; isplitr
    swap; · iexact H5
    ipureintro
    exact harg7.read_unread _
  isplitl [H6]
  · iexists _; isplitr
    swap; · iexact H6
    ipureintro
    exact harg8.read_unread _
  isplitl [H7]
  · iexists _; isplitr
    swap; · iexact H7
    ipureintro
    refine y_read harg9 Y ⟨(i 1).val, (i 1).isLt⟩ (yv (k0_pay50 x0 x2) X x3 x4) _ _ _ _ _ _ _ _ _ _ _ _ _ _ _ _ _ _ (k0_off1_eq i) (k0_off2_eq i) (k0_off3_eq i) (k0_off4_eq i) (k0_off5_eq i) (k0_off6_eq i) ?_ ?_ ?_ ?_ ?_ ?_
    · intro k; exact ypr 0 _ _ (ych0 harg2 harg4 harg5 harg6 x0 x2 x3 x4 X _ (ld2 harg12 X _)) k
    · intro k; exact ypr 1 _ _ (ych1 harg2 harg4 harg5 harg6 x0 x2 x3 x4 X _ (ld2 harg12 X _)) k
    · intro k; exact ypr 2 _ _ (ych2 harg2 harg4 harg5 harg6 x0 x2 x3 x4 X _ (ld2 harg12 X _)) k
    · intro k; exact ypr 3 _ _ (ych3 harg2 harg4 harg5 harg6 x0 x2 x3 x4 X _ (ld2 harg12 X _)) k
    · intro k; exact ypr 4 _ _ (ych4 harg2 harg4 harg5 harg6 x0 x2 x3 x4 X _ (ld2 harg12 X _)) k
    · intro k; exact ypr 5 _ _ (ych5 harg2 harg4 harg5 harg6 x0 x2 x3 x4 X _ (ld2 harg12 X _)) k
  isplitl [H8]
  · iexists _; isplitr
    swap; · iexact H8
    ipureintro
    exact (View.read_writes_full _ _ _ _ _).trans (amr harg2 harg4 harg5 harg6 x0 x2 x3 x4 i X _ A _ (ld2 harg12 X _) (ld2 harg10 A _))
  isplitl [H9]
  · iexists _; isplitr
    swap; · iexact H9
    ipureintro
    exact harg11.read_unread _
  iexists _; isplitr
  swap; · iexact H10
  ipureintro
  exact harg12.read_unread _

end Cert.KernelIdeal.Fn
-- ==== Proof.RunC.lean ====
/-
  The body run at the grid points of one kind: a middle row block and the first column block.
-/
module

public import proofs.«01_k».proof.Proof.Mem
public import proofs.«01_k».proof.Proof.Gen.KernelIdeal.Frame

@[expose] public section

set_option maxRecDepth 16384

noncomputable section

namespace Cert.KernelIdeal.Fn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 4000000 in
/-- The body at such a point: what it leaves in every buffer. -/
theorem runC (c : Dev nD) (E : Set ℕ) (i : grid0.Coords) (arg2 : Memref sig .tc .vmem S512x4480 .fp8e4m3) (harg2 : arg2.IsWhole) (arg3 : Memref sig .tc .vmem S1x1x512 .f32) (harg3 : arg3.IsWhole) (arg4 : Memref sig .tc .vmem S4480x768 .fp8e4m3) (harg4 : arg4.IsWhole) (arg5 : Memref sig .tc .vmem S1x768 .f32) (harg5 : arg5.IsWhole) (arg6 : Memref sig .tc .vmem S512x768 .bf16) (harg6 : arg6.IsWhole) (arg7 : Memref sig .tc .vmem S512x768 .fp8e4m3) (harg7 : arg7.IsWhole) (arg8 : Memref sig .tc .vmem S1x1x512 .f32) (harg8 : arg8.IsWhole) (arg9 : Memref sig .tc .vmem S27x512x768 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (hc1 : k0_cond1 i = 1#1) (hc2 : (Scalar.cmpi .ne (Scalar.extui (Scalar.andi (Scalar.cmpi .slt (BitVec.ofNat 32 (i 0).val) 32#32) (Scalar.cmpi .eq (BitVec.ofNat 32 (i 1).val) 0#32)) : BitVec 32) 0#32 : BitVec 1) = 1#1) (hc3 : ¬ k0_cond3 i = 1#1) (hc4 : k0_cond4 i = 1#1) (hc5 : ¬ k0_cond5 i = 1#1)
    (x0 : Vec F S512x4480 .fp8e4m3) (x1 : Vec F S1x1x512 .f32) (x2 : Vec F S4480x768 .fp8e4m3) (x3 : Vec F S1x768 .f32) (x4 : Vec F S512x768 .bf16)
    (d5 : Vec F S512x768 .fp8e4m3) (d6 : Vec F S1x1x512 .f32) (Y : Vec F S27x512x768 .f32) (A I X : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare Y ∗ owns (c : Thread nD τ) arg10 fullShare A ∗ owns (c : Thread nD τ) arg11 fullShare I ∗ owns (c : Thread nD τ) arg12 fullShare X
      ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (quant (slab ⟨(i 1).val, (i 1).isLt⟩ Y) (invTile A)) ∗ owns (c : Thread nD τ) arg8 fullShare (ysv A) ∗ owns (c : Thread nD τ) arg9 fullShare (put ⟨(i 1).val, (i 1).isLt⟩ Y (yv (k0_pay50 x0 x2) (xsb x1) x3 x4)) ∗ owns (c : Thread nD τ) arg10 fullShare (amaxNew (i 1).val A (yv (k0_pay50 x0 x2) (xsb x1) x3 x4)) ∗ owns (c : Thread nD τ) arg11 fullShare (invTile A) ∗ owns (c : Thread nD τ) arg12 fullShare (xsb x1)) -∗ K ⟨⟩))
      ⊢ wp frame (wpE (defs₀ (F := F)) Variants.none c none) E (cc0_fp8_linear_requant i arg2 harg2 arg3 harg3 arg4 harg4 arg5 harg5 arg6 harg6 arg7 harg7 arg8 harg8 arg9 harg9 arg10 harg10 arg11 harg11 arg12 harg12) K := by
  simp only [cc0_fp8_linear_requant_eq_skeleton]; unfold cc0_fp8_linear_requant_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  sl_exec (disch := first | sl_exact hc1 | sl_exact hc2 | sl_exact hc3 | sl_exact hc4 | sl_exact hc5)
  sl_step
  iapply Hk
  isplitl [H0]
  · iexists _; isplitr
    swap; · iexact H0
    ipureintro
    exact harg2.read_unread _
  isplitl [H1]
  · iexists _; isplitr
    swap; · iexact H1
    ipureintro
    exact harg3.read_unread _
  isplitl [H2]
  · iexists _; isplitr
    swap; · iexact H2
    ipureintro
    exact harg4.read_unread _
  isplitl [H3]
  · iexists _; isplitr
    swap; · iexact H3
    ipureintro
    exact harg5.read_unread _
  isplitl [H4]
  · iexists _; isplitr
    swap; · iexact H4
    ipureintro
    exact harg6.read_unread _
  isplitl [H5]
  · iexists _; isplitr
    swap; · iexact H5
    ipureintro
    refine codes_read _ _ (quant (slab ⟨(i 1).val, (i 1).isLt⟩ Y) (invTile A)) _ _ _ _ _ _ _ _ _ _ _ _ ?_ ?_ ?_ ?_ ?_ ?_
    · intro k; exact qcr 0 harg9 Y ⟨(i 1).val, (i 1).isLt⟩ (invTile A) _ ((View.readCov_full arg11.view _ _ _ _).trans (congrArg invTile (ld2 harg10 A _))) _ _ (k0_off7_eq i) k
    · intro k; exact qcr 1 harg9 Y ⟨(i 1).val, (i 1).isLt⟩ (invTile A) _ ((View.readCov_full arg11.view _ _ _ _).trans (congrArg invTile (ld2 harg10 A _))) _ _ (k0_off8_eq i) k
    · intro k; exact qcr 2 harg9 Y ⟨(i 1).val, (i 1).isLt⟩ (invTile A) _ ((View.readCov_full arg11.view _ _ _ _).trans (congrArg invTile (ld2 harg10 A _))) _ _ (k0_off9_eq i) k
    · intro k; exact qcr 3 harg9 Y ⟨(i 1).val, (i 1).isLt⟩ (invTile A) _ ((View.readCov_full arg11.view _ _ _ _).trans (congrArg invTile (ld2 harg10 A _))) _ _ (k0_off10_eq i) k
    · intro k; exact qcr 4 harg9 Y ⟨(i 1).val, (i 1).isLt⟩ (invTile A) _ ((View.readCov_full arg11.view _ _ _ _).trans (congrArg invTile (ld2 harg10 A _))) _ _ (k0_off11_eq i) k
    · intro k; exact qcr 5 harg9 Y ⟨(i 1).val, (i 1).isLt⟩ (invTile A) _ ((View.readCov_full arg11.view _ _ _ _).trans (congrArg invTile (ld2 harg10 A _))) _ _ (k0_off12_eq i) k
  isplitl [H6]
  · iexists _; isplitr
    swap; · iexact H6
    ipureintro
    refine ys_read _ _ (ysv A) _ _ _ _ _ _ _ _ ?_ ?_ ?_ ?_
    · intro k; exact ysr0 A _ (ld2 harg10 A _) k
    · intro k; exact ysr1 A _ (ld2 harg10 A _) k
    · intro k; exact ysr2 A _ (ld2 harg10 A _) k
    · intro k; exact ysr3 A _ (ld2 harg10 A _) k
  isplitl [H7]
  · iexists _; isplitr
    swap; · iexact H7
    ipureintro
    refine y_read harg9 Y ⟨(i 1).val, (i 1).isLt⟩ (yv (k0_pay50 x0 x2) (xsb x1) x3 x4) _ _ _ _ _ _ _ _ _ _ _ _ _ _ _ _ _ _ (k0_off7_eq i) (k0_off8_eq i) (k0_off9_eq i) (k0_off10_eq i) (k0_off11_eq i) (k0_off12_eq i) ?_ ?_ ?_ ?_ ?_ ?_
    · intro k; exact ypr 0 _ _ (ych0 harg2 harg4 harg5 harg6 x0 x2 x3 x4 (xsb x1) _ ((ldw _ _ _).trans (xsb_of harg3 x1 _ _))) k
    · intro k; exact ypr 1 _ _ (ych1 harg2 harg4 harg5 harg6 x0 x2 x3 x4 (xsb x1) _ ((ldw _ _ _).trans (xsb_of harg3 x1 _ _))) k
    · intro k; exact ypr 2 _ _ (ych2 harg2 harg4 harg5 harg6 x0 x2 x3 x4 (xsb x1) _ ((ldw _ _ _).trans (xsb_of harg3 x1 _ _))) k
    · intro k; exact ypr 3 _ _ (ych3 harg2 harg4 harg5 harg6 x0 x2 x3 x4 (xsb x1) _ ((ldw _ _ _).trans (xsb_of harg3 x1 _ _))) k
    · intro k; exact ypr 4 _ _ (ych4 harg2 harg4 harg5 harg6 x0 x2 x3 x4 (xsb x1) _ ((ldw _ _ _).trans (xsb_of harg3 x1 _ _))) k
    · intro k; exact ypr 5 _ _ (ych5 harg2 harg4 harg5 harg6 x0 x2 x3 x4 (xsb x1) _ ((ldw _ _ _).trans (xsb_of harg3 x1 _ _))) k
  isplitl [H8]
  · iexists _; isplitr
    swap; · iexact H8
    ipureintro
    exact (View.read_writes_full _ _ _ _ _).trans (amr harg2 harg4 harg5 harg6 x0 x2 x3 x4 i (xsb x1) _ A _ ((ldw _ _ _).trans (xsb_of harg3 x1 _ _)) (ld2 harg10 A _))
  isplitl [H9]
  · iexists _; isplitr
    swap; · iexact H9
    ipureintro
    exact (View.read_writes_full _ _ _ _ _).trans (congrArg invTile (ld2 harg10 A _))
  iexists _; isplitr
  swap; · iexact H10
  ipureintro
  exact xsb_of harg3 x1 _ _

end Cert.KernelIdeal.Fn
-- ==== Proof.RunD.lean ====
/-
  The body run at the grid points of one kind: a middle row block, past the first column block.
-/
module

public import proofs.«01_k».proof.Proof.Mem
public import proofs.«01_k».proof.Proof.Gen.KernelIdeal.Frame

@[expose] public section

set_option maxRecDepth 16384

noncomputable section

namespace Cert.KernelIdeal.Fn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 4000000 in
/-- The body at such a point: what it leaves in every buffer. -/
theorem runD (c : Dev nD) (E : Set ℕ) (i : grid0.Coords) (arg2 : Memref sig .tc .vmem S512x4480 .fp8e4m3) (harg2 : arg2.IsWhole) (arg3 : Memref sig .tc .vmem S1x1x512 .f32) (harg3 : arg3.IsWhole) (arg4 : Memref sig .tc .vmem S4480x768 .fp8e4m3) (harg4 : arg4.IsWhole) (arg5 : Memref sig .tc .vmem S1x768 .f32) (harg5 : arg5.IsWhole) (arg6 : Memref sig .tc .vmem S512x768 .bf16) (harg6 : arg6.IsWhole) (arg7 : Memref sig .tc .vmem S512x768 .fp8e4m3) (harg7 : arg7.IsWhole) (arg8 : Memref sig .tc .vmem S1x1x512 .f32) (harg8 : arg8.IsWhole) (arg9 : Memref sig .tc .vmem S27x512x768 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (hc1 : ¬ k0_cond1 i = 1#1) (hc2 : ¬ (Scalar.cmpi .ne (Scalar.extui (Scalar.andi (Scalar.cmpi .slt (BitVec.ofNat 32 (i 0).val) 32#32) (Scalar.cmpi .eq (BitVec.ofNat 32 (i 1).val) 0#32)) : BitVec 32) 0#32 : BitVec 1) = 1#1) (hc3 : ¬ k0_cond3 i = 1#1) (hc4 : k0_cond4 i = 1#1) (hc5 : ¬ k0_cond5 i = 1#1)
    (x0 : Vec F S512x4480 .fp8e4m3) (x1 : Vec F S1x1x512 .f32) (x2 : Vec F S4480x768 .fp8e4m3) (x3 : Vec F S1x768 .f32) (x4 : Vec F S512x768 .bf16)
    (d5 : Vec F S512x768 .fp8e4m3) (d6 : Vec F S1x1x512 .f32) (Y : Vec F S27x512x768 .f32) (A I X : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare Y ∗ owns (c : Thread nD τ) arg10 fullShare A ∗ owns (c : Thread nD τ) arg11 fullShare I ∗ owns (c : Thread nD τ) arg12 fullShare X
      ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (quant (slab ⟨(i 1).val, (i 1).isLt⟩ Y) I) ∗ owns (c : Thread nD τ) arg8 fullShare d6 ∗ owns (c : Thread nD τ) arg9 fullShare (put ⟨(i 1).val, (i 1).isLt⟩ Y (yv (k0_pay50 x0 x2) X x3 x4)) ∗ owns (c : Thread nD τ) arg10 fullShare (amaxNew (i 1).val A (yv (k0_pay50 x0 x2) X x3 x4)) ∗ owns (c : Thread nD τ) arg11 fullShare I ∗ owns (c : Thread nD τ) arg12 fullShare X) -∗ K ⟨⟩))
      ⊢ wp frame (wpE (defs₀ (F := F)) Variants.none c none) E (cc0_fp8_linear_requant i arg2 harg2 arg3 harg3 arg4 harg4 arg5 harg5 arg6 harg6 arg7 harg7 arg8 harg8 arg9 harg9 arg10 harg10 arg11 harg11 arg12 harg12) K := by
  simp only [cc0_fp8_linear_requant_eq_skeleton]; unfold cc0_fp8_linear_requant_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  sl_exec (disch := first | sl_exact hc1 | sl_exact hc2 | sl_exact hc3 | sl_exact hc4 | sl_exact hc5)
  sl_step
  iapply Hk
  isplitl [H0]
  · iexists _; isplitr
    swap; · iexact H0
    ipureintro
    exact harg2.read_unread _
  isplitl [H1]
  · iexists _; isplitr
    swap; · iexact H1
    ipureintro
    exact harg3.read_unread _
  isplitl [H2]
  · iexists _; isplitr
    swap; · iexact H2
    ipureintro
    exact harg4.read_unread _
  isplitl [H3]
  · iexists _; isplitr
    swap; · iexact H3
    ipureintro
    exact harg5.read_unread _
  isplitl [H4]
  · iexists _; isplitr
    swap; · iexact H4
    ipureintro
    exact harg6.read_unread _
  isplitl [H5]
  · iexists _; isplitr
    swap; · iexact H5
    ipureintro
    refine codes_read _ _ (quant (slab ⟨(i 1).val, (i 1).isLt⟩ Y) I) _ _ _ _ _ _ _ _ _ _ _ _ ?_ ?_ ?_ ?_ ?_ ?_
    · intro k; exact qcr 0 harg9 Y ⟨(i 1).val, (i 1).isLt⟩ I _ (ld2 harg11 I _) _ _ (k0_off7_eq i) k
    · intro k; exact qcr 1 harg9 Y ⟨(i 1).val, (i 1).isLt⟩ I _ (ld2 harg11 I _) _ _ (k0_off8_eq i) k
    · intro k; exact qcr 2 harg9 Y ⟨(i 1).val, (i 1).isLt⟩ I _ (ld2 harg11 I _) _ _ (k0_off9_eq i) k
    · intro k; exact qcr 3 harg9 Y ⟨(i 1).val, (i 1).isLt⟩ I _ (ld2 harg11 I _) _ _ (k0_off10_eq i) k
    · intro k; exact qcr 4 harg9 Y ⟨(i 1).val, (i 1).isLt⟩ I _ (ld2 harg11 I _) _ _ (k0_off11_eq i) k
    · intro k; exact qcr 5 harg9 Y ⟨(i 1).val, (i 1).isLt⟩ I _ (ld2 harg11 I _) _ _ (k0_off12_eq i) k
  isplitl [H6]
  · iexists _; isplitr
    swap; · iexact H6
    ipureintro
    exact harg8.read_unread _
  isplitl [H7]
  · iexists _; isplitr
    swap; · iexact H7
    ipureintro
    refine y_read harg9 Y ⟨(i 1).val, (i 1).isLt⟩ (yv (k0_pay50 x0 x2) X x3 x4) _ _ _ _ _ _ _ _ _ _ _ _ _ _ _ _ _ _ (k0_off7_eq i) (k0_off8_eq i) (k0_off9_eq i) (k0_off10_eq i) (k0_off11_eq i) (k0_off12_eq i) ?_ ?_ ?_ ?_ ?_ ?_
    · intro k; exact ypr 0 _ _ (ych0 harg2 harg4 harg5 harg6 x0 x2 x3 x4 X _ (ld2 harg12 X _)) k
    · intro k; exact ypr 1 _ _ (ych1 harg2 harg4 harg5 harg6 x0 x2 x3 x4 X _ (ld2 harg12 X _)) k
    · intro k; exact ypr 2 _ _ (ych2 harg2 harg4 harg5 harg6 x0 x2 x3 x4 X _ (ld2 harg12 X _)) k
    · intro k; exact ypr 3 _ _ (ych3 harg2 harg4 harg5 harg6 x0 x2 x3 x4 X _ (ld2 harg12 X _)) k
    · intro k; exact ypr 4 _ _ (ych4 harg2 harg4 harg5 harg6 x0 x2 x3 x4 X _ (ld2 harg12 X _)) k
    · intro k; exact ypr 5 _ _ (ych5 harg2 harg4 harg5 harg6 x0 x2 x3 x4 X _ (ld2 harg12 X _)) k
  isplitl [H8]
  · iexists _; isplitr
    swap; · iexact H8
    ipureintro
    exact (View.read_writes_full _ _ _ _ _).trans (amr harg2 harg4 harg5 harg6 x0 x2 x3 x4 i X _ A _ (ld2 harg12 X _) (ld2 harg10 A _))
  isplitl [H9]
  · iexists _; isplitr
    swap; · iexact H9
    ipureintro
    exact harg11.read_unread _
  iexists _; isplitr
  swap; · iexact H10
  ipureintro
  exact harg12.read_unread _

end Cert.KernelIdeal.Fn
-- ==== Proof.RunE.lean ====
/-
  The body run at the grid points of one kind: the drain step and the first column block.
-/
module

public import proofs.«01_k».proof.Proof.Mem
public import proofs.«01_k».proof.Proof.Gen.KernelIdeal.Frame

@[expose] public section

set_option maxRecDepth 16384

noncomputable section

namespace Cert.KernelIdeal.Fn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 4000000 in
/-- The body at such a point: what it leaves in every buffer. -/
theorem runE (c : Dev nD) (E : Set ℕ) (i : grid0.Coords) (arg2 : Memref sig .tc .vmem S512x4480 .fp8e4m3) (harg2 : arg2.IsWhole) (arg3 : Memref sig .tc .vmem S1x1x512 .f32) (harg3 : arg3.IsWhole) (arg4 : Memref sig .tc .vmem S4480x768 .fp8e4m3) (harg4 : arg4.IsWhole) (arg5 : Memref sig .tc .vmem S1x768 .f32) (harg5 : arg5.IsWhole) (arg6 : Memref sig .tc .vmem S512x768 .bf16) (harg6 : arg6.IsWhole) (arg7 : Memref sig .tc .vmem S512x768 .fp8e4m3) (harg7 : arg7.IsWhole) (arg8 : Memref sig .tc .vmem S1x1x512 .f32) (harg8 : arg8.IsWhole) (arg9 : Memref sig .tc .vmem S27x512x768 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (hc1 : k0_cond1 i = 1#1) (hc2 : ¬ (Scalar.cmpi .ne (Scalar.extui (Scalar.andi (Scalar.cmpi .slt (BitVec.ofNat 32 (i 0).val) 32#32) (Scalar.cmpi .eq (BitVec.ofNat 32 (i 1).val) 0#32)) : BitVec 32) 0#32 : BitVec 1) = 1#1) (hc3 : ¬ k0_cond3 i = 1#1) (hc4 : ¬ k0_cond4 i = 1#1) (hc5 : k0_cond5 i = 1#1)
    (x0 : Vec F S512x4480 .fp8e4m3) (x1 : Vec F S1x1x512 .f32) (x2 : Vec F S4480x768 .fp8e4m3) (x3 : Vec F S1x768 .f32) (x4 : Vec F S512x768 .bf16)
    (d5 : Vec F S512x768 .fp8e4m3) (d6 : Vec F S1x1x512 .f32) (Y : Vec F S27x512x768 .f32) (A I X : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare Y ∗ owns (c : Thread nD τ) arg10 fullShare A ∗ owns (c : Thread nD τ) arg11 fullShare I ∗ owns (c : Thread nD τ) arg12 fullShare X
      ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (quant (slab ⟨(i 1).val, (i 1).isLt⟩ Y) (invTile A)) ∗ owns (c : Thread nD τ) arg8 fullShare (ysv A) ∗ owns (c : Thread nD τ) arg9 fullShare Y ∗ owns (c : Thread nD τ) arg10 fullShare A ∗ owns (c : Thread nD τ) arg11 fullShare (invTile A) ∗ owns (c : Thread nD τ) arg12 fullShare X) -∗ K ⟨⟩))
      ⊢ wp frame (wpE (defs₀ (F := F)) Variants.none c none) E (cc0_fp8_linear_requant i arg2 harg2 arg3 harg3 arg4 harg4 arg5 harg5 arg6 harg6 arg7 harg7 arg8 harg8 arg9 harg9 arg10 harg10 arg11 harg11 arg12 harg12) K := by
  simp only [cc0_fp8_linear_requant_eq_skeleton]; unfold cc0_fp8_linear_requant_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  sl_exec (disch := first | sl_exact hc1 | sl_exact hc2 | sl_exact hc3 | sl_exact hc4 | sl_exact hc5)
  sl_step
  iapply Hk
  isplitl [H0]
  · iexists _; isplitr
    swap; · iexact H0
    ipureintro
    exact harg2.read_unread _
  isplitl [H1]
  · iexists _; isplitr
    swap; · iexact H1
    ipureintro
    exact harg3.read_unread _
  isplitl [H2]
  · iexists _; isplitr
    swap; · iexact H2
    ipureintro
    exact harg4.read_unread _
  isplitl [H3]
  · iexists _; isplitr
    swap; · iexact H3
    ipureintro
    exact harg5.read_unread _
  isplitl [H4]
  · iexists _; isplitr
    swap; · iexact H4
    ipureintro
    exact harg6.read_unread _
  isplitl [H5]
  · iexists _; isplitr
    swap; · iexact H5
    ipureintro
    refine codes_read _ _ (quant (slab ⟨(i 1).val, (i 1).isLt⟩ Y) (invTile A)) _ _ _ _ _ _ _ _ _ _ _ _ ?_ ?_ ?_ ?_ ?_ ?_
    · intro k; exact qcr 0 harg9 Y ⟨(i 1).val, (i 1).isLt⟩ (invTile A) _ ((View.readCov_full arg11.view _ _ _ _).trans (congrArg invTile (ld2 harg10 A _))) _ _ (k0_off13_eq i) k
    · intro k; exact qcr 1 harg9 Y ⟨(i 1).val, (i 1).isLt⟩ (invTile A) _ ((View.readCov_full arg11.view _ _ _ _).trans (congrArg invTile (ld2 harg10 A _))) _ _ (k0_off14_eq i) k
    · intro k; exact qcr 2 harg9 Y ⟨(i 1).val, (i 1).isLt⟩ (invTile A) _ ((View.readCov_full arg11.view _ _ _ _).trans (congrArg invTile (ld2 harg10 A _))) _ _ (k0_off15_eq i) k
    · intro k; exact qcr 3 harg9 Y ⟨(i 1).val, (i 1).isLt⟩ (invTile A) _ ((View.readCov_full arg11.view _ _ _ _).trans (congrArg invTile (ld2 harg10 A _))) _ _ (k0_off16_eq i) k
    · intro k; exact qcr 4 harg9 Y ⟨(i 1).val, (i 1).isLt⟩ (invTile A) _ ((View.readCov_full arg11.view _ _ _ _).trans (congrArg invTile (ld2 harg10 A _))) _ _ (k0_off17_eq i) k
    · intro k; exact qcr 5 harg9 Y ⟨(i 1).val, (i 1).isLt⟩ (invTile A) _ ((View.readCov_full arg11.view _ _ _ _).trans (congrArg invTile (ld2 harg10 A _))) _ _ (k0_off18_eq i) k
  isplitl [H6]
  · iexists _; isplitr
    swap; · iexact H6
    ipureintro
    refine ys_read _ _ (ysv A) _ _ _ _ _ _ _ _ ?_ ?_ ?_ ?_
    · intro k; exact ysr0 A _ (ld2 harg10 A _) k
    · intro k; exact ysr1 A _ (ld2 harg10 A _) k
    · intro k; exact ysr2 A _ (ld2 harg10 A _) k
    · intro k; exact ysr3 A _ (ld2 harg10 A _) k
  isplitl [H7]
  · iexists _; isplitr
    swap; · iexact H7
    ipureintro
    exact harg9.read_unread _
  isplitl [H8]
  · iexists _; isplitr
    swap; · iexact H8
    ipureintro
    exact harg10.read_unread _
  isplitl [H9]
  · iexists _; isplitr
    swap; · iexact H9
    ipureintro
    exact (View.read_writes_full _ _ _ _ _).trans (congrArg invTile (ld2 harg10 A _))
  iexists _; isplitr
  swap; · iexact H10
  ipureintro
  exact harg12.read_unread _

end Cert.KernelIdeal.Fn
-- ==== Proof.RunF.lean ====
/-
  The body run at the grid points of one kind: the drain step, past the first column block.
-/
module

public import proofs.«01_k».proof.Proof.Mem
public import proofs.«01_k».proof.Proof.Gen.KernelIdeal.Frame

@[expose] public section

set_option maxRecDepth 16384

noncomputable section

namespace Cert.KernelIdeal.Fn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 4000000 in
/-- The body at such a point: what it leaves in every buffer. -/
theorem runF (c : Dev nD) (E : Set ℕ) (i : grid0.Coords) (arg2 : Memref sig .tc .vmem S512x4480 .fp8e4m3) (harg2 : arg2.IsWhole) (arg3 : Memref sig .tc .vmem S1x1x512 .f32) (harg3 : arg3.IsWhole) (arg4 : Memref sig .tc .vmem S4480x768 .fp8e4m3) (harg4 : arg4.IsWhole) (arg5 : Memref sig .tc .vmem S1x768 .f32) (harg5 : arg5.IsWhole) (arg6 : Memref sig .tc .vmem S512x768 .bf16) (harg6 : arg6.IsWhole) (arg7 : Memref sig .tc .vmem S512x768 .fp8e4m3) (harg7 : arg7.IsWhole) (arg8 : Memref sig .tc .vmem S1x1x512 .f32) (harg8 : arg8.IsWhole) (arg9 : Memref sig .tc .vmem S27x512x768 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (hc1 : ¬ k0_cond1 i = 1#1) (hc2 : ¬ (Scalar.cmpi .ne (Scalar.extui (Scalar.andi (Scalar.cmpi .slt (BitVec.ofNat 32 (i 0).val) 32#32) (Scalar.cmpi .eq (BitVec.ofNat 32 (i 1).val) 0#32)) : BitVec 32) 0#32 : BitVec 1) = 1#1) (hc3 : ¬ k0_cond3 i = 1#1) (hc4 : ¬ k0_cond4 i = 1#1) (hc5 : k0_cond5 i = 1#1)
    (x0 : Vec F S512x4480 .fp8e4m3) (x1 : Vec F S1x1x512 .f32) (x2 : Vec F S4480x768 .fp8e4m3) (x3 : Vec F S1x768 .f32) (x4 : Vec F S512x768 .bf16)
    (d5 : Vec F S512x768 .fp8e4m3) (d6 : Vec F S1x1x512 .f32) (Y : Vec F S27x512x768 .f32) (A I X : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare Y ∗ owns (c : Thread nD τ) arg10 fullShare A ∗ owns (c : Thread nD τ) arg11 fullShare I ∗ owns (c : Thread nD τ) arg12 fullShare X
      ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (quant (slab ⟨(i 1).val, (i 1).isLt⟩ Y) I) ∗ owns (c : Thread nD τ) arg8 fullShare d6 ∗ owns (c : Thread nD τ) arg9 fullShare Y ∗ owns (c : Thread nD τ) arg10 fullShare A ∗ owns (c : Thread nD τ) arg11 fullShare I ∗ owns (c : Thread nD τ) arg12 fullShare X) -∗ K ⟨⟩))
      ⊢ wp frame (wpE (defs₀ (F := F)) Variants.none c none) E (cc0_fp8_linear_requant i arg2 harg2 arg3 harg3 arg4 harg4 arg5 harg5 arg6 harg6 arg7 harg7 arg8 harg8 arg9 harg9 arg10 harg10 arg11 harg11 arg12 harg12) K := by
  simp only [cc0_fp8_linear_requant_eq_skeleton]; unfold cc0_fp8_linear_requant_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  sl_exec (disch := first | sl_exact hc1 | sl_exact hc2 | sl_exact hc3 | sl_exact hc4 | sl_exact hc5)
  sl_step
  iapply Hk
  isplitl [H0]
  · iexists _; isplitr
    swap; · iexact H0
    ipureintro
    exact harg2.read_unread _
  isplitl [H1]
  · iexists _; isplitr
    swap; · iexact H1
    ipureintro
    exact harg3.read_unread _
  isplitl [H2]
  · iexists _; isplitr
    swap; · iexact H2
    ipureintro
    exact harg4.read_unread _
  isplitl [H3]
  · iexists _; isplitr
    swap; · iexact H3
    ipureintro
    exact harg5.read_unread _
  isplitl [H4]
  · iexists _; isplitr
    swap; · iexact H4
    ipureintro
    exact harg6.read_unread _
  isplitl [H5]
  · iexists _; isplitr
    swap; · iexact H5
    ipureintro
    refine codes_read _ _ (quant (slab ⟨(i 1).val, (i 1).isLt⟩ Y) I) _ _ _ _ _ _ _ _ _ _ _ _ ?_ ?_ ?_ ?_ ?_ ?_
    · intro k; exact qcr 0 harg9 Y ⟨(i 1).val, (i 1).isLt⟩ I _ (ld2 harg11 I _) _ _ (k0_off13_eq i) k
    · intro k; exact qcr 1 harg9 Y ⟨(i 1).val, (i 1).isLt⟩ I _ (ld2 harg11 I _) _ _ (k0_off14_eq i) k
    · intro k; exact qcr 2 harg9 Y ⟨(i 1).val, (i 1).isLt⟩ I _ (ld2 harg11 I _) _ _ (k0_off15_eq i) k
    · intro k; exact qcr 3 harg9 Y ⟨(i 1).val, (i 1).isLt⟩ I _ (ld2 harg11 I _) _ _ (k0_off16_eq i) k
    · intro k; exact qcr 4 harg9 Y ⟨(i 1).val, (i 1).isLt⟩ I _ (ld2 harg11 I _) _ _ (k0_off17_eq i) k
    · intro k; exact qcr 5 harg9 Y ⟨(i 1).val, (i 1).isLt⟩ I _ (ld2 harg11 I _) _ _ (k0_off18_eq i) k
  isplitl [H6]
  · iexists _; isplitr
    swap; · iexact H6
    ipureintro
    exact harg8.read_unread _
  isplitl [H7]
  · iexists _; isplitr
    swap; · iexact H7
    ipureintro
    exact harg9.read_unread _
  isplitl [H8]
  · iexists _; isplitr
    swap; · iexact H8
    ipureintro
    exact harg10.read_unread _
  isplitl [H9]
  · iexists _; isplitr
    swap; · iexact H9
    ipureintro
    exact harg11.read_unread _
  iexists _; isplitr
  swap; · iexact H10
  ipureintro
  exact harg12.read_unread _

end Cert.KernelIdeal.Fn
-- ==== Proof.Sched.lean ====
/-
  The grid point by point: a point's row block and column block, the branch conditions, the blocks the windows name,
  and the points at which the two output windows are written back.
-/
module

public import proofs.«01_k».proof.Proof.Gen.KernelIdeal.Frame
public import Idealize.ShloMosaic.Lib.Pipeline.TableIdle

@[expose] public section

set_option maxRecDepth 16384

noncomputable section

namespace Cert.KernelIdeal.Fn

open Idealize.ShloMosaic Idealize.SL.Sem
open Cert.KernelIdeal Cert.KernelIdeal.Gen

theorem N_eq : cfg0.N = 891 := N_0

/-- The row block of a point. -/
theorem coord0 (t : Fin cfg0.N) : (cfg0.grid.coords t 0).val = t.val / 27 := by
  have h := Pipeline.Grid.coords_val (G := grid0) t 0 (S := 27) (B := 33) (by decide) rfl
  have ht : t.val < 891 := N_eq ▸ t.isLt
  rw [show (cfg0.grid.coords t 0).val = t.val / 27 % 33 from h]; omega
/-- The column block of a point. -/
theorem coord1 (t : Fin cfg0.N) : (cfg0.grid.coords t 1).val = t.val % 27 := by
  have h := Pipeline.Grid.coords_val (G := grid0) t 1 (S := 1) (B := 27) (by decide) rfl
  rw [show (cfg0.grid.coords t 1).val = t.val / 1 % 27 from h, Nat.div_one]

/-- The printed condition of the second conditional, by the grid point. -/
abbrev k0_cond2 (i : grid0.Coords) : BitVec 1 := (Scalar.cmpi .ne (Scalar.extui (Scalar.andi (Scalar.cmpi .slt (BitVec.ofNat 32 (i 0).val) 32#32) (Scalar.cmpi .eq (BitVec.ofNat 32 (i 1).val) 0#32)) : BitVec 32) 0#32 : BitVec 1)

theorem cond1_iff : ∀ t : Fin grid0.N, k0_cond1 (grid0.coords t) = 1#1 ↔ (27 ≤ t.val ∧ t.val % 27 = 0) := by decide +kernel
theorem cond2_iff : ∀ t : Fin grid0.N, k0_cond2 (grid0.coords t) = 1#1 ↔ (t.val < 864 ∧ t.val % 27 = 0) := by decide +kernel
theorem cond3_iff : ∀ t : Fin grid0.N, k0_cond3 (grid0.coords t) = 1#1 ↔ t.val < 27 := by decide +kernel
theorem cond4_iff : ∀ t : Fin grid0.N, k0_cond4 (grid0.coords t) = 1#1 ↔ (27 ≤ t.val ∧ t.val < 864) := by decide +kernel
theorem cond5_iff : ∀ t : Fin grid0.N, k0_cond5 (grid0.coords t) = 1#1 ↔ 864 ≤ t.val := by decide +kernel

/-! ## The blocks the windows name -/

theorem tr0 : ∀ t : Fin grid0.N, cc0_transform_0 (grid0.coords t) = ![min (t.val / 27) 31, 0] := by decide +kernel
theorem tr1 : ∀ t : Fin grid0.N, cc0_transform_1 (grid0.coords t) = ![min (t.val / 27) 31, 0, 0] := by decide +kernel
theorem tr2 : ∀ t : Fin grid0.N, cc0_transform_2 (grid0.coords t) = ![0, if t.val < 864 then t.val % 27 else 26] := by decide +kernel
theorem tr3 : ∀ t : Fin grid0.N, cc0_transform_3 (grid0.coords t) = ![0, if t.val < 864 then t.val % 27 else 26] := by decide +kernel
theorem tr4 : ∀ t : Fin grid0.N, cc0_transform_4 (grid0.coords t) = ![min (t.val / 27) 31, if t.val < 864 then t.val % 27 else 26] := by decide +kernel
theorem tr5 : ∀ t : Fin grid0.N, cc0_transform_5 (grid0.coords t) = ![t.val / 27 - 1, if t.val < 27 then 0 else t.val % 27] := by decide +kernel
theorem tr6 : ∀ t : Fin grid0.N, cc0_transform_6 (grid0.coords t) = ![t.val / 27 - 1, 0, 0] := by decide +kernel

/-! ## Idle points and write-backs of the two outputs -/

theorem idle5 (t : Fin cfg0.N) : cfg0.idle 5 (cfg0.grid.coords t) = decide (t.val < 27) := by
  show (!(k0_cond4 (grid0.coords t) == 1#1) && !(k0_cond5 (grid0.coords t) == 1#1)) = _
  have h4 := cond4_iff t
  have h5 := cond5_iff t
  rcases Nat.lt_or_ge t.val 27 with h | h
  · rw [beq_eq_false_iff_ne.mpr (fun e => by have := h4.mp e; omega), beq_eq_false_iff_ne.mpr (fun e => by have := h5.mp e; omega), decide_eq_true h]; rfl
  · rw [decide_eq_false (by omega)]
    rcases Nat.lt_or_ge t.val 864 with h' | h'
    · rw [beq_iff_eq.mpr (h4.mpr ⟨h, h'⟩)]; rfl
    · rw [beq_iff_eq.mpr (h5.mpr h')]; simp

theorem idle6 (t : Fin cfg0.N) : cfg0.idle 6 (cfg0.grid.coords t) = decide (¬ (27 ≤ t.val ∧ t.val % 27 = 0)) := by
  show (!(k0_cond1 (grid0.coords t) == 1#1)) = _
  have h1 := cond1_iff t
  by_cases h : 27 ≤ t.val ∧ t.val % 27 = 0
  · rw [beq_iff_eq.mpr (h1.mpr h), decide_eq_false (not_not_intro h)]; rfl
  · rw [beq_eq_false_iff_ne.mpr (fun e => h (h1.mp e)), decide_eq_true h]; rfl

theorem flush5 (t : Fin cfg0.N) : (cfg0.win 5).flush t = decide (27 ≤ t.val) := by
  rw [Pipeline.Window.flush_eq_flushF]
  have e : ∀ t : Fin grid0.N, (cfg0.win 5).index t = ![t.val / 27 - 1, if t.val < 27 then 0 else t.val % 27] := tr5
  have ht : t.val < 891 := N_eq ▸ t.isLt
  have hN : grid0.N = 891 := N_0
  rw [show (cfg0.win 5).flushF t = (true && (decide (t.val + 1 = grid0.N) || decide (∃ h : t.val + 1 < grid0.N, ∃ a : Fin 2, (cfg0.win 5).index ⟨t.val + 1, h⟩ a ≠ (cfg0.win 5).index t a))) from rfl]
  rw [Bool.true_and, ← Bool.decide_or, decide_eq_decide]
  simp only [e, Fin.exists_fin_two, Matrix.cons_val_zero, Matrix.cons_val_one, Matrix.cons_val_fin_one]
  constructor
  · rintro (h | ⟨h, h' | h'⟩)
    · omega
    · omega
    · split_ifs at h' <;> omega
  · intro h
    by_cases h1 : t.val + 1 = grid0.N
    · exact Or.inl h1
    · refine Or.inr ⟨by omega, Or.inr ?_⟩
      rw [if_neg (by omega), if_neg (by omega)]; omega

theorem flush6 (t : Fin cfg0.N) : (cfg0.win 6).flush t = decide (27 ≤ t.val ∧ t.val % 27 = 26) := by
  rw [Pipeline.Window.flush_eq_flushF]
  have e : ∀ t : Fin grid0.N, (cfg0.win 6).index t = ![t.val / 27 - 1, 0, 0] := tr6
  have ht : t.val < 891 := N_eq ▸ t.isLt
  have hN : grid0.N = 891 := N_0
  rw [show (cfg0.win 6).flushF t = (true && (decide (t.val + 1 = grid0.N) || decide (∃ h : t.val + 1 < grid0.N, ∃ a : Fin 3, (cfg0.win 6).index ⟨t.val + 1, h⟩ a ≠ (cfg0.win 6).index t a))) from rfl]
  rw [Bool.true_and, ← Bool.decide_or, decide_eq_decide]
  simp only [e, Fin.exists_fin_succ, Fin.exists_fin_zero, Matrix.cons_val_zero, Matrix.cons_val_succ, ne_eq, not_true_eq_false, or_false]
  constructor
  · rintro (h | ⟨h, h'⟩)
    · omega
    · omega
  · intro h
    by_cases h1 : t.val + 1 = grid0.N
    · exact Or.inl h1
    · exact Or.inr ⟨by omega, by omega⟩

/-- The scale window holds nothing of the run's through the first row of points, and at the first point of a row. -/
theorem fresh6 (t : Fin cfg0.N) : cfg0.fresh 6 t.val = decide (t.val < 27 ∨ t.val % 27 = 0) := by
  refine cfg0.fresh_tab 6 (fun n => decide (n < 27 ∨ n % 27 = 0)) rfl (fun s => ?_) t.val (Nat.le_of_lt t.isLt)
  have hs : s.val < 891 := N_eq ▸ s.isLt
  rw [flush6, idle6, ← Bool.decide_and, ← Bool.decide_or, decide_eq_decide]
  omega

end Cert.KernelIdeal.Fn
-- ==== Proof.Inv.lean ====
/-
  What the buffers kept between points hold: the column blocks of `y` of the last 27 points, the running maximum, the
  inverse row scales and the input row scales of the row block at hand; and how one point moves this on.
-/
module

public import proofs.«01_k».proof.Proof.Fn
public import proofs.«01_k».proof.Proof.Sched

@[expose] public section

set_option maxRecDepth 16384

noncomputable section

namespace Cert.KernelIdeal.Fn

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (c : Dev nD)

/-- Point `n` of the grid. -/
def pt (n : ℕ) : Fin cfg0.N := ⟨n % 891, N_eq ▸ Nat.mod_lt _ (by decide)⟩

theorem pt_val (t : Fin cfg0.N) : pt t.val = t :=
  Fin.ext (Nat.mod_eq_of_lt (N_eq ▸ t.isLt))

/-- The block of `y` point `n` computes. -/
def yN (n : ℕ) : FVec F S512x768 .f32 :=
  yv (k0_pay50 (iblk m c 0 (pt n)) (iblk m c 2 (pt n))) (xsb (iblk m c 1 (pt (27 * (n / 27))))) (iblk m c 3 (pt n)) (iblk m c 4 (pt n))

/-- The running maximum after point `n`. -/
def accN : ℕ → FVec F S512x128 .f32
  | 0 => mv (yN m c 0)
  | n + 1 => amaxNew ((n + 1) % 27) (accN n) (yN m c (n + 1))

/-- The running maximum of the row block before point `n`'s. -/
def accPrev (n : ℕ) : FVec F S512x128 .f32 := accN m c (27 * (n / 27) - 1)

/-- The block of codes point `n` writes. -/
def codesN (n : ℕ) : FVec F S512x768 .fp8e4m3 := quant (yN m c (n - 27)) (invTile (accPrev m c n))
/-- The scale window's contents from the first point of a row on. -/
def scalesN (n : ℕ) : FVec F S1x1x512 .f32 := ysv (accPrev m c n)

theorem accN_of (n : ℕ) (A : Vec F S512x128 .f32) (hA : 0 < n → A = accN m c (n - 1)) : amaxNew (n % 27) A (yN m c n) = accN m c n := by
  cases n with
  | zero => rfl
  | succ n => rw [hA (Nat.succ_pos n)]; rfl

/-- The kept buffers before point `n`. -/
structure Inv (n : ℕ) (Y : Vec F S27x512x768 .f32) (A I X : Vec F S512x128 .f32) : Prop where
  y : ∀ k, k < min n 864 → min n 864 ≤ k + 27 → slab ⟨k % 27, Nat.mod_lt _ (by decide)⟩ Y = yN m c k
  a : 0 < n → A = accN m c (min n 864 - 1)
  i : 27 < n → I = invTile (accPrev m c (n - 1))
  x : 0 < n → n ≤ 864 → X = xsb (iblk m c 1 (pt (27 * ((n - 1) / 27))))

theorem inv_zero (Y A I X) : Inv m c 0 Y A I X :=
  ⟨fun k h => by omega, fun h => by omega, fun h => by omega, fun h => by omega⟩

variable {m c} {n : ℕ} {Y : Vec F S27x512x768 .f32} {A I X : Vec F S512x128 .f32}

theorem slab_put_self (j : Fin 27) (y : FVec F S512x768 .f32) : slab j (put j Y y) = y := by
  funext k
  exact (put_self j Y y j (k 0) (k 1) rfl).trans (congrArg y (eq_ix2 k).symm)
theorem slab_put_ne (j j' : Fin 27) (y : FVec F S512x768 .f32) (h : ¬ j'.val = j.val) : slab j' (put j Y y) = slab j' Y := by
  funext k
  exact put_ne j Y y j' (k 0) (k 1) h

/-- The input row scales a point uses. -/
theorem Inv.xs (h : Inv m c n Y A I X) (hn : n < 864) (h0 : ¬ n % 27 = 0) : X = xsb (iblk m c 1 (pt (27 * (n / 27)))) := by
  rw [h.x (by omega) (by omega), show (n - 1) / 27 = n / 27 by omega]
theorem xs_start (hn : n % 27 = 0) : xsb (iblk m c 1 (pt n)) = xsb (iblk m c 1 (pt (27 * (n / 27)))) := by
  rw [show 27 * (n / 27) = n by omega]
/-- The inverse row scales a point uses. -/
theorem Inv.inv (h : Inv m c n Y A I X) (hn : 27 ≤ n) (h0 : ¬ n % 27 = 0) : I = invTile (accPrev m c n) := by
  rw [h.i (by omega)]
  unfold accPrev; rw [show (n - 1) / 27 = n / 27 by omega]
theorem Inv.inv_start (h : Inv m c n Y A I X) (hn : 27 ≤ n) (hN : n < 891) (h0 : n % 27 = 0) : A = accPrev m c n := by
  rw [h.a (by omega), show min n 864 - 1 = 27 * (n / 27) - 1 by omega]; rfl
/-- The codes a point writes. -/
theorem Inv.codes (h : Inv m c n Y A I X) (hn : 27 ≤ n) (hN : n < 891) (I' : Vec F S512x128 .f32) (hI : I' = invTile (accPrev m c n)) (j : Fin 27) (hj : j.val = n % 27) :
    quant (slab j Y) I' = codesN m c n := by
  have hy := h.y (n - 27) (by omega) (by omega)
  rw [show (⟨(n - 27) % 27, Nat.mod_lt _ (by decide)⟩ : Fin 27) = j from Fin.ext (by simp only; omega)] at hy
  rw [hy, hI]; rfl
/-- After a point that computes a block of `y`. -/
theorem Inv.next (h : Inv m c n Y A I X) (hn : n < 864) (X' I' : Vec F S512x128 .f32) (hX : X' = xsb (iblk m c 1 (pt (27 * (n / 27)))))
    (hI : 27 ≤ n → I' = invTile (accPrev m c n)) (j : Fin 27) (hj : j.val = n % 27) :
    Inv m c (n + 1) (put j Y (yv (k0_pay50 (iblk m c 0 (pt n)) (iblk m c 2 (pt n))) X' (iblk m c 3 (pt n)) (iblk m c 4 (pt n))))
      (amaxNew j.val A (yv (k0_pay50 (iblk m c 0 (pt n)) (iblk m c 2 (pt n))) X' (iblk m c 3 (pt n)) (iblk m c 4 (pt n)))) I' X' := by
  have hy : yv (k0_pay50 (iblk m c 0 (pt n)) (iblk m c 2 (pt n))) X' (iblk m c 3 (pt n)) (iblk m c 4 (pt n)) = yN m c n := by rw [hX]; rfl
  rw [hy]
  refine ⟨fun k hk hk' => ?_, fun _ => ?_, fun hh => ?_, fun _ _ => ?_⟩
  · by_cases hkn : k = n
    · subst hkn
      rw [show (⟨k % 27, Nat.mod_lt _ (by decide)⟩ : Fin 27) = j from Fin.ext hj.symm, slab_put_self]
    · rw [slab_put_ne _ _ _ (by simp only [hj]; omega)]
      exact h.y k (by omega) (by omega)
  · rw [hj, accN_of m c n A (fun h0 => by rw [h.a h0, show min n 864 - 1 = n - 1 by omega]), show min (n + 1) 864 - 1 = n by omega]
  · rw [hI (by omega)]; rfl
  · rw [hX]; rfl
/-- After a point of the drain. -/
theorem Inv.next' (h : Inv m c n Y A I X) (hn : 864 ≤ n) (I' : Vec F S512x128 .f32) (hI : I' = invTile (accPrev m c n)) : Inv m c (n + 1) Y A I' X := by
  refine ⟨fun k hk hk' => h.y k (by omega) (by omega), fun _ => ?_, fun hh => hI, fun _ _ => by omega⟩
  rw [h.a (by omega), show min n 864 = min (n + 1) 864 by omega]

end Cert.KernelIdeal.Fn
-- ==== Proof.Point.lean ====
/-
  One grid point, whatever its kind: from the kept buffers' contents before it to the contents after it, and what it
  leaves in the two results' windows.
-/
module

public import proofs.«01_k».proof.Proof.RunA
public import proofs.«01_k».proof.Proof.RunB
public import proofs.«01_k».proof.Proof.RunC
public import proofs.«01_k».proof.Proof.RunD
public import proofs.«01_k».proof.Proof.RunE
public import proofs.«01_k».proof.Proof.RunF
public import proofs.«01_k».proof.Proof.Inv

@[expose] public section

set_option maxRecDepth 16384

noncomputable section

namespace Cert.KernelIdeal.Fn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- What point `n` leaves in the codes' window, found at `d`. -/
def new5 (c : Dev nD) (n : ℕ) (d : FVec F S512x768 .fp8e4m3) : FVec F S512x768 .fp8e4m3 := if n < 27 then d else codesN m c n
/-- What point `n` leaves in the scales' window, found at `d`. -/
def new6 (c : Dev nD) (n : ℕ) (d : FVec F S1x1x512 .f32) : FVec F S1x1x512 .f32 := if 27 ≤ n ∧ n % 27 = 0 then scalesN m c n else d

/-- The body's post at a point. -/
def runPost (c : Dev nD) (t : Fin cfg0.N) (arg2 : Memref sig .tc .vmem S512x4480 .fp8e4m3) (arg3 : Memref sig .tc .vmem S1x1x512 .f32) (arg4 : Memref sig .tc .vmem S4480x768 .fp8e4m3) (arg5 : Memref sig .tc .vmem S1x768 .f32) (arg6 : Memref sig .tc .vmem S512x768 .bf16) (arg7 : Memref sig .tc .vmem S512x768 .fp8e4m3) (arg8 : Memref sig .tc .vmem S1x1x512 .f32) (arg9 : Memref sig .tc .vmem S27x512x768 .f32) (arg10 : Memref sig .tc .vmem S512x128 .f32) (arg11 : Memref sig .tc .vmem S512x128 .f32) (arg12 : Memref sig .tc .vmem S512x128 .f32)
    (d5 : FVec F S512x768 .fp8e4m3) (d6 : FVec F S1x1x512 .f32) : sProp 𝕄 :=
  iprop(∃ Y' A' I' X', ⌜Inv m c (t.val + 1) Y' A' I' X'⌝ ∗ owns (c : Thread nD τ) arg2 fullShare (iblk m c 0 t) ∗ owns (c : Thread nD τ) arg3 fullShare (iblk m c 1 t) ∗ owns (c : Thread nD τ) arg4 fullShare (iblk m c 2 t) ∗ owns (c : Thread nD τ) arg5 fullShare (iblk m c 3 t) ∗ owns (c : Thread nD τ) arg6 fullShare (iblk m c 4 t) ∗ owns (c : Thread nD τ) arg7 fullShare (new5 m c t.val d5) ∗ owns (c : Thread nD τ) arg8 fullShare (new6 m c t.val d6) ∗ owns (c : Thread nD τ) arg9 fullShare Y' ∗ owns (c : Thread nD τ) arg10 fullShare A' ∗ owns (c : Thread nD τ) arg11 fullShare I' ∗ owns (c : Thread nD τ) arg12 fullShare X')

theorem pointA (c : Dev nD) (E : Set ℕ) (t : Fin cfg0.N) (arg2 : Memref sig .tc .vmem S512x4480 .fp8e4m3) (harg2 : arg2.IsWhole) (arg3 : Memref sig .tc .vmem S1x1x512 .f32) (harg3 : arg3.IsWhole) (arg4 : Memref sig .tc .vmem S4480x768 .fp8e4m3) (harg4 : arg4.IsWhole) (arg5 : Memref sig .tc .vmem S1x768 .f32) (harg5 : arg5.IsWhole) (arg6 : Memref sig .tc .vmem S512x768 .bf16) (harg6 : arg6.IsWhole) (arg7 : Memref sig .tc .vmem S512x768 .fp8e4m3) (harg7 : arg7.IsWhole) (arg8 : Memref sig .tc .vmem S1x1x512 .f32) (harg8 : arg8.IsWhole) (arg9 : Memref sig .tc .vmem S27x512x768 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (d5 : FVec F S512x768 .fp8e4m3) (d6 : FVec F S1x1x512 .f32) (Y : Vec F S27x512x768 .f32) (A I X : Vec F S512x128 .f32) (h : Inv m c t.val Y A I X)
    (hg : t.val < 27) (hz : t.val % 27 = 0) (K : PUnit → sProp 𝕄) :
    iprop(owns (c : Thread nD τ) arg2 fullShare (iblk m c 0 t) ∗ owns (c : Thread nD τ) arg3 fullShare (iblk m c 1 t) ∗ owns (c : Thread nD τ) arg4 fullShare (iblk m c 2 t) ∗ owns (c : Thread nD τ) arg5 fullShare (iblk m c 3 t) ∗ owns (c : Thread nD τ) arg6 fullShare (iblk m c 4 t) ∗ owns (c : Thread nD τ) arg7 fullShare d5 ∗ owns (c : Thread nD τ) arg8 fullShare d6 ∗ owns (c : Thread nD τ) arg9 fullShare Y ∗ owns (c : Thread nD τ) arg10 fullShare A ∗ owns (c : Thread nD τ) arg11 fullShare I ∗ owns (c : Thread nD τ) arg12 fullShare X
      ∗ (runPost m c t arg2 arg3 arg4 arg5 arg6 arg7 arg8 arg9 arg10 arg11 arg12 d5 d6 -∗ K ⟨⟩))
      ⊢ wp frame (wpE (defs₀ (F := F)) Variants.none c none) E (cc0_fp8_linear_requant (grid0.coords t) arg2 harg2 arg3 harg3 arg4 harg4 arg5 harg5 arg6 harg6 arg7 harg7 arg8 harg8 arg9 harg9 arg10 harg10 arg11 harg11 arg12 harg12) K := by
  have hN : t.val < 891 := N_eq ▸ t.isLt
  have hj : ((grid0.coords t) 1).val = t.val % 27 := coord1 t
  have hX : xsb (iblk m c 1 t) = xsb (iblk m c 1 (pt (27 * (t.val / 27)))) := by
    have := xs_start (m := m) (c := c) hz; rwa [pt_val] at this
  have hnext := h.next (by omega) (xsb (iblk m c 1 t)) I hX (fun hh => by omega) ⟨((grid0.coords t) 1).val, ((grid0.coords t) 1).isLt⟩ hj
  rw [pt_val] at hnext
  have h5 : d5 = new5 m c t.val d5 := (if_pos (by omega)).symm
  have h6 : d6 = new6 m c t.val d6 := (if_neg (by omega)).symm
  iintro ⟨H0, H1, H2, H3, H4, H5, H6, H7, H8, H9, H10, Hk⟩
  iapply (runA c E (grid0.coords t) arg2 harg2 arg3 harg3 arg4 harg4 arg5 harg5 arg6 harg6 arg7 harg7 arg8 harg8 arg9 harg9 arg10 harg10 arg11 harg11 arg12 harg12 (by rw [cond1_iff]; omega) ((cond2_iff t).mpr (by omega)) (by rw [cond3_iff]; omega) (by rw [cond4_iff]; omega) (by rw [cond5_iff]; omega)
    (iblk m c 0 t) (iblk m c 1 t) (iblk m c 2 t) (iblk m c 3 t) (iblk m c 4 t) d5 d6 Y A I X K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  iapply Hk
  unfold runPost
  iexists (put ⟨((grid0.coords t) 1).val, ((grid0.coords t) 1).isLt⟩ Y (yv (k0_pay50 (iblk m c 0 t) (iblk m c 2 t)) (xsb (iblk m c 1 t)) (iblk m c 3 t) (iblk m c 4 t))), (amaxNew ((grid0.coords t) 1).val A (yv (k0_pay50 (iblk m c 0 t) (iblk m c 2 t)) (xsb (iblk m c 1 t)) (iblk m c 3 t) (iblk m c 4 t))), I, (xsb (iblk m c 1 t))
  isplitr; · ipureintro; exact hnext
  isplitl [H0]; · iexact H0
  isplitl [H1]; · iexact H1
  isplitl [H2]; · iexact H2
  isplitl [H3]; · iexact H3
  isplitl [H4]; · iexact H4
  isplitl [H5]; · rw [← h5]; iexact H5
  isplitl [H6]; · rw [← h6]; iexact H6
  isplitl [H7]; · iexact H7
  isplitl [H8]; · iexact H8
  isplitl [H9]; · iexact H9
  iexact H10

theorem pointB (c : Dev nD) (E : Set ℕ) (t : Fin cfg0.N) (arg2 : Memref sig .tc .vmem S512x4480 .fp8e4m3) (harg2 : arg2.IsWhole) (arg3 : Memref sig .tc .vmem S1x1x512 .f32) (harg3 : arg3.IsWhole) (arg4 : Memref sig .tc .vmem S4480x768 .fp8e4m3) (harg4 : arg4.IsWhole) (arg5 : Memref sig .tc .vmem S1x768 .f32) (harg5 : arg5.IsWhole) (arg6 : Memref sig .tc .vmem S512x768 .bf16) (harg6 : arg6.IsWhole) (arg7 : Memref sig .tc .vmem S512x768 .fp8e4m3) (harg7 : arg7.IsWhole) (arg8 : Memref sig .tc .vmem S1x1x512 .f32) (harg8 : arg8.IsWhole) (arg9 : Memref sig .tc .vmem S27x512x768 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (d5 : FVec F S512x768 .fp8e4m3) (d6 : FVec F S1x1x512 .f32) (Y : Vec F S27x512x768 .f32) (A I X : Vec F S512x128 .f32) (h : Inv m c t.val Y A I X)
    (hg : t.val < 27) (hz : ¬ t.val % 27 = 0) (K : PUnit → sProp 𝕄) :
    iprop(owns (c : Thread nD τ) arg2 fullShare (iblk m c 0 t) ∗ owns (c : Thread nD τ) arg3 fullShare (iblk m c 1 t) ∗ owns (c : Thread nD τ) arg4 fullShare (iblk m c 2 t) ∗ owns (c : Thread nD τ) arg5 fullShare (iblk m c 3 t) ∗ owns (c : Thread nD τ) arg6 fullShare (iblk m c 4 t) ∗ owns (c : Thread nD τ) arg7 fullShare d5 ∗ owns (c : Thread nD τ) arg8 fullShare d6 ∗ owns (c : Thread nD τ) arg9 fullShare Y ∗ owns (c : Thread nD τ) arg10 fullShare A ∗ owns (c : Thread nD τ) arg11 fullShare I ∗ owns (c : Thread nD τ) arg12 fullShare X
      ∗ (runPost m c t arg2 arg3 arg4 arg5 arg6 arg7 arg8 arg9 arg10 arg11 arg12 d5 d6 -∗ K ⟨⟩))
      ⊢ wp frame (wpE (defs₀ (F := F)) Variants.none c none) E (cc0_fp8_linear_requant (grid0.coords t) arg2 harg2 arg3 harg3 arg4 harg4 arg5 harg5 arg6 harg6 arg7 harg7 arg8 harg8 arg9 harg9 arg10 harg10 arg11 harg11 arg12 harg12) K := by
  have hN : t.val < 891 := N_eq ▸ t.isLt
  have hj : ((grid0.coords t) 1).val = t.val % 27 := coord1 t
  have hX : X = xsb (iblk m c 1 (pt (27 * (t.val / 27)))) := h.xs (by omega) hz
  have hnext := h.next (by omega) X I hX (fun hh => by omega) ⟨((grid0.coords t) 1).val, ((grid0.coords t) 1).isLt⟩ hj
  rw [pt_val] at hnext
  have h5 : d5 = new5 m c t.val d5 := (if_pos (by omega)).symm
  have h6 : d6 = new6 m c t.val d6 := (if_neg (by omega)).symm
  iintro ⟨H0, H1, H2, H3, H4, H5, H6, H7, H8, H9, H10, Hk⟩
  iapply (runB c E (grid0.coords t) arg2 harg2 arg3 harg3 arg4 harg4 arg5 harg5 arg6 harg6 arg7 harg7 arg8 harg8 arg9 harg9 arg10 harg10 arg11 harg11 arg12 harg12 (by rw [cond1_iff]; omega) (fun h => absurd ((cond2_iff t).mp h) (by omega)) (by rw [cond3_iff]; omega) (by rw [cond4_iff]; omega) (by rw [cond5_iff]; omega)
    (iblk m c 0 t) (iblk m c 1 t) (iblk m c 2 t) (iblk m c 3 t) (iblk m c 4 t) d5 d6 Y A I X K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  iapply Hk
  unfold runPost
  iexists (put ⟨((grid0.coords t) 1).val, ((grid0.coords t) 1).isLt⟩ Y (yv (k0_pay50 (iblk m c 0 t) (iblk m c 2 t)) X (iblk m c 3 t) (iblk m c 4 t))), (amaxNew ((grid0.coords t) 1).val A (yv (k0_pay50 (iblk m c 0 t) (iblk m c 2 t)) X (iblk m c 3 t) (iblk m c 4 t))), I, X
  isplitr; · ipureintro; exact hnext
  isplitl [H0]; · iexact H0
  isplitl [H1]; · iexact H1
  isplitl [H2]; · iexact H2
  isplitl [H3]; · iexact H3
  isplitl [H4]; · iexact H4
  isplitl [H5]; · rw [← h5]; iexact H5
  isplitl [H6]; · rw [← h6]; iexact H6
  isplitl [H7]; · iexact H7
  isplitl [H8]; · iexact H8
  isplitl [H9]; · iexact H9
  iexact H10

theorem pointC (c : Dev nD) (E : Set ℕ) (t : Fin cfg0.N) (arg2 : Memref sig .tc .vmem S512x4480 .fp8e4m3) (harg2 : arg2.IsWhole) (arg3 : Memref sig .tc .vmem S1x1x512 .f32) (harg3 : arg3.IsWhole) (arg4 : Memref sig .tc .vmem S4480x768 .fp8e4m3) (harg4 : arg4.IsWhole) (arg5 : Memref sig .tc .vmem S1x768 .f32) (harg5 : arg5.IsWhole) (arg6 : Memref sig .tc .vmem S512x768 .bf16) (harg6 : arg6.IsWhole) (arg7 : Memref sig .tc .vmem S512x768 .fp8e4m3) (harg7 : arg7.IsWhole) (arg8 : Memref sig .tc .vmem S1x1x512 .f32) (harg8 : arg8.IsWhole) (arg9 : Memref sig .tc .vmem S27x512x768 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (d5 : FVec F S512x768 .fp8e4m3) (d6 : FVec F S1x1x512 .f32) (Y : Vec F S27x512x768 .f32) (A I X : Vec F S512x128 .f32) (h : Inv m c t.val Y A I X)
    (hg : 27 ≤ t.val ∧ t.val < 864) (hz : t.val % 27 = 0) (K : PUnit → sProp 𝕄) :
    iprop(owns (c : Thread nD τ) arg2 fullShare (iblk m c 0 t) ∗ owns (c : Thread nD τ) arg3 fullShare (iblk m c 1 t) ∗ owns (c : Thread nD τ) arg4 fullShare (iblk m c 2 t) ∗ owns (c : Thread nD τ) arg5 fullShare (iblk m c 3 t) ∗ owns (c : Thread nD τ) arg6 fullShare (iblk m c 4 t) ∗ owns (c : Thread nD τ) arg7 fullShare d5 ∗ owns (c : Thread nD τ) arg8 fullShare d6 ∗ owns (c : Thread nD τ) arg9 fullShare Y ∗ owns (c : Thread nD τ) arg10 fullShare A ∗ owns (c : Thread nD τ) arg11 fullShare I ∗ owns (c : Thread nD τ) arg12 fullShare X
      ∗ (runPost m c t arg2 arg3 arg4 arg5 arg6 arg7 arg8 arg9 arg10 arg11 arg12 d5 d6 -∗ K ⟨⟩))
      ⊢ wp frame (wpE (defs₀ (F := F)) Variants.none c none) E (cc0_fp8_linear_requant (grid0.coords t) arg2 harg2 arg3 harg3 arg4 harg4 arg5 harg5 arg6 harg6 arg7 harg7 arg8 harg8 arg9 harg9 arg10 harg10 arg11 harg11 arg12 harg12) K := by
  have hN : t.val < 891 := N_eq ▸ t.isLt
  have hj : ((grid0.coords t) 1).val = t.val % 27 := coord1 t
  have hX : xsb (iblk m c 1 t) = xsb (iblk m c 1 (pt (27 * (t.val / 27)))) := by
    have := xs_start (m := m) (c := c) hz; rwa [pt_val] at this
  have hI : invTile A = invTile (accPrev m c t.val) := congrArg invTile (h.inv_start (by omega) hN hz)
  have hnext := h.next (by omega) (xsb (iblk m c 1 t)) (invTile A) hX (fun _ => hI) ⟨((grid0.coords t) 1).val, ((grid0.coords t) 1).isLt⟩ hj
  rw [pt_val] at hnext
  have h5 : quant (slab ⟨((grid0.coords t) 1).val, ((grid0.coords t) 1).isLt⟩ Y) (invTile A) = new5 m c t.val d5 :=
    (h.codes (by omega) hN (invTile A) hI _ hj).trans (if_neg (by omega)).symm
  have h6 : ysv A = new6 m c t.val d6 := (congrArg ysv (h.inv_start (by omega) hN hz)).trans (if_pos (by omega)).symm
  iintro ⟨H0, H1, H2, H3, H4, H5, H6, H7, H8, H9, H10, Hk⟩
  iapply (runC c E (grid0.coords t) arg2 harg2 arg3 harg3 arg4 harg4 arg5 harg5 arg6 harg6 arg7 harg7 arg8 harg8 arg9 harg9 arg10 harg10 arg11 harg11 arg12 harg12 (by rw [cond1_iff]; omega) ((cond2_iff t).mpr (by omega)) (by rw [cond3_iff]; omega) (by rw [cond4_iff]; omega) (by rw [cond5_iff]; omega)
    (iblk m c 0 t) (iblk m c 1 t) (iblk m c 2 t) (iblk m c 3 t) (iblk m c 4 t) d5 d6 Y A I X K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  iapply Hk
  unfold runPost
  iexists (put ⟨((grid0.coords t) 1).val, ((grid0.coords t) 1).isLt⟩ Y (yv (k0_pay50 (iblk m c 0 t) (iblk m c 2 t)) (xsb (iblk m c 1 t)) (iblk m c 3 t) (iblk m c 4 t))), (amaxNew ((grid0.coords t) 1).val A (yv (k0_pay50 (iblk m c 0 t) (iblk m c 2 t)) (xsb (iblk m c 1 t)) (iblk m c 3 t) (iblk m c 4 t))), (invTile A), (xsb (iblk m c 1 t))
  isplitr; · ipureintro; exact hnext
  isplitl [H0]; · iexact H0
  isplitl [H1]; · iexact H1
  isplitl [H2]; · iexact H2
  isplitl [H3]; · iexact H3
  isplitl [H4]; · iexact H4
  isplitl [H5]; · rw [← h5]; iexact H5
  isplitl [H6]; · rw [← h6]; iexact H6
  isplitl [H7]; · iexact H7
  isplitl [H8]; · iexact H8
  isplitl [H9]; · iexact H9
  iexact H10

theorem pointD (c : Dev nD) (E : Set ℕ) (t : Fin cfg0.N) (arg2 : Memref sig .tc .vmem S512x4480 .fp8e4m3) (harg2 : arg2.IsWhole) (arg3 : Memref sig .tc .vmem S1x1x512 .f32) (harg3 : arg3.IsWhole) (arg4 : Memref sig .tc .vmem S4480x768 .fp8e4m3) (harg4 : arg4.IsWhole) (arg5 : Memref sig .tc .vmem S1x768 .f32) (harg5 : arg5.IsWhole) (arg6 : Memref sig .tc .vmem S512x768 .bf16) (harg6 : arg6.IsWhole) (arg7 : Memref sig .tc .vmem S512x768 .fp8e4m3) (harg7 : arg7.IsWhole) (arg8 : Memref sig .tc .vmem S1x1x512 .f32) (harg8 : arg8.IsWhole) (arg9 : Memref sig .tc .vmem S27x512x768 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (d5 : FVec F S512x768 .fp8e4m3) (d6 : FVec F S1x1x512 .f32) (Y : Vec F S27x512x768 .f32) (A I X : Vec F S512x128 .f32) (h : Inv m c t.val Y A I X)
    (hg : 27 ≤ t.val ∧ t.val < 864) (hz : ¬ t.val % 27 = 0) (K : PUnit → sProp 𝕄) :
    iprop(owns (c : Thread nD τ) arg2 fullShare (iblk m c 0 t) ∗ owns (c : Thread nD τ) arg3 fullShare (iblk m c 1 t) ∗ owns (c : Thread nD τ) arg4 fullShare (iblk m c 2 t) ∗ owns (c : Thread nD τ) arg5 fullShare (iblk m c 3 t) ∗ owns (c : Thread nD τ) arg6 fullShare (iblk m c 4 t) ∗ owns (c : Thread nD τ) arg7 fullShare d5 ∗ owns (c : Thread nD τ) arg8 fullShare d6 ∗ owns (c : Thread nD τ) arg9 fullShare Y ∗ owns (c : Thread nD τ) arg10 fullShare A ∗ owns (c : Thread nD τ) arg11 fullShare I ∗ owns (c : Thread nD τ) arg12 fullShare X
      ∗ (runPost m c t arg2 arg3 arg4 arg5 arg6 arg7 arg8 arg9 arg10 arg11 arg12 d5 d6 -∗ K ⟨⟩))
      ⊢ wp frame (wpE (defs₀ (F := F)) Variants.none c none) E (cc0_fp8_linear_requant (grid0.coords t) arg2 harg2 arg3 harg3 arg4 harg4 arg5 harg5 arg6 harg6 arg7 harg7 arg8 harg8 arg9 harg9 arg10 harg10 arg11 harg11 arg12 harg12) K := by
  have hN : t.val < 891 := N_eq ▸ t.isLt
  have hj : ((grid0.coords t) 1).val = t.val % 27 := coord1 t
  have hX : X = xsb (iblk m c 1 (pt (27 * (t.val / 27)))) := h.xs (by omega) hz
  have hI : I = invTile (accPrev m c t.val) := h.inv (by omega) hz
  have hnext := h.next (by omega) X I hX (fun _ => hI) ⟨((grid0.coords t) 1).val, ((grid0.coords t) 1).isLt⟩ hj
  rw [pt_val] at hnext
  have h5 : quant (slab ⟨((grid0.coords t) 1).val, ((grid0.coords t) 1).isLt⟩ Y) I = new5 m c t.val d5 :=
    (h.codes (by omega) hN I hI _ hj).trans (if_neg (by omega)).symm
  have h6 : d6 = new6 m c t.val d6 := (if_neg (by omega)).symm
  iintro ⟨H0, H1, H2, H3, H4, H5, H6, H7, H8, H9, H10, Hk⟩
  iapply (runD c E (grid0.coords t) arg2 harg2 arg3 harg3 arg4 harg4 arg5 harg5 arg6 harg6 arg7 harg7 arg8 harg8 arg9 harg9 arg10 harg10 arg11 harg11 arg12 harg12 (by rw [cond1_iff]; omega) (fun h => absurd ((cond2_iff t).mp h) (by omega)) (by rw [cond3_iff]; omega) (by rw [cond4_iff]; omega) (by rw [cond5_iff]; omega)
    (iblk m c 0 t) (iblk m c 1 t) (iblk m c 2 t) (iblk m c 3 t) (iblk m c 4 t) d5 d6 Y A I X K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  iapply Hk
  unfold runPost
  iexists (put ⟨((grid0.coords t) 1).val, ((grid0.coords t) 1).isLt⟩ Y (yv (k0_pay50 (iblk m c 0 t) (iblk m c 2 t)) X (iblk m c 3 t) (iblk m c 4 t))), (amaxNew ((grid0.coords t) 1).val A (yv (k0_pay50 (iblk m c 0 t) (iblk m c 2 t)) X (iblk m c 3 t) (iblk m c 4 t))), I, X
  isplitr; · ipureintro; exact hnext
  isplitl [H0]; · iexact H0
  isplitl [H1]; · iexact H1
  isplitl [H2]; · iexact H2
  isplitl [H3]; · iexact H3
  isplitl [H4]; · iexact H4
  isplitl [H5]; · rw [← h5]; iexact H5
  isplitl [H6]; · rw [← h6]; iexact H6
  isplitl [H7]; · iexact H7
  isplitl [H8]; · iexact H8
  isplitl [H9]; · iexact H9
  iexact H10

theorem pointE (c : Dev nD) (E : Set ℕ) (t : Fin cfg0.N) (arg2 : Memref sig .tc .vmem S512x4480 .fp8e4m3) (harg2 : arg2.IsWhole) (arg3 : Memref sig .tc .vmem S1x1x512 .f32) (harg3 : arg3.IsWhole) (arg4 : Memref sig .tc .vmem S4480x768 .fp8e4m3) (harg4 : arg4.IsWhole) (arg5 : Memref sig .tc .vmem S1x768 .f32) (harg5 : arg5.IsWhole) (arg6 : Memref sig .tc .vmem S512x768 .bf16) (harg6 : arg6.IsWhole) (arg7 : Memref sig .tc .vmem S512x768 .fp8e4m3) (harg7 : arg7.IsWhole) (arg8 : Memref sig .tc .vmem S1x1x512 .f32) (harg8 : arg8.IsWhole) (arg9 : Memref sig .tc .vmem S27x512x768 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (d5 : FVec F S512x768 .fp8e4m3) (d6 : FVec F S1x1x512 .f32) (Y : Vec F S27x512x768 .f32) (A I X : Vec F S512x128 .f32) (h : Inv m c t.val Y A I X)
    (hg : 864 ≤ t.val) (hz : t.val % 27 = 0) (K : PUnit → sProp 𝕄) :
    iprop(owns (c : Thread nD τ) arg2 fullShare (iblk m c 0 t) ∗ owns (c : Thread nD τ) arg3 fullShare (iblk m c 1 t) ∗ owns (c : Thread nD τ) arg4 fullShare (iblk m c 2 t) ∗ owns (c : Thread nD τ) arg5 fullShare (iblk m c 3 t) ∗ owns (c : Thread nD τ) arg6 fullShare (iblk m c 4 t) ∗ owns (c : Thread nD τ) arg7 fullShare d5 ∗ owns (c : Thread nD τ) arg8 fullShare d6 ∗ owns (c : Thread nD τ) arg9 fullShare Y ∗ owns (c : Thread nD τ) arg10 fullShare A ∗ owns (c : Thread nD τ) arg11 fullShare I ∗ owns (c : Thread nD τ) arg12 fullShare X
      ∗ (runPost m c t arg2 arg3 arg4 arg5 arg6 arg7 arg8 arg9 arg10 arg11 arg12 d5 d6 -∗ K ⟨⟩))
      ⊢ wp frame (wpE (defs₀ (F := F)) Variants.none c none) E (cc0_fp8_linear_requant (grid0.coords t) arg2 harg2 arg3 harg3 arg4 harg4 arg5 harg5 arg6 harg6 arg7 harg7 arg8 harg8 arg9 harg9 arg10 harg10 arg11 harg11 arg12 harg12) K := by
  have hN : t.val < 891 := N_eq ▸ t.isLt
  have hj : ((grid0.coords t) 1).val = t.val % 27 := coord1 t
  have hI : invTile A = invTile (accPrev m c t.val) := congrArg invTile (h.inv_start (by omega) hN hz)
  have hnext := h.next' (by omega) (invTile A) hI
  have h5 : quant (slab ⟨((grid0.coords t) 1).val, ((grid0.coords t) 1).isLt⟩ Y) (invTile A) = new5 m c t.val d5 :=
    (h.codes (by omega) hN (invTile A) hI _ hj).trans (if_neg (by omega)).symm
  have h6 : ysv A = new6 m c t.val d6 := (congrArg ysv (h.inv_start (by omega) hN hz)).trans (if_pos (by omega)).symm
  iintro ⟨H0, H1, H2, H3, H4, H5, H6, H7, H8, H9, H10, Hk⟩
  iapply (runE c E (grid0.coords t) arg2 harg2 arg3 harg3 arg4 harg4 arg5 harg5 arg6 harg6 arg7 harg7 arg8 harg8 arg9 harg9 arg10 harg10 arg11 harg11 arg12 harg12 (by rw [cond1_iff]; omega) (fun h => absurd ((cond2_iff t).mp h) (by omega)) (by rw [cond3_iff]; omega) (by rw [cond4_iff]; omega) (by rw [cond5_iff]; omega)
    (iblk m c 0 t) (iblk m c 1 t) (iblk m c 2 t) (iblk m c 3 t) (iblk m c 4 t) d5 d6 Y A I X K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  iapply Hk
  unfold runPost
  iexists Y, A, (invTile A), X
  isplitr; · ipureintro; exact hnext
  isplitl [H0]; · iexact H0
  isplitl [H1]; · iexact H1
  isplitl [H2]; · iexact H2
  isplitl [H3]; · iexact H3
  isplitl [H4]; · iexact H4
  isplitl [H5]; · rw [← h5]; iexact H5
  isplitl [H6]; · rw [← h6]; iexact H6
  isplitl [H7]; · iexact H7
  isplitl [H8]; · iexact H8
  isplitl [H9]; · iexact H9
  iexact H10

theorem pointF (c : Dev nD) (E : Set ℕ) (t : Fin cfg0.N) (arg2 : Memref sig .tc .vmem S512x4480 .fp8e4m3) (harg2 : arg2.IsWhole) (arg3 : Memref sig .tc .vmem S1x1x512 .f32) (harg3 : arg3.IsWhole) (arg4 : Memref sig .tc .vmem S4480x768 .fp8e4m3) (harg4 : arg4.IsWhole) (arg5 : Memref sig .tc .vmem S1x768 .f32) (harg5 : arg5.IsWhole) (arg6 : Memref sig .tc .vmem S512x768 .bf16) (harg6 : arg6.IsWhole) (arg7 : Memref sig .tc .vmem S512x768 .fp8e4m3) (harg7 : arg7.IsWhole) (arg8 : Memref sig .tc .vmem S1x1x512 .f32) (harg8 : arg8.IsWhole) (arg9 : Memref sig .tc .vmem S27x512x768 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (d5 : FVec F S512x768 .fp8e4m3) (d6 : FVec F S1x1x512 .f32) (Y : Vec F S27x512x768 .f32) (A I X : Vec F S512x128 .f32) (h : Inv m c t.val Y A I X)
    (hg : 864 ≤ t.val) (hz : ¬ t.val % 27 = 0) (K : PUnit → sProp 𝕄) :
    iprop(owns (c : Thread nD τ) arg2 fullShare (iblk m c 0 t) ∗ owns (c : Thread nD τ) arg3 fullShare (iblk m c 1 t) ∗ owns (c : Thread nD τ) arg4 fullShare (iblk m c 2 t) ∗ owns (c : Thread nD τ) arg5 fullShare (iblk m c 3 t) ∗ owns (c : Thread nD τ) arg6 fullShare (iblk m c 4 t) ∗ owns (c : Thread nD τ) arg7 fullShare d5 ∗ owns (c : Thread nD τ) arg8 fullShare d6 ∗ owns (c : Thread nD τ) arg9 fullShare Y ∗ owns (c : Thread nD τ) arg10 fullShare A ∗ owns (c : Thread nD τ) arg11 fullShare I ∗ owns (c : Thread nD τ) arg12 fullShare X
      ∗ (runPost m c t arg2 arg3 arg4 arg5 arg6 arg7 arg8 arg9 arg10 arg11 arg12 d5 d6 -∗ K ⟨⟩))
      ⊢ wp frame (wpE (defs₀ (F := F)) Variants.none c none) E (cc0_fp8_linear_requant (grid0.coords t) arg2 harg2 arg3 harg3 arg4 harg4 arg5 harg5 arg6 harg6 arg7 harg7 arg8 harg8 arg9 harg9 arg10 harg10 arg11 harg11 arg12 harg12) K := by
  have hN : t.val < 891 := N_eq ▸ t.isLt
  have hj : ((grid0.coords t) 1).val = t.val % 27 := coord1 t
  have hI : I = invTile (accPrev m c t.val) := h.inv (by omega) hz
  have hnext := h.next' (by omega) I hI
  have h5 : quant (slab ⟨((grid0.coords t) 1).val, ((grid0.coords t) 1).isLt⟩ Y) I = new5 m c t.val d5 :=
    (h.codes (by omega) hN I hI _ hj).trans (if_neg (by omega)).symm
  have h6 : d6 = new6 m c t.val d6 := (if_neg (by omega)).symm
  iintro ⟨H0, H1, H2, H3, H4, H5, H6, H7, H8, H9, H10, Hk⟩
  iapply (runF c E (grid0.coords t) arg2 harg2 arg3 harg3 arg4 harg4 arg5 harg5 arg6 harg6 arg7 harg7 arg8 harg8 arg9 harg9 arg10 harg10 arg11 harg11 arg12 harg12 (by rw [cond1_iff]; omega) (fun h => absurd ((cond2_iff t).mp h) (by omega)) (by rw [cond3_iff]; omega) (by rw [cond4_iff]; omega) (by rw [cond5_iff]; omega)
    (iblk m c 0 t) (iblk m c 1 t) (iblk m c 2 t) (iblk m c 3 t) (iblk m c 4 t) d5 d6 Y A I X K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  iapply Hk
  unfold runPost
  iexists Y, A, I, X
  isplitr; · ipureintro; exact hnext
  isplitl [H0]; · iexact H0
  isplitl [H1]; · iexact H1
  isplitl [H2]; · iexact H2
  isplitl [H3]; · iexact H3
  isplitl [H4]; · iexact H4
  isplitl [H5]; · rw [← h5]; iexact H5
  isplitl [H6]; · rw [← h6]; iexact H6
  isplitl [H7]; · iexact H7
  isplitl [H8]; · iexact H8
  isplitl [H9]; · iexact H9
  iexact H10

/-- The body at any point. -/
theorem point (c : Dev nD) (E : Set ℕ) (t : Fin cfg0.N) (arg2 : Memref sig .tc .vmem S512x4480 .fp8e4m3) (harg2 : arg2.IsWhole) (arg3 : Memref sig .tc .vmem S1x1x512 .f32) (harg3 : arg3.IsWhole) (arg4 : Memref sig .tc .vmem S4480x768 .fp8e4m3) (harg4 : arg4.IsWhole) (arg5 : Memref sig .tc .vmem S1x768 .f32) (harg5 : arg5.IsWhole) (arg6 : Memref sig .tc .vmem S512x768 .bf16) (harg6 : arg6.IsWhole) (arg7 : Memref sig .tc .vmem S512x768 .fp8e4m3) (harg7 : arg7.IsWhole) (arg8 : Memref sig .tc .vmem S1x1x512 .f32) (harg8 : arg8.IsWhole) (arg9 : Memref sig .tc .vmem S27x512x768 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (d5 : FVec F S512x768 .fp8e4m3) (d6 : FVec F S1x1x512 .f32) (Y : Vec F S27x512x768 .f32) (A I X : Vec F S512x128 .f32) (h : Inv m c t.val Y A I X) (K : PUnit → sProp 𝕄) :
    iprop(owns (c : Thread nD τ) arg2 fullShare (iblk m c 0 t) ∗ owns (c : Thread nD τ) arg3 fullShare (iblk m c 1 t) ∗ owns (c : Thread nD τ) arg4 fullShare (iblk m c 2 t) ∗ owns (c : Thread nD τ) arg5 fullShare (iblk m c 3 t) ∗ owns (c : Thread nD τ) arg6 fullShare (iblk m c 4 t) ∗ owns (c : Thread nD τ) arg7 fullShare d5 ∗ owns (c : Thread nD τ) arg8 fullShare d6 ∗ owns (c : Thread nD τ) arg9 fullShare Y ∗ owns (c : Thread nD τ) arg10 fullShare A ∗ owns (c : Thread nD τ) arg11 fullShare I ∗ owns (c : Thread nD τ) arg12 fullShare X
      ∗ (runPost m c t arg2 arg3 arg4 arg5 arg6 arg7 arg8 arg9 arg10 arg11 arg12 d5 d6 -∗ K ⟨⟩))
      ⊢ wp frame (wpE (defs₀ (F := F)) Variants.none c none) E (cc0_fp8_linear_requant (grid0.coords t) arg2 harg2 arg3 harg3 arg4 harg4 arg5 harg5 arg6 harg6 arg7 harg7 arg8 harg8 arg9 harg9 arg10 harg10 arg11 harg11 arg12 harg12) K := by
  by_cases hz : t.val % 27 = 0
  · by_cases h1 : t.val < 27
    · exact pointA m c E t arg2 harg2 arg3 harg3 arg4 harg4 arg5 harg5 arg6 harg6 arg7 harg7 arg8 harg8 arg9 harg9 arg10 harg10 arg11 harg11 arg12 harg12 d5 d6 Y A I X h h1 hz K
    by_cases h2 : t.val < 864
    · exact pointC m c E t arg2 harg2 arg3 harg3 arg4 harg4 arg5 harg5 arg6 harg6 arg7 harg7 arg8 harg8 arg9 harg9 arg10 harg10 arg11 harg11 arg12 harg12 d5 d6 Y A I X h ⟨by omega, h2⟩ hz K
    · exact pointE m c E t arg2 harg2 arg3 harg3 arg4 harg4 arg5 harg5 arg6 harg6 arg7 harg7 arg8 harg8 arg9 harg9 arg10 harg10 arg11 harg11 arg12 harg12 d5 d6 Y A I X h (by omega) hz K
  · by_cases h1 : t.val < 27
    · exact pointB m c E t arg2 harg2 arg3 harg3 arg4 harg4 arg5 harg5 arg6 harg6 arg7 harg7 arg8 harg8 arg9 harg9 arg10 harg10 arg11 harg11 arg12 harg12 d5 d6 Y A I X h h1 hz K
    by_cases h2 : t.val < 864
    · exact pointD m c E t arg2 harg2 arg3 harg3 arg4 harg4 arg5 harg5 arg6 harg6 arg7 harg7 arg8 harg8 arg9 harg9 arg10 harg10 arg11 harg11 arg12 harg12 d5 d6 Y A I X h ⟨by omega, h2⟩ hz K
    · exact pointF m c E t arg2 harg2 arg3 harg3 arg4 harg4 arg5 harg5 arg6 harg6 arg7 harg7 arg8 harg8 arg9 harg9 arg10 harg10 arg11 harg11 arg12 harg12 d5 d6 Y A I X h (by omega) hz K

end Cert.KernelIdeal.Fn
-- ==== Proof.Data.lean ====
/-
  The proof data of the pipeline, the body obligation and the run: every fair execution ends, with every array at what
  the proof data says and every argument array unchanged.
-/
module

public import proofs.«01_k».proof.Proof.Point
public import Idealize.ShloMosaic.Lib.Claim

@[expose] public section

set_option maxRecDepth 16384

noncomputable section

namespace Cert.KernelIdeal.Fn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is kept before point `n`: the four buffers at contents as `Inv` says, and the generator register. -/
def Kept (c : Dev nD) (n : ℕ) : sProp 𝕄 :=
  iprop(∃ Y A I X, ⌜Inv m c n Y A I X⌝ ∗ owns (c : Thread nD τ) (Memref.whole cc0_scratch0) fullShare Y ∗ owns (c : Thread nD τ) (Memref.whole cc0_scratch1) fullShare A
    ∗ owns (c : Thread nD τ) (Memref.whole cc0_scratch2) fullShare I ∗ owns (c : Thread nD τ) (Memref.whole cc0_scratch3) fullShare X ∗ ∃ r, prngReg c r)

/-- The proof data on core `c`: the arrays as the region finds them; each input's window at its block, the results'
    windows at the codes and the scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => codesN m c t.val
    | ⟨6, _⟩ => scalesN m c t.val
  Φ t := Kept m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = codesN m c t.val := by dsimp only [dats]
theorem after0_6 (c : Dev nD) (t : Fin cfg0.N) : (dats m 0 c).after 6 t = scalesN m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The scales do not change along a row of points. -/
theorem scalesN_pred (c : Dev nD) (n : ℕ) (h : ¬ n % 27 = 0) : scalesN m c n = scalesN m c (n - 1) := by
  unfold scalesN accPrev; rw [show (n - 1) / 27 = n / 27 by omega]

/-- At the last point of a row the scales' window still holds what the row's first point left. -/
theorem before0_6 (c : Dev nD) (t : Fin cfg0.N) (h : 27 ≤ t.val) (h' : ¬ t.val % 27 = 0) (d) : (dats m 0 c).before 6 t d = scalesN m c t.val := by
  rw [(dats m 0 c).before_out_traj 6 rfl (fun _ _ => rfl) (fun t ht hi hf => by
    rw [after0_6, after0_6]
    rw [fresh6] at hf
    exact scalesN_pred m c t.val (by have := of_decide_eq_false hf; omega)) t.val t rfl d, fresh6, if_neg (by rw [decide_eq_true_eq]; omega), after0_6]
  exact (scalesN_pred m c t.val h').symm

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns: a result's window the point does not store into as found. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare (new5 m c t.val ((dats m 0 c).before 5 t d)))
    ∗ (∃ d, owns (c : Thread nD τ) (st0_6 t) fullShare (new6 m c t.val ((dats m 0 c).before 6 t d))))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = Kept m c t.val from rfl, show (dats m 0 c).Φ t.succ = Kept m c (t.val + 1) from rfl,
    show (dats m 0 c).owesAt () t.succ = (dats m 0 c).owesAt () t.castSucc from rfl, after0_0, after0_1, after0_2, after0_3, after0_4]
  unfold Kept
  iintro ⟨⟨%Y, %A, %I, %X, %hInv, H7, H8, H9, H10, Hr⟩, Ho, ⟨%d0, H0⟩, ⟨%d1, H1⟩, ⟨%d2, H2⟩, ⟨%d3, H3⟩, ⟨%d4, H4⟩, ⟨%d5, H5⟩, ⟨%d6, H6⟩⟩
  iapply (point m c Set.univ t _ _ _ _ _ _ _ _ _ _ _ _ _ _ _ _ _ _ _ _ _ _ ((dats m 0 c).before 5 t d5) ((dats m 0 c).before 6 t d6) Y A I X hInv _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold runPost
  iintro ⟨%Y', %A', %I', %X', %hInv', H0, H1, H2, H3, H4, H5, H6, H7, H8, H9, H10⟩
  isplitl [H7 H8 H9 H10 Hr]
  · iexists Y', A', I', X'
    isplitr; · ipureintro; exact hInv'
    isplitl [H7]; · iexact H7
    isplitl [H8]; · iexact H8
    isplitl [H9]; · iexact H9
    isplitl [H10]; · iexact H10
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  iexists d6; iexact H6

theorem defs₀_row (t : Fin cfg0.N) :
    defs₀ (F := F) .tc cfg0.body (cfg0.bodyArgs t (cfg0.slots t)) = bodyAt0 t := by
  unfold defs₀; rw [Defs.onTc_tc]

/-- What a point returns in the codes' window is what the library asks for, -/
theorem post5 (c : Dev nD) (t : Fin cfg0.N) :
    iprop(∃ d, owns (c : Thread nD τ) (st0_5 t) fullShare (new5 m c t.val ((dats m 0 c).before 5 t d))) ⊢ (match cfg0.idle 5 (cfg0.grid.coords t) with
      | true => match (cfg0.win 5).flush t with
        | false => iprop(∃ d, owns (c : Thread nD τ) (st0_5 t) fullShare ((dats m 0 c).before 5 t d))
        | true => owns (c : Thread nD τ) (st0_5 t) fullShare ((dats m 0 c).after 5 t)
      | false => owns (c : Thread nD τ) (st0_5 t) fullShare ((dats m 0 c).after 5 t) : sProp 𝕄) := by
  rw [idle5, flush5, after0_5]
  unfold new5
  by_cases h : t.val < 27
  · rw [decide_eq_true h, decide_eq_false (by omega)]
    simp only [if_pos h]
    exact .rfl
  · rw [decide_eq_false h]
    simp only [if_neg h]
    iintro ⟨%d, H⟩
    iexact H

/-- and in the scales' window. -/
theorem post6 (c : Dev nD) (t : Fin cfg0.N) :
    iprop(∃ d, owns (c : Thread nD τ) (st0_6 t) fullShare (new6 m c t.val ((dats m 0 c).before 6 t d))) ⊢ (match cfg0.idle 6 (cfg0.grid.coords t) with
      | true => match (cfg0.win 6).flush t with
        | false => iprop(∃ d, owns (c : Thread nD τ) (st0_6 t) fullShare ((dats m 0 c).before 6 t d))
        | true => owns (c : Thread nD τ) (st0_6 t) fullShare ((dats m 0 c).after 6 t)
      | false => owns (c : Thread nD τ) (st0_6 t) fullShare ((dats m 0 c).after 6 t) : sProp 𝕄) := by
  rw [idle6, flush6, after0_6]
  unfold new6
  by_cases h : 27 ≤ t.val ∧ t.val % 27 = 0
  · rw [decide_eq_false (not_not_intro h)]
    simp only [if_pos h]
    iintro ⟨%d, H⟩
    iexact H
  · rw [decide_eq_true h]
    simp only [if_neg h]
    by_cases h' : 27 ≤ t.val ∧ t.val % 27 = 26
    · rw [decide_eq_true h']
      simp only [before0_6 m c t h'.1 (by omega)]
      iintro ⟨%d, H⟩
      iexact H
    · rw [decide_eq_false h']

/-- The library's body obligation, at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HΦ, Ho, H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · ihave H := (post5 m c t) $$ H5; iexact H
  · ihave H := (post6 m c t) $$ H6; iexact H

/-- The kept buffers from the region's scoped buffers, -/
theorem kept_in (c : Dev nD) : (Pipeline.ΦA spec0 c : sProp 𝕄) ⊢ Kept m c 0 := by
  unfold Pipeline.ΦA Kept
  rw [scopedRest0_eq]
  iintro ⟨⟨⟨%Y, H7⟩, ⟨%A, H8⟩, ⟨%I, H9⟩, ⟨%X, H10⟩⟩, Hr⟩
  iexists Y, A, I, X
  isplitr; · ipureintro; exact inv_zero m c _ _ _ _
  rw [owns_whole, owns_whole, owns_whole, owns_whole]
  isplitl [H7]; · iexact H7
  isplitl [H8]; · iexact H8
  isplitl [H9]; · iexact H9
  isplitl [H10]; · iexact H10
  iexact Hr
/-- and back. -/
theorem kept_out (c : Dev nD) (n : ℕ) : Kept m c n ⊢ (Pipeline.ΦA spec0 c : sProp 𝕄) := by
  unfold Pipeline.ΦA Kept
  rw [scopedRest0_eq]
  simp only [owns_whole]
  iintro ⟨%Y, %A, %I, %X, %hI, H7, H8, H9, H10, Hr⟩
  isplitr [Hr]
  · isplitl [H7]; · iexists Y; iexact H7
    isplitl [H8]; · iexists A; iexact H8
    isplitl [H9]; · iexists I; iexact H9
    iexists X; iexact H10
  · iexact Hr

set_option backward.isDefEq.respectTransparency.types false in
set_option maxHeartbeats 800000 in
/-- The run: every fair execution ends, every array at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => kept_in m c) (hout := fun c => kept_out m c _)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Fn
-- ==== Proof.K.Fn.lean ====
/-
  What the kernel's body computes, as functions of the blocks it reads: the block of `y` (`yv`), the running maximum
  of `|y|` per row and lane (`mv`, `amaxNew`), the row scales and their inverses (`scaleTile`, `invTile`), and the
  quantised block (`quant`). Each printed payload is one of these, read at an index.
-/
module

public import proofs.«01_k».proof.Proof.Gen.Kernel.Skeleton
public import Idealize.ShloMosaic.Lib.PointwiseCore
public import Idealize.ShloMosaic.Lib.ValueIdxCore

@[expose] public section

set_option maxRecDepth 16384

noncomputable section

namespace Cert.Kernel.Fn

open Idealize.ShloMosaic Idealize.SL.Sem
open Cert.Kernel Cert.Kernel.Gen

variable {F : FTy → Type} [FloatOps F]

/-- The lane of a column. -/
abbrev lane (k : Fin 768) : Fin 128 := ⟨k.val % 128, Nat.mod_lt _ (by decide)⟩
/-- Column `l` of the 128-wide chunk `n`. -/
abbrev col (n : Fin 6) (l : Fin 128) : Fin 768 := ⟨128 * n.val + l.val, by omega⟩

theorem lane_col (n : Fin 6) (l : Fin 128) : lane (col n l) = l := Fin.ext (by simp only [lane, col]; omega)

/-- A tile of 128 lanes repeated over the 768 columns. -/
def laneB (X : Vec F S512x128 .f32) : FVec F S512x768 .f32 := fun k => X (ix2 (k 0) (lane (k 1)))
/-- A row of 768 columns repeated over the rows. -/
def rowB (w : Vec F S1x768 .f32) : FVec F S512x768 .f32 := fun k => w (ix2 (0 : Fin 1) (k 1))

/-- The block of `y`: the product `d` times the row scales, times the column scales, plus the residual. -/
def yv (d : FVec F S512x768 .f32) (X : Vec F S512x128 .f32) (w : Vec F S1x768 .f32) (e : Vec F S512x768 .bf16) : FVec F S512x768 .f32 :=
  addf (mulf (mulf d (laneB X)) (rowB w)) (extf .f32 e bitsLt_bf16_f32)

/-- The 128-wide chunk `n` of a block. -/
def chunk (y : FVec F S512x768 .f32) (n : Fin 6) : FVec F S512x128 .f32 := fun k => y (ix2 (k 0) (col n (k 1)))

/-- The largest `|y|` of a block by row and lane, over the six chunks. -/
def mv (y : FVec F S512x768 .f32) : FVec F S512x128 .f32 :=
  maximumf (maximumf (maximumf (maximumf (maximumf (absf (chunk y 0)) (absf (chunk y 1))) (absf (chunk y 2))) (absf (chunk y 3))) (absf (chunk y 4))) (absf (chunk y 5))

/-- The running maximum after column block `j`. -/
def amaxNew (j : ℕ) (A : Vec F S512x128 .f32) (y : FVec F S512x768 .f32) : FVec F S512x128 .f32 :=
  if j = 0 then mv y else maximumf (mv y) A

/-- The exponents of the row scales, from the running maximum. -/
def expTile (A : Vec F S512x128 .f32) : IVec S512x128 32 :=
  k0_pay21 (k0_pay18 (k0_pay13 A) (k0_pay14 A) (k0_pay15 A) (k0_pay16 A)) (k0_pay19 (k0_pay13 A) (k0_pay14 A) (k0_pay15 A) (k0_pay16 A)) k0_pay20
/-- The row scales, by row and lane. -/
def scaleTile (A : Vec F S512x128 .f32) : FVec F S512x128 .f32 :=
  k0_pay22 (k0_pay18 (k0_pay13 A) (k0_pay14 A) (k0_pay15 A) (k0_pay16 A)) (k0_pay19 (k0_pay13 A) (k0_pay14 A) (k0_pay15 A) (k0_pay16 A)) k0_pay20
/-- The inverse row scales, by row and lane. -/
def invTile (A : Vec F S512x128 .f32) : FVec F S512x128 .f32 :=
  k0_pay23 (k0_pay18 (k0_pay13 A) (k0_pay14 A) (k0_pay15 A) (k0_pay16 A)) (k0_pay19 (k0_pay13 A) (k0_pay14 A) (k0_pay15 A) (k0_pay16 A)) k0_pay20
/-- The row scales as the scale window holds them. -/
def ysv (A : Vec F S512x128 .f32) : FVec F S1x1x512 .f32 := fun k => scaleTile A (ix2 (k 2) (0 : Fin 128))
/-- The input row scales by row, the same in every lane. -/
def xsb (x : Vec F S1x1x512 .f32) : FVec F S512x128 .f32 := fun k => x (ix3 (0 : Fin 1) (0 : Fin 1) (k 0))

/-- A block of `y` quantised by the inverse row scales. -/
def quant (y : FVec F S512x768 .f32) (I : Vec F S512x128 .f32) : FVec F S512x768 .fp8e4m3 :=
  truncf .fp8e4m3 (minimumf (broadcast S512x768 (Scalar.ofBits .f32 0x43E00000#32)) (maximumf (broadcast S512x768 (Scalar.ofBits .f32 0xC3E00000#32)) (mulf y (laneB I)))) bitsLt_fp8e4m3_f32

/-- Column block `j` of the stored `y`. -/
def slab (j : Fin 27) (Y : Vec F S27x512x768 .f32) : FVec F S512x768 .f32 := fun k => Y (ix3 j (k 0) (k 1))
/-- The stored `y` with column block `j` replaced. -/
def put (j : Fin 27) (Y : Vec F S27x512x768 .f32) (y : FVec F S512x768 .f32) : Vec F S27x512x768 .f32 := fun k =>
  if (k 0).val = j.val then y (ix2 (k 1) (k 2)) else Y k

theorem put_self (j : Fin 27) (Y : Vec F S27x512x768 .f32) (y : FVec F S512x768 .f32) (a : Fin 27) (r : Fin 512) (l : Fin 768) (h : a.val = j.val) : put j Y y (ix3 a r l) = y (ix2 r l) := if_pos h
theorem put_ne (j : Fin 27) (Y : Vec F S27x512x768 .f32) (y : FVec F S512x768 .f32) (a : Fin 27) (r : Fin 512) (l : Fin 768) (h : ¬ a.val = j.val) : put j Y y (ix3 a r l) = Y (ix3 a r l) := if_neg h

/-! ## The payloads -/

/-- Chunk 0 of the block of `y`. -/
theorem yc0 (x0 : Vec F S512x4480 .fp8e4m3) (x2 : Vec F S4480x768 .fp8e4m3) (X : Vec F S512x128 .f32) (w : Vec F S1x768 .f32) (e : Vec F S512x768 .bf16)
    (w' : Vec F S1x128 .f32) (e' : Vec F S512x128 .bf16) (hw : ∀ l, w' (ix2 0 l) = w (ix2 0 (col 0 l))) (he : ∀ r l, e' (ix2 r l) = e (ix2 r (col 0 l))) :
    k0_pay52 (k0_pay51 x0 x2 X) w' e' = chunk (yv (k0_pay50 x0 x2) X w e) 0 := by
  funext k
  obtain ⟨r, l, rfl⟩ : ∃ (r : Fin 512) (l : Fin 128), k = ix2 r l := ⟨k 0, k 1, eq_ix2 k⟩
  pointwise [k0_pay52, k0_pay51, chunk, yv, laneB, rowB]
  rw [hw, he, lane_col]
  rw [show (col 0 l) = ⟨l.val, by omega⟩ from Fin.ext (by simp [col])]

/-- Chunk 1 of the block of `y`. -/
theorem yc1 (x0 : Vec F S512x4480 .fp8e4m3) (x2 : Vec F S4480x768 .fp8e4m3) (X : Vec F S512x128 .f32) (w : Vec F S1x768 .f32) (e : Vec F S512x768 .bf16)
    (w' : Vec F S1x128 .f32) (e' : Vec F S512x128 .bf16) (hw : ∀ l, w' (ix2 0 l) = w (ix2 0 (col 1 l))) (he : ∀ r l, e' (ix2 r l) = e (ix2 r (col 1 l))) :
    k0_pay54 (k0_pay50 x0 x2) X w' e' = chunk (yv (k0_pay50 x0 x2) X w e) 1 := by
  funext k
  obtain ⟨r, l, rfl⟩ : ∃ (r : Fin 512) (l : Fin 128), k = ix2 r l := ⟨k 0, k 1, eq_ix2 k⟩
  pointwise [k0_pay54, chunk, yv, laneB, rowB]
  rw [hw, he, lane_col]
  rfl

/-- Chunk 2 of the block of `y`. -/
theorem yc2 (x0 : Vec F S512x4480 .fp8e4m3) (x2 : Vec F S4480x768 .fp8e4m3) (X : Vec F S512x128 .f32) (w : Vec F S1x768 .f32) (e : Vec F S512x768 .bf16)
    (w' : Vec F S1x128 .f32) (e' : Vec F S512x128 .bf16) (hw : ∀ l, w' (ix2 0 l) = w (ix2 0 (col 2 l))) (he : ∀ r l, e' (ix2 r l) = e (ix2 r (col 2 l))) :
    k0_pay57 (k0_pay50 x0 x2) X w' e' = chunk (yv (k0_pay50 x0 x2) X w e) 2 := by
  funext k
  obtain ⟨r, l, rfl⟩ : ∃ (r : Fin 512) (l : Fin 128), k = ix2 r l := ⟨k 0, k 1, eq_ix2 k⟩
  pointwise [k0_pay57, chunk, yv, laneB, rowB]
  rw [hw, he, lane_col]
  rfl

/-- Chunk 3 of the block of `y`. -/
theorem yc3 (x0 : Vec F S512x4480 .fp8e4m3) (x2 : Vec F S4480x768 .fp8e4m3) (X : Vec F S512x128 .f32) (w : Vec F S1x768 .f32) (e : Vec F S512x768 .bf16)
    (w' : Vec F S1x128 .f32) (e' : Vec F S512x128 .bf16) (hw : ∀ l, w' (ix2 0 l) = w (ix2 0 (col 3 l))) (he : ∀ r l, e' (ix2 r l) = e (ix2 r (col 3 l))) :
    k0_pay59 (k0_pay50 x0 x2) X w' e' = chunk (yv (k0_pay50 x0 x2) X w e) 3 := by
  funext k
  obtain ⟨r, l, rfl⟩ : ∃ (r : Fin 512) (l : Fin 128), k = ix2 r l := ⟨k 0, k 1, eq_ix2 k⟩
  pointwise [k0_pay59, chunk, yv, laneB, rowB]
  rw [hw, he, lane_col]
  rfl

/-- Chunk 4 of the block of `y`. -/
theorem yc4 (x0 : Vec F S512x4480 .fp8e4m3) (x2 : Vec F S4480x768 .fp8e4m3) (X : Vec F S512x128 .f32) (w : Vec F S1x768 .f32) (e : Vec F S512x768 .bf16)
    (w' : Vec F S1x128 .f32) (e' : Vec F S512x128 .bf16) (hw : ∀ l, w' (ix2 0 l) = w (ix2 0 (col 4 l))) (he : ∀ r l, e' (ix2 r l) = e (ix2 r (col 4 l))) :
    k0_pay61 (k0_pay50 x0 x2) X w' e' = chunk (yv (k0_pay50 x0 x2) X w e) 4 := by
  funext k
  obtain ⟨r, l, rfl⟩ : ∃ (r : Fin 512) (l : Fin 128), k = ix2 r l := ⟨k 0, k 1, eq_ix2 k⟩
  pointwise [k0_pay61, chunk, yv, laneB, rowB]
  rw [hw, he, lane_col]
  rfl

/-- Chunk 5 of the block of `y`. -/
theorem yc5 (x0 : Vec F S512x4480 .fp8e4m3) (x2 : Vec F S4480x768 .fp8e4m3) (X : Vec F S512x128 .f32) (w : Vec F S1x768 .f32) (e : Vec F S512x768 .bf16)
    (w' : Vec F S1x128 .f32) (e' : Vec F S512x128 .bf16) (hw : ∀ l, w' (ix2 0 l) = w (ix2 0 (col 5 l))) (he : ∀ r l, e' (ix2 r l) = e (ix2 r (col 5 l))) :
    k0_pay64 (k0_pay50 x0 x2) X w' e' = chunk (yv (k0_pay50 x0 x2) X w e) 5 := by
  funext k
  obtain ⟨r, l, rfl⟩ : ∃ (r : Fin 512) (l : Fin 128), k = ix2 r l := ⟨k 0, k 1, eq_ix2 k⟩
  pointwise [k0_pay64, chunk, yv, laneB, rowB]
  rw [hw, he, lane_col]
  rfl

/-- A stored chunk of `y` has a leading axis of one. -/
theorem pay8_apply (c : FVec F S512x128 .f32) (k : S1x512x128.Idx) : k0_pay8 c k = c (ix2 (k 1) (k 2)) := by
  obtain ⟨z, r, l, rfl⟩ : ∃ (z : Fin 1) (r : Fin 512) (l : Fin 128), k = ix3 z r l := ⟨k 0, k 1, k 2, eq_ix3 k⟩
  pointwise [k0_pay8]

/-- The new running maximum, from the chunks. -/
theorem pay9_eq (i : grid0.Coords) (x0 : Vec F S512x4480 .fp8e4m3) (x2 : Vec F S4480x768 .fp8e4m3) (X : Vec F S512x128 .f32) (y : FVec F S512x768 .f32) (A : Vec F S512x128 .f32)
    (w0 w1 w2 w3 w4 w5 : Vec F S1x128 .f32) (e0 e1 e2 e3 e4 e5 : Vec F S512x128 .bf16)
    (h0 : k0_pay52 (k0_pay51 x0 x2 X) w0 e0 = chunk y 0) (h1 : k0_pay54 (k0_pay50 x0 x2) X w1 e1 = chunk y 1) (h2 : k0_pay57 (k0_pay50 x0 x2) X w2 e2 = chunk y 2)
    (h3 : k0_pay59 (k0_pay50 x0 x2) X w3 e3 = chunk y 3) (h4 : k0_pay61 (k0_pay50 x0 x2) X w4 e4 = chunk y 4) (h5 : k0_pay64 (k0_pay50 x0 x2) X w5 e5 = chunk y 5) :
    k0_pay9 i (k0_pay63 (k0_pay50 x0 x2) X (k0_pay56 (k0_pay50 x0 x2) X (k0_pay51 x0 x2 X) w0 e0 w1 e1) (k0_pay57 (k0_pay50 x0 x2) X w2 e2) w3 e3 w4 e4)
      (k0_pay64 (k0_pay50 x0 x2) X w5 e5) A = amaxNew (i 1).val A y := by
  unfold k0_pay9 k0_pay63 k0_pay56
  simp only [h0, h1, h2, h3, h4, h5, shapeCast_self]
  unfold amaxNew mv
  by_cases hj : (i 1).val = 0
  · rw [if_pos hj, hj]; rfl
  · rw [if_neg hj]
    have hb : Scalar.cmpi .eq (BitVec.ofNat 32 (i 1).val) 0#32 = 0#1 := by
      have hlt : (i 1).val < 27 := (i 1).isLt
      have : BitVec.ofNat 32 (i 1).val ≠ 0#32 := by
        intro h; apply hj; have := congrArg BitVec.toNat h
        simp only [BitVec.toNat_ofNat] at this; omega
      show BitVec.ofBool (BitVec.ofNat 32 (i 1).val == 0#32) = 0#1
      rw [beq_eq_false_iff_ne.mpr this]; rfl
    rw [hb]; rfl

/-- A quantised chunk. -/
theorem qc (n : Fin 6) (Y : FVec F S512x768 .f32) (I : Vec F S512x128 .f32) (y' : Vec F S1x512x128 .f32) (hy : ∀ r l, y' (ix3 0 r l) = Y (ix2 r (col n l))) (k : S512x128.Idx) :
    k0_pay43 I y' k = quant Y I (ix2 (k 0) (col n (k 1))) := by
  obtain ⟨r, l, rfl⟩ : ∃ (r : Fin 512) (l : Fin 128), k = ix2 r l := ⟨k 0, k 1, eq_ix2 k⟩
  pointwise [k0_pay43, quant, laneB]
  rw [hy, lane_col]

/-- A row of a 128-row chunk. -/
abbrev rowc (n : Fin 4) (l : Fin 128) : Fin 512 := ⟨128 * n.val + l.val, by omega⟩

/-- A chunk of the input row scales, spread over the lanes. -/
theorem xsc (n : Fin 4) (x : Vec F S1x1x512 .f32) (x' : Vec F S1x1x128 .f32) (hx : ∀ l : Fin 128, x' (ix3 0 0 l) = x (ix3 0 0 (rowc n l))) (k : S128x128.Idx) :
    k0_pay1 x' k = xsb x (ix2 (rowc n (k 0)) (k 1)) := by
  obtain ⟨r, l, rfl⟩ : ∃ (r l : Fin 128), k = ix2 r l := ⟨k 0, k 1, eq_ix2 k⟩
  pointwise [k0_pay1, xsb]
  rw [hx]

/-- Chunk 0 of the row scales in the scale window. -/
theorem ysc0 (a : IVec S512x128 1) (b c : IVec S512x128 32) (k : S1x1x128.Idx) :
    k0_pay24 a b c k = (k0_pay22 a b c : FVec F S512x128 .f32) (ix2 (rowc 0 (k 2)) 0) := by
  obtain ⟨z, z', l, rfl⟩ : ∃ (z z' : Fin 1) (l : Fin 128), k = ix3 z z' l := ⟨k 0, k 1, k 2, eq_ix3 k⟩
  unfold k0_pay24
  generalize (k0_pay22 a b c : FVec F S512x128 .f32) = s
  pointwise
  exact congrArg s (congrArg (fun r => ix2 r (0 : Fin 128)) (Fin.ext (by simp [rowc])))

/-- Chunk 1 of the row scales in the scale window. -/
theorem ysc1 (a : IVec S512x128 1) (b c : IVec S512x128 32) (k : S1x1x128.Idx) :
    k0_pay25 a b c k = (k0_pay22 a b c : FVec F S512x128 .f32) (ix2 (rowc 1 (k 2)) 0) := by
  obtain ⟨z, z', l, rfl⟩ : ∃ (z z' : Fin 1) (l : Fin 128), k = ix3 z z' l := ⟨k 0, k 1, k 2, eq_ix3 k⟩
  unfold k0_pay25
  generalize (k0_pay22 a b c : FVec F S512x128 .f32) = s
  pointwise
  exact congrArg s (congrArg (fun r => ix2 r (0 : Fin 128)) (Fin.ext (by simp [rowc])))

/-- Chunk 2 of the row scales in the scale window. -/
theorem ysc2 (a : IVec S512x128 1) (b c : IVec S512x128 32) (k : S1x1x128.Idx) :
    k0_pay26 a b c k = (k0_pay22 a b c : FVec F S512x128 .f32) (ix2 (rowc 2 (k 2)) 0) := by
  obtain ⟨z, z', l, rfl⟩ : ∃ (z z' : Fin 1) (l : Fin 128), k = ix3 z z' l := ⟨k 0, k 1, k 2, eq_ix3 k⟩
  unfold k0_pay26
  generalize (k0_pay22 a b c : FVec F S512x128 .f32) = s
  pointwise
  exact congrArg s (congrArg (fun r => ix2 r (0 : Fin 128)) (Fin.ext (by simp [rowc])))

/-- Chunk 3 of the row scales in the scale window. -/
theorem ysc3 (a : IVec S512x128 1) (b c : IVec S512x128 32) (k : S1x1x128.Idx) :
    k0_pay27 a b c k = (k0_pay22 a b c : FVec F S512x128 .f32) (ix2 (rowc 3 (k 2)) 0) := by
  obtain ⟨z, z', l, rfl⟩ : ∃ (z z' : Fin 1) (l : Fin 128), k = ix3 z z' l := ⟨k 0, k 1, k 2, eq_ix3 k⟩
  unfold k0_pay27
  generalize (k0_pay22 a b c : FVec F S512x128 .f32) = s
  pointwise
  exact congrArg s (congrArg (fun r => ix2 r (0 : Fin 128)) (Fin.ext (by simp [rowc])))

end Cert.Kernel.Fn
-- ==== Proof.K.Mem.lean ====
/-
  The body's loads and stores read back: a load of one chunk of a whole buffer, and a buffer after the stores of all
  its chunks.
-/
module

public import proofs.«01_k».proof.Proof.K.Fn
public import Idealize.ShloMosaic.Lib.Writes
public import Idealize.ShloMosaic.Lib.WholeRead
public import Idealize.ShloMosaic.Lib.VecWindow
public import Idealize.ShloMosaic.Lib.Pipeline.ValueKit.Tiles

@[expose] public section

set_option maxRecDepth 16384

noncomputable section

namespace Cert.Kernel.Fn

open Idealize.ShloMosaic Idealize.SL.Sem
open Cert.Kernel Cert.Kernel.Gen

variable {F : FTy → Type} [FloatOps F] {κ : Kind} {sp : Space}

/-! ## Loads -/

/-- The element of a rank-two rectangle, by its coordinates. -/
theorem emb2 {n0 n1 o0 o1 : ℕ} {size : Fin 2 → ℕ} (inb) (x) (r : Fin n0) (l : Fin n1) (hr : r.val = o0 + (x 0).val) (hl : l.val = o1 + (x 1).val) :
    ix2 r l = (Rect.unit (s := ⟨2, ![n0, n1]⟩) ![o0, o1] size inb).emb x := by
  funext a; apply Fin.ext; refine .trans ?_ (Rect.idx_unit_val _ _ inb x a).symm
  fin_cases a
  · exact hr
  · exact hl

/-- The element of a rank-three rectangle, by its coordinates. -/
theorem emb3 {n0 n1 n2 o0 o1 o2 : ℕ} {size : Fin 3 → ℕ} (inb) (x) (q : Fin n0) (r : Fin n1) (l : Fin n2) (hq : q.val = o0 + (x 0).val) (hr : r.val = o1 + (x 1).val) (hl : l.val = o2 + (x 2).val) :
    ix3 q r l = (Rect.unit (s := ⟨3, ![n0, n1, n2]⟩) ![o0, o1, o2] size inb).emb x := by
  funext a; apply Fin.ext; refine .trans ?_ (Rect.idx_unit_val _ _ inb x a).symm
  fin_cases a
  · exact hq
  · exact hr
  · exact hl

/-- A load of the whole of a rank-two buffer. -/
theorem ld2 {n0 n1 : ℕ} {e : EltTy} {M : Memref sig κ sp ⟨2, ![n0, n1]⟩ e} (h : M.IsWhole) (x : Vec F ⟨2, ![n0, n1]⟩ e) (inb) :
    View.readAt (Elt F) M.view (Rect.unit ![0, 0] ![n0, n1] inb).toLoadRect (h.unread x) = x := by
  funext k
  rw [h.readAt_unread]
  exact congrArg x ((emb2 inb k (k 0) (k 1) (Nat.zero_add _).symm (Nat.zero_add _).symm).symm.trans (eq_ix2 k).symm)

/-- A load of columns `o …` of a rank-two buffer. -/
theorem ld2c {n0 n1 m : ℕ} {e : EltTy} {M : Memref sig κ sp ⟨2, ![n0, n1]⟩ e} (h : M.IsWhole) (x : Vec F ⟨2, ![n0, n1]⟩ e) (o : ℕ) (inb)
    (r : Fin n0) (l : Fin m) (l' : Fin n1) (hl : l'.val = o + l.val) :
    View.readAt (Elt F) M.view (Rect.unit (s := ⟨2, ![n0, n1]⟩) ![0, o] ![n0, m] inb).toLoadRect (h.unread x) (ix2 r l) = x (ix2 r l') := by
  rw [h.readAt_unread]
  exact congrArg x (emb2 inb (ix2 r l) r l' (Nat.zero_add _).symm hl).symm

/-- A load of one chunk of one column block of a rank-three buffer. -/
theorem ld3c {n0 n1 n2 m : ℕ} {e : EltTy} {M : Memref sig κ sp ⟨3, ![n0, n1, n2]⟩ e} (h : M.IsWhole) (x : Vec F ⟨3, ![n0, n1, n2]⟩ e)
    (off : Fin 3 → ℕ) (inb) (j o : ℕ) (ho : off = ![j, 0, o]) (z : Fin 1) (r : Fin n1) (l : Fin m) (j' : Fin n0) (l' : Fin n2) (hj : j'.val = j) (hl : l'.val = o + l.val) :
    View.readAt (Elt F) M.view (Rect.unit (s := ⟨3, ![n0, n1, n2]⟩) off ![1, n1, m] inb).toLoadRect (h.unread x) (ix3 z r l) = x (ix3 j' r l') := by
  subst ho
  rw [h.readAt_unread]
  exact congrArg x (emb3 inb (ix3 z r l) j' r l' (by show j'.val = j + z.val; omega) (Nat.zero_add _).symm hl).symm

/-! ## Stores -/

/-- The codes window after the stores of its six chunks. -/
theorem codes_read (v : View sig κ sp S512x768 .fp8e4m3) (f : v.ty.Contents (Elt F)) (G : Vec F S512x768 .fp8e4m3) (p0 p1 p2 p3 p4 p5 : Vec F S512x128 .fp8e4m3) (i0 i1 i2 i3 i4 i5)
    (h0 : ∀ k : S512x128.Idx, p0 k = G (ix2 (k 0) (col 0 (k 1))))
    (h1 : ∀ k : S512x128.Idx, p1 k = G (ix2 (k 0) (col 1 (k 1))))
    (h2 : ∀ k : S512x128.Idx, p2 k = G (ix2 (k 0) (col 2 (k 1))))
    (h3 : ∀ k : S512x128.Idx, p3 k = G (ix2 (k 0) (col 3 (k 1))))
    (h4 : ∀ k : S512x128.Idx, p4 k = G (ix2 (k 0) (col 4 (k 1))))
    (h5 : ∀ k : S512x128.Idx, p5 k = G (ix2 (k 0) (col 5 (k 1))))
    : v.read (Elt F) (v.writes (Elt F) f [⟨Rect.unit ![0, 640] S512x128.size i5, p5⟩, ⟨Rect.unit ![0, 512] S512x128.size i4, p4⟩, ⟨Rect.unit ![0, 384] S512x128.size i3, p3⟩, ⟨Rect.unit ![0, 256] S512x128.size i2, p2⟩, ⟨Rect.unit ![0, 128] S512x128.size i1, p1⟩, ⟨Rect.unit ![0, 0] S512x128.size i0, p0⟩]) = G := by
  funext y
  refine View.read_writes_apply_of_pieces v f G _ ?_ y (View.cover_of_tiled (s := S512x768) _ ![512, 128] (by rfl) y)
  intro p hp x
  simp only [List.mem_cons, List.not_mem_nil, or_false] at hp
  rcases hp with rfl | rfl | rfl | rfl | rfl | rfl
  · exact (h5 x).trans (congrArg G (emb2 i5 x _ _ (Nat.zero_add _).symm rfl))
  · exact (h4 x).trans (congrArg G (emb2 i4 x _ _ (Nat.zero_add _).symm rfl))
  · exact (h3 x).trans (congrArg G (emb2 i3 x _ _ (Nat.zero_add _).symm rfl))
  · exact (h2 x).trans (congrArg G (emb2 i2 x _ _ (Nat.zero_add _).symm rfl))
  · exact (h1 x).trans (congrArg G (emb2 i1 x _ _ (Nat.zero_add _).symm rfl))
  · exact (h0 x).trans (congrArg G (emb2 i0 x _ _ (Nat.zero_add _).symm rfl))

/-- The row-scale tile after the stores of its four row chunks. -/
theorem xsb_read (v : View sig κ sp S512x128 .f32) (f : v.ty.Contents (Elt F)) (G : Vec F S512x128 .f32) (p0 p1 p2 p3 : Vec F S128x128 .f32) (i0 i1 i2 i3)
    (h0 : ∀ k : S128x128.Idx, p0 k = G (ix2 (rowc 0 (k 0)) (k 1)))
    (h1 : ∀ k : S128x128.Idx, p1 k = G (ix2 (rowc 1 (k 0)) (k 1)))
    (h2 : ∀ k : S128x128.Idx, p2 k = G (ix2 (rowc 2 (k 0)) (k 1)))
    (h3 : ∀ k : S128x128.Idx, p3 k = G (ix2 (rowc 3 (k 0)) (k 1)))
    : v.read (Elt F) (v.writes (Elt F) f [⟨Rect.unit ![384, 0] S128x128.size i3, p3⟩, ⟨Rect.unit ![256, 0] S128x128.size i2, p2⟩, ⟨Rect.unit ![128, 0] S128x128.size i1, p1⟩, ⟨Rect.unit ![0, 0] S128x128.size i0, p0⟩]) = G := by
  funext y
  refine View.read_writes_apply_of_pieces v f G _ ?_ y (View.cover_of_tiled (s := S512x128) _ ![128, 128] (by rfl) y)
  intro p hp x
  simp only [List.mem_cons, List.not_mem_nil, or_false] at hp
  rcases hp with rfl | rfl | rfl | rfl
  · exact (h3 x).trans (congrArg G (emb2 i3 x _ _ rfl (Nat.zero_add _).symm))
  · exact (h2 x).trans (congrArg G (emb2 i2 x _ _ rfl (Nat.zero_add _).symm))
  · exact (h1 x).trans (congrArg G (emb2 i1 x _ _ rfl (Nat.zero_add _).symm))
  · exact (h0 x).trans (congrArg G (emb2 i0 x _ _ rfl (Nat.zero_add _).symm))

/-- The scale window after the stores of its four chunks. -/
theorem ys_read (v : View sig κ sp S1x1x512 .f32) (f : v.ty.Contents (Elt F)) (G : Vec F S1x1x512 .f32) (p0 p1 p2 p3 : Vec F S1x1x128 .f32) (i0 i1 i2 i3)
    (h0 : ∀ k : S1x1x128.Idx, p0 k = G (ix3 0 0 (rowc 0 (k 2))))
    (h1 : ∀ k : S1x1x128.Idx, p1 k = G (ix3 0 0 (rowc 1 (k 2))))
    (h2 : ∀ k : S1x1x128.Idx, p2 k = G (ix3 0 0 (rowc 2 (k 2))))
    (h3 : ∀ k : S1x1x128.Idx, p3 k = G (ix3 0 0 (rowc 3 (k 2))))
    : v.read (Elt F) (v.writes (Elt F) f [⟨Rect.unit ![0, 0, 384] S1x1x128.size i3, p3⟩, ⟨Rect.unit ![0, 0, 256] S1x1x128.size i2, p2⟩, ⟨Rect.unit ![0, 0, 128] S1x1x128.size i1, p1⟩, ⟨Rect.unit ![0, 0, 0] S1x1x128.size i0, p0⟩]) = G := by
  funext y
  refine View.read_writes_apply_of_pieces v f G _ ?_ y (View.cover_of_tiled (s := S1x1x512) _ ![1, 1, 128] (by rfl) y)
  intro p hp x
  simp only [List.mem_cons, List.not_mem_nil, or_false] at hp
  rcases hp with rfl | rfl | rfl | rfl
  · exact (h3 x).trans (congrArg G (emb3 i3 x _ _ _ (by have : (x 0).val < 1 := (x 0).isLt; show 0 = 0 + (x 0).val; omega) (by have : (x 1).val < 1 := (x 1).isLt; show 0 = 0 + (x 1).val; omega) rfl))
  · exact (h2 x).trans (congrArg G (emb3 i2 x _ _ _ (by have : (x 0).val < 1 := (x 0).isLt; show 0 = 0 + (x 0).val; omega) (by have : (x 1).val < 1 := (x 1).isLt; show 0 = 0 + (x 1).val; omega) rfl))
  · exact (h1 x).trans (congrArg G (emb3 i1 x _ _ _ (by have : (x 0).val < 1 := (x 0).isLt; show 0 = 0 + (x 0).val; omega) (by have : (x 1).val < 1 := (x 1).isLt; show 0 = 0 + (x 1).val; omega) rfl))
  · exact (h0 x).trans (congrArg G (emb3 i0 x _ _ _ (by have : (x 0).val < 1 := (x 0).isLt; show 0 = 0 + (x 0).val; omega) (by have : (x 1).val < 1 := (x 1).isLt; show 0 = 0 + (x 1).val; omega) rfl))

/-- The stored `y` after the stores of the six chunks of one column block. -/
theorem y_read {M : Memref sig κ sp S27x512x768 .f32} (h : M.IsWhole) (Y : Vec F S27x512x768 .f32) (j : Fin 27) (y : FVec F S512x768 .f32)
    (o0 o1 o2 o3 o4 o5 : Fin 3 → ℕ) (p0 p1 p2 p3 p4 p5 : Vec F S1x512x128 .f32) (i0 i1 i2 i3 i4 i5)
    (e0 : o0 = ![j.val, 0, 0]) (e1 : o1 = ![j.val, 0, 128]) (e2 : o2 = ![j.val, 0, 256]) (e3 : o3 = ![j.val, 0, 384]) (e4 : o4 = ![j.val, 0, 512]) (e5 : o5 = ![j.val, 0, 640])
    (h0 : ∀ k : S1x512x128.Idx, p0 k = y (ix2 (k 1) (col 0 (k 2))))
    (h1 : ∀ k : S1x512x128.Idx, p1 k = y (ix2 (k 1) (col 1 (k 2))))
    (h2 : ∀ k : S1x512x128.Idx, p2 k = y (ix2 (k 1) (col 2 (k 2))))
    (h3 : ∀ k : S1x512x128.Idx, p3 k = y (ix2 (k 1) (col 3 (k 2))))
    (h4 : ∀ k : S1x512x128.Idx, p4 k = y (ix2 (k 1) (col 4 (k 2))))
    (h5 : ∀ k : S1x512x128.Idx, p5 k = y (ix2 (k 1) (col 5 (k 2))))
    : M.view.read (Elt F) (M.view.writes (Elt F) (h.unread Y) [⟨Rect.unit (s := S27x512x768) o5 S1x512x128.size i5, p5⟩, ⟨Rect.unit (s := S27x512x768) o4 S1x512x128.size i4, p4⟩, ⟨Rect.unit (s := S27x512x768) o3 S1x512x128.size i3, p3⟩, ⟨Rect.unit (s := S27x512x768) o2 S1x512x128.size i2, p2⟩, ⟨Rect.unit (s := S27x512x768) o1 S1x512x128.size i1, p1⟩, ⟨Rect.unit (s := S27x512x768) o0 S1x512x128.size i0, p0⟩]) = put j Y y := by
  subst e0 e1 e2 e3 e4 e5
  funext k
  obtain ⟨a, r, l, rfl⟩ : ∃ (a : Fin 27) (r : Fin 512) (l : Fin 768), k = ix3 a r l := ⟨k 0, k 1, k 2, eq_ix3 k⟩
  by_cases ha : a.val = j.val
  · refine (View.read_writes_apply_of_pieces M.view _ (put j Y y) _ ?_ _ ?_)
    · intro p hp x
      simp only [List.mem_cons, List.not_mem_nil, or_false] at hp
      rcases hp with rfl | rfl | rfl | rfl | rfl | rfl
      · have hz : (x 0).val = 0 := by have : (x 0).val < 1 := (x 0).isLt; omega
        refine (h5 x).trans ((put_self j Y y _ _ _ rfl).symm.trans (congrArg (put j Y y) (emb3 i5 x j _ _ ?_ (Nat.zero_add _).symm rfl)))
        show j.val = j.val + (x 0).val
        omega
      · have hz : (x 0).val = 0 := by have : (x 0).val < 1 := (x 0).isLt; omega
        refine (h4 x).trans ((put_self j Y y _ _ _ rfl).symm.trans (congrArg (put j Y y) (emb3 i4 x j _ _ ?_ (Nat.zero_add _).symm rfl)))
        show j.val = j.val + (x 0).val
        omega
      · have hz : (x 0).val = 0 := by have : (x 0).val < 1 := (x 0).isLt; omega
        refine (h3 x).trans ((put_self j Y y _ _ _ rfl).symm.trans (congrArg (put j Y y) (emb3 i3 x j _ _ ?_ (Nat.zero_add _).symm rfl)))
        show j.val = j.val + (x 0).val
        omega
      · have hz : (x 0).val = 0 := by have : (x 0).val < 1 := (x 0).isLt; omega
        refine (h2 x).trans ((put_self j Y y _ _ _ rfl).symm.trans (congrArg (put j Y y) (emb3 i2 x j _ _ ?_ (Nat.zero_add _).symm rfl)))
        show j.val = j.val + (x 0).val
        omega
      · have hz : (x 0).val = 0 := by have : (x 0).val < 1 := (x 0).isLt; omega
        refine (h1 x).trans ((put_self j Y y _ _ _ rfl).symm.trans (congrArg (put j Y y) (emb3 i1 x j _ _ ?_ (Nat.zero_add _).symm rfl)))
        show j.val = j.val + (x 0).val
        omega
      · have hz : (x 0).val = 0 := by have : (x 0).val < 1 := (x 0).isLt; omega
        refine (h0 x).trans ((put_self j Y y _ _ _ rfl).symm.trans (congrArg (put j Y y) (emb3 i0 x j _ _ ?_ (Nat.zero_add _).symm rfl)))
        show j.val = j.val + (x 0).val
        omega
    · obtain ⟨n, hn⟩ : ∃ n : Fin 6, 128 * n.val ≤ l.val ∧ l.val < 128 * n.val + 128 := ⟨⟨l.val / 128, by omega⟩, by simp only; omega, by simp only; omega⟩
      have hm : ∀ (o : ℕ) (inb), o ≤ l.val → l.val < o + 128 → ix3 a r l ∈ (Rect.unit (s := S27x512x768) ![j.val, 0, o] S1x512x128.size inb).set := by
        intro o inb h1 h2
        rw [Rect.mem_set_unit]
        intro q
        fin_cases q
        · show j.val ≤ a.val ∧ a.val < j.val + 1; omega
        · show 0 ≤ r.val ∧ r.val < 0 + 512; omega
        · exact ⟨h1, h2⟩
      fin_cases n
      · exact ⟨_, (List.mem_cons_of_mem _ (List.mem_cons_of_mem _ (List.mem_cons_of_mem _ (List.mem_cons_of_mem _ (List.mem_cons_of_mem _ (List.mem_cons_self)))))), hm 0 i0 hn.1 hn.2⟩
      · exact ⟨_, (List.mem_cons_of_mem _ (List.mem_cons_of_mem _ (List.mem_cons_of_mem _ (List.mem_cons_of_mem _ (List.mem_cons_self))))), hm 128 i1 hn.1 hn.2⟩
      · exact ⟨_, (List.mem_cons_of_mem _ (List.mem_cons_of_mem _ (List.mem_cons_of_mem _ (List.mem_cons_self)))), hm 256 i2 hn.1 hn.2⟩
      · exact ⟨_, (List.mem_cons_of_mem _ (List.mem_cons_of_mem _ (List.mem_cons_self))), hm 384 i3 hn.1 hn.2⟩
      · exact ⟨_, (List.mem_cons_of_mem _ (List.mem_cons_self)), hm 512 i4 hn.1 hn.2⟩
      · exact ⟨_, (List.mem_cons_self), hm 640 i5 hn.1 hn.2⟩
  · rw [View.read_writes_apply_of_forall_not_mem M.view _ _ _ (by
      intro p hp hm
      simp only [List.mem_cons, List.not_mem_nil, or_false] at hp
      have hx : ∀ (o : ℕ) (inb), ¬ ix3 a r l ∈ (Rect.unit (s := S27x512x768) ![j.val, 0, o] S1x512x128.size inb).set := by
        intro o inb hm
        rw [Rect.mem_set_unit] at hm
        have : j.val ≤ a.val ∧ a.val < j.val + 1 := hm 0
        omega
      rcases hp with rfl | rfl | rfl | rfl | rfl | rfl
      · exact hx _ i5 hm
      · exact hx _ i4 hm
      · exact hx _ i3 hm
      · exact hx _ i2 hm
      · exact hx _ i1 hm
      · exact hx _ i0 hm
      ), h.read_unread, put_ne j Y y _ _ _ ha]

/-! ## The payloads at the loads -/

/-- A chunk of the codes, from the loaded chunk of `y`. -/
theorem qcr (n : Fin 6) {M : Memref sig κ sp S27x512x768 .f32} (h : M.IsWhole) (Y : Vec F S27x512x768 .f32) (j : Fin 27) (I I' : Vec F S512x128 .f32) (hI : I' = I)
    (off : Fin 3 → ℕ) (inb) (ho : off = ![j.val, 0, 128 * n.val]) (k : S512x128.Idx) :
    k0_pay43 I' (View.readAt (Elt F) M.view (Rect.unit (s := S27x512x768) off S1x512x128.size inb).toLoadRect (h.unread Y)) k = quant (slab j Y) I (ix2 (k 0) (col n (k 1))) := by
  subst hI
  exact qc n _ _ _ (fun r l => ld3c h Y off inb _ _ ho 0 r l j (col n l) rfl rfl) k

/-- A stored chunk of `y`. -/
theorem ypr (n : Fin 6) (y : FVec F S512x768 .f32) (c : FVec F S512x128 .f32) (h : c = chunk y n) (k : S1x512x128.Idx) :
    k0_pay8 c k = y (ix2 (k 1) (col n (k 2))) := by
  rw [pay8_apply, h]; rfl

section Loads
variable {M2 : Memref sig κ sp S512x4480 .fp8e4m3} (h2 : M2.IsWhole) {M4 : Memref sig κ sp S4480x768 .fp8e4m3} (h4 : M4.IsWhole) {M5 : Memref sig κ sp S1x768 .f32} (h5 : M5.IsWhole) {M6 : Memref sig κ sp S512x768 .bf16} (h6 : M6.IsWhole)
  (x0 : Vec F S512x4480 .fp8e4m3) (x2 : Vec F S4480x768 .fp8e4m3) (x3 : Vec F S1x768 .f32) (x4 : Vec F S512x768 .bf16)

/-- The left operand as loaded. -/
abbrev L2 := View.readAt (Elt F) M2.view (Rect.unit (s := S512x4480) ![0, 0] S512x4480.size inb_S512x4480_S512x4480_0_0).toLoadRect (h2.unread x0)
/-- The right operand as loaded. -/
abbrev L4 := View.readAt (Elt F) M4.view (Rect.unit (s := S4480x768) ![0, 0] S4480x768.size inb_S4480x768_S4480x768_0_0).toLoadRect (h4.unread x2)
/-- Chunk 0 of the column scales as loaded. -/
abbrev L5_0 := View.readAt (Elt F) M5.view (Rect.unit (s := S1x768) ![0, 0] S1x128.size inb_S1x768_S1x128_0_0).toLoadRect (h5.unread x3)
/-- Chunk 0 of the residual as loaded. -/
abbrev L6_0 := View.readAt (Elt F) M6.view (Rect.unit (s := S512x768) ![0, 0] S512x128.size inb_S512x768_S512x128_0_0).toLoadRect (h6.unread x4)
/-- Chunk 1 of the column scales as loaded. -/
abbrev L5_1 := View.readAt (Elt F) M5.view (Rect.unit (s := S1x768) ![0, 128] S1x128.size inb_S1x768_S1x128_0_128).toLoadRect (h5.unread x3)
/-- Chunk 1 of the residual as loaded. -/
abbrev L6_1 := View.readAt (Elt F) M6.view (Rect.unit (s := S512x768) ![0, 128] S512x128.size inb_S512x768_S512x128_0_128).toLoadRect (h6.unread x4)
/-- Chunk 2 of the column scales as loaded. -/
abbrev L5_2 := View.readAt (Elt F) M5.view (Rect.unit (s := S1x768) ![0, 256] S1x128.size inb_S1x768_S1x128_0_256).toLoadRect (h5.unread x3)
/-- Chunk 2 of the residual as loaded. -/
abbrev L6_2 := View.readAt (Elt F) M6.view (Rect.unit (s := S512x768) ![0, 256] S512x128.size inb_S512x768_S512x128_0_256).toLoadRect (h6.unread x4)
/-- Chunk 3 of the column scales as loaded. -/
abbrev L5_3 := View.readAt (Elt F) M5.view (Rect.unit (s := S1x768) ![0, 384] S1x128.size inb_S1x768_S1x128_0_384).toLoadRect (h5.unread x3)
/-- Chunk 3 of the residual as loaded. -/
abbrev L6_3 := View.readAt (Elt F) M6.view (Rect.unit (s := S512x768) ![0, 384] S512x128.size inb_S512x768_S512x128_0_384).toLoadRect (h6.unread x4)
/-- Chunk 4 of the column scales as loaded. -/
abbrev L5_4 := View.readAt (Elt F) M5.view (Rect.unit (s := S1x768) ![0, 512] S1x128.size inb_S1x768_S1x128_0_512).toLoadRect (h5.unread x3)
/-- Chunk 4 of the residual as loaded. -/
abbrev L6_4 := View.readAt (Elt F) M6.view (Rect.unit (s := S512x768) ![0, 512] S512x128.size inb_S512x768_S512x128_0_512).toLoadRect (h6.unread x4)
/-- Chunk 5 of the column scales as loaded. -/
abbrev L5_5 := View.readAt (Elt F) M5.view (Rect.unit (s := S1x768) ![0, 640] S1x128.size inb_S1x768_S1x128_0_640).toLoadRect (h5.unread x3)
/-- Chunk 5 of the residual as loaded. -/
abbrev L6_5 := View.readAt (Elt F) M6.view (Rect.unit (s := S512x768) ![0, 640] S512x128.size inb_S512x768_S512x128_0_640).toLoadRect (h6.unread x4)

/-- Chunk 0 of the block of `y`, from the loads. -/
theorem ych0 (X X' : Vec F S512x128 .f32) (hX : X' = X) :
    k0_pay52 (k0_pay51 (L2 h2 x0) (L4 h4 x2) X') (L5_0 h5 x3) (L6_0 h6 x4) = chunk (yv (k0_pay50 x0 x2) X x3 x4) 0 := by
  subst hX
  rw [show L2 h2 x0 = x0 from ld2 h2 x0 _, show L4 h4 x2 = x2 from ld2 h4 x2 _]
  exact yc0 x0 x2 X' x3 x4 _ _ (fun l => ld2c h5 x3 0 _ 0 l (col 0 l) rfl) (fun r l => ld2c h6 x4 0 _ r l (col 0 l) rfl)

/-- Chunk 1 of the block of `y`, from the loads. -/
theorem ych1 (X X' : Vec F S512x128 .f32) (hX : X' = X) :
    k0_pay54 (k0_pay50 (L2 h2 x0) (L4 h4 x2)) X' (L5_1 h5 x3) (L6_1 h6 x4) = chunk (yv (k0_pay50 x0 x2) X x3 x4) 1 := by
  subst hX
  rw [show L2 h2 x0 = x0 from ld2 h2 x0 _, show L4 h4 x2 = x2 from ld2 h4 x2 _]
  exact yc1 x0 x2 X' x3 x4 _ _ (fun l => ld2c h5 x3 128 _ 0 l (col 1 l) rfl) (fun r l => ld2c h6 x4 128 _ r l (col 1 l) rfl)

/-- Chunk 2 of the block of `y`, from the loads. -/
theorem ych2 (X X' : Vec F S512x128 .f32) (hX : X' = X) :
    k0_pay57 (k0_pay50 (L2 h2 x0) (L4 h4 x2)) X' (L5_2 h5 x3) (L6_2 h6 x4) = chunk (yv (k0_pay50 x0 x2) X x3 x4) 2 := by
  subst hX
  rw [show L2 h2 x0 = x0 from ld2 h2 x0 _, show L4 h4 x2 = x2 from ld2 h4 x2 _]
  exact yc2 x0 x2 X' x3 x4 _ _ (fun l => ld2c h5 x3 256 _ 0 l (col 2 l) rfl) (fun r l => ld2c h6 x4 256 _ r l (col 2 l) rfl)

/-- Chunk 3 of the block of `y`, from the loads. -/
theorem ych3 (X X' : Vec F S512x128 .f32) (hX : X' = X) :
    k0_pay59 (k0_pay50 (L2 h2 x0) (L4 h4 x2)) X' (L5_3 h5 x3) (L6_3 h6 x4) = chunk (yv (k0_pay50 x0 x2) X x3 x4) 3 := by
  subst hX
  rw [show L2 h2 x0 = x0 from ld2 h2 x0 _, show L4 h4 x2 = x2 from ld2 h4 x2 _]
  exact yc3 x0 x2 X' x3 x4 _ _ (fun l => ld2c h5 x3 384 _ 0 l (col 3 l) rfl) (fun r l => ld2c h6 x4 384 _ r l (col 3 l) rfl)

/-- Chunk 4 of the block of `y`, from the loads. -/
theorem ych4 (X X' : Vec F S512x128 .f32) (hX : X' = X) :
    k0_pay61 (k0_pay50 (L2 h2 x0) (L4 h4 x2)) X' (L5_4 h5 x3) (L6_4 h6 x4) = chunk (yv (k0_pay50 x0 x2) X x3 x4) 4 := by
  subst hX
  rw [show L2 h2 x0 = x0 from ld2 h2 x0 _, show L4 h4 x2 = x2 from ld2 h4 x2 _]
  exact yc4 x0 x2 X' x3 x4 _ _ (fun l => ld2c h5 x3 512 _ 0 l (col 4 l) rfl) (fun r l => ld2c h6 x4 512 _ r l (col 4 l) rfl)

/-- Chunk 5 of the block of `y`, from the loads. -/
theorem ych5 (X X' : Vec F S512x128 .f32) (hX : X' = X) :
    k0_pay64 (k0_pay50 (L2 h2 x0) (L4 h4 x2)) X' (L5_5 h5 x3) (L6_5 h6 x4) = chunk (yv (k0_pay50 x0 x2) X x3 x4) 5 := by
  subst hX
  rw [show L2 h2 x0 = x0 from ld2 h2 x0 _, show L4 h4 x2 = x2 from ld2 h4 x2 _]
  exact yc5 x0 x2 X' x3 x4 _ _ (fun l => ld2c h5 x3 640 _ 0 l (col 5 l) rfl) (fun r l => ld2c h6 x4 640 _ r l (col 5 l) rfl)

/-- The new running maximum, from the loads. -/
theorem amr (i : grid0.Coords) (X X' A A' : Vec F S512x128 .f32) (hX : X' = X) (hA : A' = A) :
    k0_pay9 i (k0_pay63 (k0_pay50 (L2 h2 x0) (L4 h4 x2)) X' (k0_pay56 (k0_pay50 (L2 h2 x0) (L4 h4 x2)) X' (k0_pay51 (L2 h2 x0) (L4 h4 x2) X') (L5_0 h5 x3) (L6_0 h6 x4) (L5_1 h5 x3) (L6_1 h6 x4)) (k0_pay57 (k0_pay50 (L2 h2 x0) (L4 h4 x2)) X' (L5_2 h5 x3) (L6_2 h6 x4)) (L5_3 h5 x3) (L6_3 h6 x4) (L5_4 h5 x3) (L6_4 h6 x4))
      (k0_pay64 (k0_pay50 (L2 h2 x0) (L4 h4 x2)) X' (L5_5 h5 x3) (L6_5 h6 x4)) A' = amaxNew (i 1).val A (yv (k0_pay50 x0 x2) X x3 x4) := by
  subst hA
  exact pay9_eq i _ _ X' _ A' _ _ _ _ _ _ _ _ _ _ _ _ (ych0 h2 h4 h5 h6 x0 x2 x3 x4 X X' hX) (ych1 h2 h4 h5 h6 x0 x2 x3 x4 X X' hX) (ych2 h2 h4 h5 h6 x0 x2 x3 x4 X X' hX) (ych3 h2 h4 h5 h6 x0 x2 x3 x4 X X' hX) (ych4 h2 h4 h5 h6 x0 x2 x3 x4 X X' hX) (ych5 h2 h4 h5 h6 x0 x2 x3 x4 X X' hX)

end Loads

/-! ## The two tiles a row block starts with -/

/-- A load of the whole of a rank-two view reads the view. -/
theorem ldw {n0 n1 : ℕ} {e : EltTy} (v : View sig κ sp ⟨2, ![n0, n1]⟩ e) (f : v.ty.Contents (Elt F)) (inb) :
    View.readAt (Elt F) v (Rect.unit ![0, 0] ![n0, n1] inb).toLoadRect f = v.read (Elt F) f := by
  funext k
  exact congrArg (v.read (Elt F) f) ((emb2 inb k (k 0) (k 1) (Nat.zero_add _).symm (Nat.zero_add _).symm).symm.trans (eq_ix2 k).symm)

/-- The row-scale tile after its stores holds the input row scales. -/
theorem xsb_of {M3 : Memref sig κ sp S1x1x512 .f32} (h3 : M3.IsWhole) (x1 : Vec F S1x1x512 .f32) (v : View sig κ sp S512x128 .f32) (f : v.ty.Contents (Elt F)) :
    v.read (Elt F) (v.writes (Elt F) f [⟨Rect.unit ![384, 0] S128x128.size inb_S512x128_S128x128_384_0, k0_pay4 (View.readAt (Elt F) M3.view (Rect.unit (s := S1x1x512) ![0, 0, 384] S1x1x128.size inb_S1x1x512_S1x1x128_0_0_384).toLoadRect (h3.unread x1))⟩, ⟨Rect.unit ![256, 0] S128x128.size inb_S512x128_S128x128_256_0, k0_pay3 (View.readAt (Elt F) M3.view (Rect.unit (s := S1x1x512) ![0, 0, 256] S1x1x128.size inb_S1x1x512_S1x1x128_0_0_256).toLoadRect (h3.unread x1))⟩, ⟨Rect.unit ![128, 0] S128x128.size inb_S512x128_S128x128_128_0, k0_pay2 (View.readAt (Elt F) M3.view (Rect.unit (s := S1x1x512) ![0, 0, 128] S1x1x128.size inb_S1x1x512_S1x1x128_0_0_128).toLoadRect (h3.unread x1))⟩, ⟨Rect.unit ![0, 0] S128x128.size inb_S512x128_S128x128_0_0, k0_pay1 (View.readAt (Elt F) M3.view (Rect.unit (s := S1x1x512) ![0, 0, 0] S1x1x128.size inb_S1x1x512_S1x1x128_0_0_0).toLoadRect (h3.unread x1))⟩]) = xsb x1 := by
  refine xsb_read v f (xsb x1) _ _ _ _ _ _ _ _ ?_ ?_ ?_ ?_
  · intro k; exact xsc 0 x1 _ (fun l => ld3c h3 x1 ![0, 0, 0] _ 0 0 rfl 0 0 l 0 _ rfl rfl) k
  · intro k; exact xsc 1 x1 _ (fun l => ld3c h3 x1 ![0, 0, 128] _ 0 128 rfl 0 0 l 0 _ rfl rfl) k
  · intro k; exact xsc 2 x1 _ (fun l => ld3c h3 x1 ![0, 0, 256] _ 0 256 rfl 0 0 l 0 _ rfl rfl) k
  · intro k; exact xsc 3 x1 _ (fun l => ld3c h3 x1 ![0, 0, 384] _ 0 384 rfl 0 0 l 0 _ rfl rfl) k

/-- Chunk 0 of the scale window, from the running maximum. -/
theorem ysr0 (A A' : Vec F S512x128 .f32) (hA : A' = A) (k : S1x1x128.Idx) :
    k0_pay24 (k0_pay18 (k0_pay13 A') (k0_pay14 A') (k0_pay15 A') (k0_pay16 A')) (k0_pay19 (k0_pay13 A') (k0_pay14 A') (k0_pay15 A') (k0_pay16 A')) k0_pay20 k
      = ysv A (ix3 0 0 (rowc 0 (k 2))) := by
  subst hA; exact ysc0 _ _ _ k

/-- Chunk 1 of the scale window, from the running maximum. -/
theorem ysr1 (A A' : Vec F S512x128 .f32) (hA : A' = A) (k : S1x1x128.Idx) :
    k0_pay25 (k0_pay18 (k0_pay13 A') (k0_pay14 A') (k0_pay15 A') (k0_pay16 A')) (k0_pay19 (k0_pay13 A') (k0_pay14 A') (k0_pay15 A') (k0_pay16 A')) k0_pay20 k
      = ysv A (ix3 0 0 (rowc 1 (k 2))) := by
  subst hA; exact ysc1 _ _ _ k

/-- Chunk 2 of the scale window, from the running maximum. -/
theorem ysr2 (A A' : Vec F S512x128 .f32) (hA : A' = A) (k : S1x1x128.Idx) :
    k0_pay26 (k0_pay18 (k0_pay13 A') (k0_pay14 A') (k0_pay15 A') (k0_pay16 A')) (k0_pay19 (k0_pay13 A') (k0_pay14 A') (k0_pay15 A') (k0_pay16 A')) k0_pay20 k
      = ysv A (ix3 0 0 (rowc 2 (k 2))) := by
  subst hA; exact ysc2 _ _ _ k

/-- Chunk 3 of the scale window, from the running maximum. -/
theorem ysr3 (A A' : Vec F S512x128 .f32) (hA : A' = A) (k : S1x1x128.Idx) :
    k0_pay27 (k0_pay18 (k0_pay13 A') (k0_pay14 A') (k0_pay15 A') (k0_pay16 A')) (k0_pay19 (k0_pay13 A') (k0_pay14 A') (k0_pay15 A') (k0_pay16 A')) k0_pay20 k
      = ysv A (ix3 0 0 (rowc 3 (k 2))) := by
  subst hA; exact ysc3 _ _ _ k

end Cert.Kernel.Fn
-- ==== Proof.K.RunA.lean ====
/-
  The body run at the grid points of one kind: the first row block and the first column block.
-/
module

public import proofs.«01_k».proof.Proof.K.Mem
public import proofs.«01_k».proof.Proof.Gen.Kernel.Frame

@[expose] public section

set_option maxRecDepth 16384

noncomputable section

namespace Cert.Kernel.Fn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

set_option maxHeartbeats 4000000 in
/-- The body at such a point: what it leaves in every buffer. -/
theorem runA (c : Dev nD) (E : Set ℕ) (i : grid0.Coords) (arg2 : Memref sig .tc .vmem S512x4480 .fp8e4m3) (harg2 : arg2.IsWhole) (arg3 : Memref sig .tc .vmem S1x1x512 .f32) (harg3 : arg3.IsWhole) (arg4 : Memref sig .tc .vmem S4480x768 .fp8e4m3) (harg4 : arg4.IsWhole) (arg5 : Memref sig .tc .vmem S1x768 .f32) (harg5 : arg5.IsWhole) (arg6 : Memref sig .tc .vmem S512x768 .bf16) (harg6 : arg6.IsWhole) (arg7 : Memref sig .tc .vmem S512x768 .fp8e4m3) (harg7 : arg7.IsWhole) (arg8 : Memref sig .tc .vmem S1x1x512 .f32) (harg8 : arg8.IsWhole) (arg9 : Memref sig .tc .vmem S27x512x768 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (hc1 : ¬ k0_cond1 i = 1#1) (hc2 : (Scalar.cmpi .ne (Scalar.extui (Scalar.andi (Scalar.cmpi .slt (BitVec.ofNat 32 (i 0).val) 32#32) (Scalar.cmpi .eq (BitVec.ofNat 32 (i 1).val) 0#32)) : BitVec 32) 0#32 : BitVec 1) = 1#1) (hc3 : k0_cond3 i = 1#1) (hc4 : ¬ k0_cond4 i = 1#1) (hc5 : ¬ k0_cond5 i = 1#1)
    (x0 : Vec F S512x4480 .fp8e4m3) (x1 : Vec F S1x1x512 .f32) (x2 : Vec F S4480x768 .fp8e4m3) (x3 : Vec F S1x768 .f32) (x4 : Vec F S512x768 .bf16)
    (d5 : Vec F S512x768 .fp8e4m3) (d6 : Vec F S1x1x512 .f32) (Y : Vec F S27x512x768 .f32) (A I X : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare Y ∗ owns (c : Thread nD τ) arg10 fullShare A ∗ owns (c : Thread nD τ) arg11 fullShare I ∗ owns (c : Thread nD τ) arg12 fullShare X
      ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare (put ⟨(i 1).val, (i 1).isLt⟩ Y (yv (k0_pay50 x0 x2) (xsb x1) x3 x4)) ∗ owns (c : Thread nD τ) arg10 fullShare (amaxNew (i 1).val A (yv (k0_pay50 x0 x2) (xsb x1) x3 x4)) ∗ owns (c : Thread nD τ) arg11 fullShare I ∗ owns (c : Thread nD τ) arg12 fullShare (xsb x1)) -∗ K ⟨⟩))
      ⊢ wp frame (wpE (defs₀ (F := F)) Variants.none c none) E (cc0_fp8_linear_requant i arg2 harg2 arg3 harg3 arg4 harg4 arg5 harg5 arg6 harg6 arg7 harg7 arg8 harg8 arg9 harg9 arg10 harg10 arg11 harg11 arg12 harg12) K := by
  simp only [cc0_fp8_linear_requant_eq_skeleton]; unfold cc0_fp8_linear_requant_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  sl_exec (disch := first | sl_exact hc1 | sl_exact hc2 | sl_exact hc3 | sl_exact hc4 | sl_exact hc5)
  sl_step
  iapply Hk
  isplitl [H0]
  · iexists _; isplitr
    swap; · iexact H0
    ipureintro
    exact harg2.read_unread _
  isplitl [H1]
  · iexists _; isplitr
    swap; · iexact H1
    ipureintro
    exact harg3.read_unread _
  isplitl [H2]
  · iexists _; isplitr
    swap; · iexact H2
    ipureintro
    exact harg4.read_unread _
  isplitl [H3]
  · iexists _; isplitr
    swap; · iexact H3
    ipureintro
    exact harg5.read_unread _
  isplitl [H4]
  · iexists _; isplitr
    swap; · iexact H4
    ipureintro
    exact harg6.read_unread _
  isplitl [H5]
  · iexists _; isplitr
    swap; · iexact H5
    ipureintro
    exact harg7.read_unread _
  isplitl [H6]
  · iexists _; isplitr
    swap; · iexact H6
    ipureintro
    exact harg8.read_unread _
  isplitl [H7]
  · iexists _; isplitr
    swap; · iexact H7
    ipureintro
    refine y_read harg9 Y ⟨(i 1).val, (i 1).isLt⟩ (yv (k0_pay50 x0 x2) (xsb x1) x3 x4) _ _ _ _ _ _ _ _ _ _ _ _ _ _ _ _ _ _ (k0_off1_eq i) (k0_off2_eq i) (k0_off3_eq i) (k0_off4_eq i) (k0_off5_eq i) (k0_off6_eq i) ?_ ?_ ?_ ?_ ?_ ?_
    · intro k; exact ypr 0 _ _ (ych0 harg2 harg4 harg5 harg6 x0 x2 x3 x4 (xsb x1) _ ((ldw _ _ _).trans (xsb_of harg3 x1 _ _))) k
    · intro k; exact ypr 1 _ _ (ych1 harg2 harg4 harg5 harg6 x0 x2 x3 x4 (xsb x1) _ ((ldw _ _ _).trans (xsb_of harg3 x1 _ _))) k
    · intro k; exact ypr 2 _ _ (ych2 harg2 harg4 harg5 harg6 x0 x2 x3 x4 (xsb x1) _ ((ldw _ _ _).trans (xsb_of harg3 x1 _ _))) k
    · intro k; exact ypr 3 _ _ (ych3 harg2 harg4 harg5 harg6 x0 x2 x3 x4 (xsb x1) _ ((ldw _ _ _).trans (xsb_of harg3 x1 _ _))) k
    · intro k; exact ypr 4 _ _ (ych4 harg2 harg4 harg5 harg6 x0 x2 x3 x4 (xsb x1) _ ((ldw _ _ _).trans (xsb_of harg3 x1 _ _))) k
    · intro k; exact ypr 5 _ _ (ych5 harg2 harg4 harg5 harg6 x0 x2 x3 x4 (xsb x1) _ ((ldw _ _ _).trans (xsb_of harg3 x1 _ _))) k
  isplitl [H8]
  · iexists _; isplitr
    swap; · iexact H8
    ipureintro
    exact (View.read_writes_full _ _ _ _ _).trans (amr harg2 harg4 harg5 harg6 x0 x2 x3 x4 i (xsb x1) _ A _ ((ldw _ _ _).trans (xsb_of harg3 x1 _ _)) (ld2 harg10 A _))
  isplitl [H9]
  · iexists _; isplitr
    swap; · iexact H9
    ipureintro
    exact harg11.read_unread _
  iexists _; isplitr
  swap; · iexact H10
  ipureintro
  exact xsb_of harg3 x1 _ _

end Cert.Kernel.Fn
-- ==== Proof.K.RunB.lean ====
/-
  The body run at the grid points of one kind: the first row block, past the first column block.
-/
module

public import proofs.«01_k».proof.Proof.K.Mem
public import proofs.«01_k».proof.Proof.Gen.Kernel.Frame

@[expose] public section

set_option maxRecDepth 16384

noncomputable section

namespace Cert.Kernel.Fn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

set_option maxHeartbeats 4000000 in
/-- The body at such a point: what it leaves in every buffer. -/
theorem runB (c : Dev nD) (E : Set ℕ) (i : grid0.Coords) (arg2 : Memref sig .tc .vmem S512x4480 .fp8e4m3) (harg2 : arg2.IsWhole) (arg3 : Memref sig .tc .vmem S1x1x512 .f32) (harg3 : arg3.IsWhole) (arg4 : Memref sig .tc .vmem S4480x768 .fp8e4m3) (harg4 : arg4.IsWhole) (arg5 : Memref sig .tc .vmem S1x768 .f32) (harg5 : arg5.IsWhole) (arg6 : Memref sig .tc .vmem S512x768 .bf16) (harg6 : arg6.IsWhole) (arg7 : Memref sig .tc .vmem S512x768 .fp8e4m3) (harg7 : arg7.IsWhole) (arg8 : Memref sig .tc .vmem S1x1x512 .f32) (harg8 : arg8.IsWhole) (arg9 : Memref sig .tc .vmem S27x512x768 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (hc1 : ¬ k0_cond1 i = 1#1) (hc2 : ¬ (Scalar.cmpi .ne (Scalar.extui (Scalar.andi (Scalar.cmpi .slt (BitVec.ofNat 32 (i 0).val) 32#32) (Scalar.cmpi .eq (BitVec.ofNat 32 (i 1).val) 0#32)) : BitVec 32) 0#32 : BitVec 1) = 1#1) (hc3 : k0_cond3 i = 1#1) (hc4 : ¬ k0_cond4 i = 1#1) (hc5 : ¬ k0_cond5 i = 1#1)
    (x0 : Vec F S512x4480 .fp8e4m3) (x1 : Vec F S1x1x512 .f32) (x2 : Vec F S4480x768 .fp8e4m3) (x3 : Vec F S1x768 .f32) (x4 : Vec F S512x768 .bf16)
    (d5 : Vec F S512x768 .fp8e4m3) (d6 : Vec F S1x1x512 .f32) (Y : Vec F S27x512x768 .f32) (A I X : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare Y ∗ owns (c : Thread nD τ) arg10 fullShare A ∗ owns (c : Thread nD τ) arg11 fullShare I ∗ owns (c : Thread nD τ) arg12 fullShare X
      ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare (put ⟨(i 1).val, (i 1).isLt⟩ Y (yv (k0_pay50 x0 x2) X x3 x4)) ∗ owns (c : Thread nD τ) arg10 fullShare (amaxNew (i 1).val A (yv (k0_pay50 x0 x2) X x3 x4)) ∗ owns (c : Thread nD τ) arg11 fullShare I ∗ owns (c : Thread nD τ) arg12 fullShare X) -∗ K ⟨⟩))
      ⊢ wp frame (wpE (defs₀ (F := F)) Variants.none c none) E (cc0_fp8_linear_requant i arg2 harg2 arg3 harg3 arg4 harg4 arg5 harg5 arg6 harg6 arg7 harg7 arg8 harg8 arg9 harg9 arg10 harg10 arg11 harg11 arg12 harg12) K := by
  simp only [cc0_fp8_linear_requant_eq_skeleton]; unfold cc0_fp8_linear_requant_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  sl_exec (disch := first | sl_exact hc1 | sl_exact hc2 | sl_exact hc3 | sl_exact hc4 | sl_exact hc5)
  sl_step
  iapply Hk
  isplitl [H0]
  · iexists _; isplitr
    swap; · iexact H0
    ipureintro
    exact harg2.read_unread _
  isplitl [H1]
  · iexists _; isplitr
    swap; · iexact H1
    ipureintro
    exact harg3.read_unread _
  isplitl [H2]
  · iexists _; isplitr
    swap; · iexact H2
    ipureintro
    exact harg4.read_unread _
  isplitl [H3]
  · iexists _; isplitr
    swap; · iexact H3
    ipureintro
    exact harg5.read_unread _
  isplitl [H4]
  · iexists _; isplitr
    swap; · iexact H4
    ipureintro
    exact harg6.read_unread _
  isplitl [H5]
  · iexists _; isplitr
    swap; · iexact H5
    ipureintro
    exact harg7.read_unread _
  isplitl [H6]
  · iexists _; isplitr
    swap; · iexact H6
    ipureintro
    exact harg8.read_unread _
  isplitl [H7]
  · iexists _; isplitr
    swap; · iexact H7
    ipureintro
    refine y_read harg9 Y ⟨(i 1).val, (i 1).isLt⟩ (yv (k0_pay50 x0 x2) X x3 x4) _ _ _ _ _ _ _ _ _ _ _ _ _ _ _ _ _ _ (k0_off1_eq i) (k0_off2_eq i) (k0_off3_eq i) (k0_off4_eq i) (k0_off5_eq i) (k0_off6_eq i) ?_ ?_ ?_ ?_ ?_ ?_
    · intro k; exact ypr 0 _ _ (ych0 harg2 harg4 harg5 harg6 x0 x2 x3 x4 X _ (ld2 harg12 X _)) k
    · intro k; exact ypr 1 _ _ (ych1 harg2 harg4 harg5 harg6 x0 x2 x3 x4 X _ (ld2 harg12 X _)) k
    · intro k; exact ypr 2 _ _ (ych2 harg2 harg4 harg5 harg6 x0 x2 x3 x4 X _ (ld2 harg12 X _)) k
    · intro k; exact ypr 3 _ _ (ych3 harg2 harg4 harg5 harg6 x0 x2 x3 x4 X _ (ld2 harg12 X _)) k
    · intro k; exact ypr 4 _ _ (ych4 harg2 harg4 harg5 harg6 x0 x2 x3 x4 X _ (ld2 harg12 X _)) k
    · intro k; exact ypr 5 _ _ (ych5 harg2 harg4 harg5 harg6 x0 x2 x3 x4 X _ (ld2 harg12 X _)) k
  isplitl [H8]
  · iexists _; isplitr
    swap; · iexact H8
    ipureintro
    exact (View.read_writes_full _ _ _ _ _).trans (amr harg2 harg4 harg5 harg6 x0 x2 x3 x4 i X _ A _ (ld2 harg12 X _) (ld2 harg10 A _))
  isplitl [H9]
  · iexists _; isplitr
    swap; · iexact H9
    ipureintro
    exact harg11.read_unread _
  iexists _; isplitr
  swap; · iexact H10
  ipureintro
  exact harg12.read_unread _

end Cert.Kernel.Fn
-- ==== Proof.K.RunC.lean ====
/-
  The body run at the grid points of one kind: a middle row block and the first column block.
-/
module

public import proofs.«01_k».proof.Proof.K.Mem
public import proofs.«01_k».proof.Proof.Gen.Kernel.Frame

@[expose] public section

set_option maxRecDepth 16384

noncomputable section

namespace Cert.Kernel.Fn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

set_option maxHeartbeats 4000000 in
/-- The body at such a point: what it leaves in every buffer. -/
theorem runC (c : Dev nD) (E : Set ℕ) (i : grid0.Coords) (arg2 : Memref sig .tc .vmem S512x4480 .fp8e4m3) (harg2 : arg2.IsWhole) (arg3 : Memref sig .tc .vmem S1x1x512 .f32) (harg3 : arg3.IsWhole) (arg4 : Memref sig .tc .vmem S4480x768 .fp8e4m3) (harg4 : arg4.IsWhole) (arg5 : Memref sig .tc .vmem S1x768 .f32) (harg5 : arg5.IsWhole) (arg6 : Memref sig .tc .vmem S512x768 .bf16) (harg6 : arg6.IsWhole) (arg7 : Memref sig .tc .vmem S512x768 .fp8e4m3) (harg7 : arg7.IsWhole) (arg8 : Memref sig .tc .vmem S1x1x512 .f32) (harg8 : arg8.IsWhole) (arg9 : Memref sig .tc .vmem S27x512x768 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (hc1 : k0_cond1 i = 1#1) (hc2 : (Scalar.cmpi .ne (Scalar.extui (Scalar.andi (Scalar.cmpi .slt (BitVec.ofNat 32 (i 0).val) 32#32) (Scalar.cmpi .eq (BitVec.ofNat 32 (i 1).val) 0#32)) : BitVec 32) 0#32 : BitVec 1) = 1#1) (hc3 : ¬ k0_cond3 i = 1#1) (hc4 : k0_cond4 i = 1#1) (hc5 : ¬ k0_cond5 i = 1#1)
    (x0 : Vec F S512x4480 .fp8e4m3) (x1 : Vec F S1x1x512 .f32) (x2 : Vec F S4480x768 .fp8e4m3) (x3 : Vec F S1x768 .f32) (x4 : Vec F S512x768 .bf16)
    (d5 : Vec F S512x768 .fp8e4m3) (d6 : Vec F S1x1x512 .f32) (Y : Vec F S27x512x768 .f32) (A I X : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare Y ∗ owns (c : Thread nD τ) arg10 fullShare A ∗ owns (c : Thread nD τ) arg11 fullShare I ∗ owns (c : Thread nD τ) arg12 fullShare X
      ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (quant (slab ⟨(i 1).val, (i 1).isLt⟩ Y) (invTile A)) ∗ owns (c : Thread nD τ) arg8 fullShare (ysv A) ∗ owns (c : Thread nD τ) arg9 fullShare (put ⟨(i 1).val, (i 1).isLt⟩ Y (yv (k0_pay50 x0 x2) (xsb x1) x3 x4)) ∗ owns (c : Thread nD τ) arg10 fullShare (amaxNew (i 1).val A (yv (k0_pay50 x0 x2) (xsb x1) x3 x4)) ∗ owns (c : Thread nD τ) arg11 fullShare (invTile A) ∗ owns (c : Thread nD τ) arg12 fullShare (xsb x1)) -∗ K ⟨⟩))
      ⊢ wp frame (wpE (defs₀ (F := F)) Variants.none c none) E (cc0_fp8_linear_requant i arg2 harg2 arg3 harg3 arg4 harg4 arg5 harg5 arg6 harg6 arg7 harg7 arg8 harg8 arg9 harg9 arg10 harg10 arg11 harg11 arg12 harg12) K := by
  simp only [cc0_fp8_linear_requant_eq_skeleton]; unfold cc0_fp8_linear_requant_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  sl_exec (disch := first | sl_exact hc1 | sl_exact hc2 | sl_exact hc3 | sl_exact hc4 | sl_exact hc5)
  sl_step
  iapply Hk
  isplitl [H0]
  · iexists _; isplitr
    swap; · iexact H0
    ipureintro
    exact harg2.read_unread _
  isplitl [H1]
  · iexists _; isplitr
    swap; · iexact H1
    ipureintro
    exact harg3.read_unread _
  isplitl [H2]
  · iexists _; isplitr
    swap; · iexact H2
    ipureintro
    exact harg4.read_unread _
  isplitl [H3]
  · iexists _; isplitr
    swap; · iexact H3
    ipureintro
    exact harg5.read_unread _
  isplitl [H4]
  · iexists _; isplitr
    swap; · iexact H4
    ipureintro
    exact harg6.read_unread _
  isplitl [H5]
  · iexists _; isplitr
    swap; · iexact H5
    ipureintro
    refine codes_read _ _ (quant (slab ⟨(i 1).val, (i 1).isLt⟩ Y) (invTile A)) _ _ _ _ _ _ _ _ _ _ _ _ ?_ ?_ ?_ ?_ ?_ ?_
    · intro k; exact qcr 0 harg9 Y ⟨(i 1).val, (i 1).isLt⟩ (invTile A) _ ((View.readCov_full arg11.view _ _ _ _).trans (congrArg invTile (ld2 harg10 A _))) _ _ (k0_off7_eq i) k
    · intro k; exact qcr 1 harg9 Y ⟨(i 1).val, (i 1).isLt⟩ (invTile A) _ ((View.readCov_full arg11.view _ _ _ _).trans (congrArg invTile (ld2 harg10 A _))) _ _ (k0_off8_eq i) k
    · intro k; exact qcr 2 harg9 Y ⟨(i 1).val, (i 1).isLt⟩ (invTile A) _ ((View.readCov_full arg11.view _ _ _ _).trans (congrArg invTile (ld2 harg10 A _))) _ _ (k0_off9_eq i) k
    · intro k; exact qcr 3 harg9 Y ⟨(i 1).val, (i 1).isLt⟩ (invTile A) _ ((View.readCov_full arg11.view _ _ _ _).trans (congrArg invTile (ld2 harg10 A _))) _ _ (k0_off10_eq i) k
    · intro k; exact qcr 4 harg9 Y ⟨(i 1).val, (i 1).isLt⟩ (invTile A) _ ((View.readCov_full arg11.view _ _ _ _).trans (congrArg invTile (ld2 harg10 A _))) _ _ (k0_off11_eq i) k
    · intro k; exact qcr 5 harg9 Y ⟨(i 1).val, (i 1).isLt⟩ (invTile A) _ ((View.readCov_full arg11.view _ _ _ _).trans (congrArg invTile (ld2 harg10 A _))) _ _ (k0_off12_eq i) k
  isplitl [H6]
  · iexists _; isplitr
    swap; · iexact H6
    ipureintro
    refine ys_read _ _ (ysv A) _ _ _ _ _ _ _ _ ?_ ?_ ?_ ?_
    · intro k; exact ysr0 A _ (ld2 harg10 A _) k
    · intro k; exact ysr1 A _ (ld2 harg10 A _) k
    · intro k; exact ysr2 A _ (ld2 harg10 A _) k
    · intro k; exact ysr3 A _ (ld2 harg10 A _) k
  isplitl [H7]
  · iexists _; isplitr
    swap; · iexact H7
    ipureintro
    refine y_read harg9 Y ⟨(i 1).val, (i 1).isLt⟩ (yv (k0_pay50 x0 x2) (xsb x1) x3 x4) _ _ _ _ _ _ _ _ _ _ _ _ _ _ _ _ _ _ (k0_off7_eq i) (k0_off8_eq i) (k0_off9_eq i) (k0_off10_eq i) (k0_off11_eq i) (k0_off12_eq i) ?_ ?_ ?_ ?_ ?_ ?_
    · intro k; exact ypr 0 _ _ (ych0 harg2 harg4 harg5 harg6 x0 x2 x3 x4 (xsb x1) _ ((ldw _ _ _).trans (xsb_of harg3 x1 _ _))) k
    · intro k; exact ypr 1 _ _ (ych1 harg2 harg4 harg5 harg6 x0 x2 x3 x4 (xsb x1) _ ((ldw _ _ _).trans (xsb_of harg3 x1 _ _))) k
    · intro k; exact ypr 2 _ _ (ych2 harg2 harg4 harg5 harg6 x0 x2 x3 x4 (xsb x1) _ ((ldw _ _ _).trans (xsb_of harg3 x1 _ _))) k
    · intro k; exact ypr 3 _ _ (ych3 harg2 harg4 harg5 harg6 x0 x2 x3 x4 (xsb x1) _ ((ldw _ _ _).trans (xsb_of harg3 x1 _ _))) k
    · intro k; exact ypr 4 _ _ (ych4 harg2 harg4 harg5 harg6 x0 x2 x3 x4 (xsb x1) _ ((ldw _ _ _).trans (xsb_of harg3 x1 _ _))) k
    · intro k; exact ypr 5 _ _ (ych5 harg2 harg4 harg5 harg6 x0 x2 x3 x4 (xsb x1) _ ((ldw _ _ _).trans (xsb_of harg3 x1 _ _))) k
  isplitl [H8]
  · iexists _; isplitr
    swap; · iexact H8
    ipureintro
    exact (View.read_writes_full _ _ _ _ _).trans (amr harg2 harg4 harg5 harg6 x0 x2 x3 x4 i (xsb x1) _ A _ ((ldw _ _ _).trans (xsb_of harg3 x1 _ _)) (ld2 harg10 A _))
  isplitl [H9]
  · iexists _; isplitr
    swap; · iexact H9
    ipureintro
    exact (View.read_writes_full _ _ _ _ _).trans (congrArg invTile (ld2 harg10 A _))
  iexists _; isplitr
  swap; · iexact H10
  ipureintro
  exact xsb_of harg3 x1 _ _

end Cert.Kernel.Fn
-- ==== Proof.K.RunD.lean ====
/-
  The body run at the grid points of one kind: a middle row block, past the first column block.
-/
module

public import proofs.«01_k».proof.Proof.K.Mem
public import proofs.«01_k».proof.Proof.Gen.Kernel.Frame

@[expose] public section

set_option maxRecDepth 16384

noncomputable section

namespace Cert.Kernel.Fn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

set_option maxHeartbeats 4000000 in
/-- The body at such a point: what it leaves in every buffer. -/
theorem runD (c : Dev nD) (E : Set ℕ) (i : grid0.Coords) (arg2 : Memref sig .tc .vmem S512x4480 .fp8e4m3) (harg2 : arg2.IsWhole) (arg3 : Memref sig .tc .vmem S1x1x512 .f32) (harg3 : arg3.IsWhole) (arg4 : Memref sig .tc .vmem S4480x768 .fp8e4m3) (harg4 : arg4.IsWhole) (arg5 : Memref sig .tc .vmem S1x768 .f32) (harg5 : arg5.IsWhole) (arg6 : Memref sig .tc .vmem S512x768 .bf16) (harg6 : arg6.IsWhole) (arg7 : Memref sig .tc .vmem S512x768 .fp8e4m3) (harg7 : arg7.IsWhole) (arg8 : Memref sig .tc .vmem S1x1x512 .f32) (harg8 : arg8.IsWhole) (arg9 : Memref sig .tc .vmem S27x512x768 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (hc1 : ¬ k0_cond1 i = 1#1) (hc2 : ¬ (Scalar.cmpi .ne (Scalar.extui (Scalar.andi (Scalar.cmpi .slt (BitVec.ofNat 32 (i 0).val) 32#32) (Scalar.cmpi .eq (BitVec.ofNat 32 (i 1).val) 0#32)) : BitVec 32) 0#32 : BitVec 1) = 1#1) (hc3 : ¬ k0_cond3 i = 1#1) (hc4 : k0_cond4 i = 1#1) (hc5 : ¬ k0_cond5 i = 1#1)
    (x0 : Vec F S512x4480 .fp8e4m3) (x1 : Vec F S1x1x512 .f32) (x2 : Vec F S4480x768 .fp8e4m3) (x3 : Vec F S1x768 .f32) (x4 : Vec F S512x768 .bf16)
    (d5 : Vec F S512x768 .fp8e4m3) (d6 : Vec F S1x1x512 .f32) (Y : Vec F S27x512x768 .f32) (A I X : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare Y ∗ owns (c : Thread nD τ) arg10 fullShare A ∗ owns (c : Thread nD τ) arg11 fullShare I ∗ owns (c : Thread nD τ) arg12 fullShare X
      ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (quant (slab ⟨(i 1).val, (i 1).isLt⟩ Y) I) ∗ owns (c : Thread nD τ) arg8 fullShare d6 ∗ owns (c : Thread nD τ) arg9 fullShare (put ⟨(i 1).val, (i 1).isLt⟩ Y (yv (k0_pay50 x0 x2) X x3 x4)) ∗ owns (c : Thread nD τ) arg10 fullShare (amaxNew (i 1).val A (yv (k0_pay50 x0 x2) X x3 x4)) ∗ owns (c : Thread nD τ) arg11 fullShare I ∗ owns (c : Thread nD τ) arg12 fullShare X) -∗ K ⟨⟩))
      ⊢ wp frame (wpE (defs₀ (F := F)) Variants.none c none) E (cc0_fp8_linear_requant i arg2 harg2 arg3 harg3 arg4 harg4 arg5 harg5 arg6 harg6 arg7 harg7 arg8 harg8 arg9 harg9 arg10 harg10 arg11 harg11 arg12 harg12) K := by
  simp only [cc0_fp8_linear_requant_eq_skeleton]; unfold cc0_fp8_linear_requant_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  sl_exec (disch := first | sl_exact hc1 | sl_exact hc2 | sl_exact hc3 | sl_exact hc4 | sl_exact hc5)
  sl_step
  iapply Hk
  isplitl [H0]
  · iexists _; isplitr
    swap; · iexact H0
    ipureintro
    exact harg2.read_unread _
  isplitl [H1]
  · iexists _; isplitr
    swap; · iexact H1
    ipureintro
    exact harg3.read_unread _
  isplitl [H2]
  · iexists _; isplitr
    swap; · iexact H2
    ipureintro
    exact harg4.read_unread _
  isplitl [H3]
  · iexists _; isplitr
    swap; · iexact H3
    ipureintro
    exact harg5.read_unread _
  isplitl [H4]
  · iexists _; isplitr
    swap; · iexact H4
    ipureintro
    exact harg6.read_unread _
  isplitl [H5]
  · iexists _; isplitr
    swap; · iexact H5
    ipureintro
    refine codes_read _ _ (quant (slab ⟨(i 1).val, (i 1).isLt⟩ Y) I) _ _ _ _ _ _ _ _ _ _ _ _ ?_ ?_ ?_ ?_ ?_ ?_
    · intro k; exact qcr 0 harg9 Y ⟨(i 1).val, (i 1).isLt⟩ I _ (ld2 harg11 I _) _ _ (k0_off7_eq i) k
    · intro k; exact qcr 1 harg9 Y ⟨(i 1).val, (i 1).isLt⟩ I _ (ld2 harg11 I _) _ _ (k0_off8_eq i) k
    · intro k; exact qcr 2 harg9 Y ⟨(i 1).val, (i 1).isLt⟩ I _ (ld2 harg11 I _) _ _ (k0_off9_eq i) k
    · intro k; exact qcr 3 harg9 Y ⟨(i 1).val, (i 1).isLt⟩ I _ (ld2 harg11 I _) _ _ (k0_off10_eq i) k
    · intro k; exact qcr 4 harg9 Y ⟨(i 1).val, (i 1).isLt⟩ I _ (ld2 harg11 I _) _ _ (k0_off11_eq i) k
    · intro k; exact qcr 5 harg9 Y ⟨(i 1).val, (i 1).isLt⟩ I _ (ld2 harg11 I _) _ _ (k0_off12_eq i) k
  isplitl [H6]
  · iexists _; isplitr
    swap; · iexact H6
    ipureintro
    exact harg8.read_unread _
  isplitl [H7]
  · iexists _; isplitr
    swap; · iexact H7
    ipureintro
    refine y_read harg9 Y ⟨(i 1).val, (i 1).isLt⟩ (yv (k0_pay50 x0 x2) X x3 x4) _ _ _ _ _ _ _ _ _ _ _ _ _ _ _ _ _ _ (k0_off7_eq i) (k0_off8_eq i) (k0_off9_eq i) (k0_off10_eq i) (k0_off11_eq i) (k0_off12_eq i) ?_ ?_ ?_ ?_ ?_ ?_
    · intro k; exact ypr 0 _ _ (ych0 harg2 harg4 harg5 harg6 x0 x2 x3 x4 X _ (ld2 harg12 X _)) k
    · intro k; exact ypr 1 _ _ (ych1 harg2 harg4 harg5 harg6 x0 x2 x3 x4 X _ (ld2 harg12 X _)) k
    · intro k; exact ypr 2 _ _ (ych2 harg2 harg4 harg5 harg6 x0 x2 x3 x4 X _ (ld2 harg12 X _)) k
    · intro k; exact ypr 3 _ _ (ych3 harg2 harg4 harg5 harg6 x0 x2 x3 x4 X _ (ld2 harg12 X _)) k
    · intro k; exact ypr 4 _ _ (ych4 harg2 harg4 harg5 harg6 x0 x2 x3 x4 X _ (ld2 harg12 X _)) k
    · intro k; exact ypr 5 _ _ (ych5 harg2 harg4 harg5 harg6 x0 x2 x3 x4 X _ (ld2 harg12 X _)) k
  isplitl [H8]
  · iexists _; isplitr
    swap; · iexact H8
    ipureintro
    exact (View.read_writes_full _ _ _ _ _).trans (amr harg2 harg4 harg5 harg6 x0 x2 x3 x4 i X _ A _ (ld2 harg12 X _) (ld2 harg10 A _))
  isplitl [H9]
  · iexists _; isplitr
    swap; · iexact H9
    ipureintro
    exact harg11.read_unread _
  iexists _; isplitr
  swap; · iexact H10
  ipureintro
  exact harg12.read_unread _

end Cert.Kernel.Fn
-- ==== Proof.K.RunE.lean ====
/-
  The body run at the grid points of one kind: the drain step and the first column block.
-/
module

public import proofs.«01_k».proof.Proof.K.Mem
public import proofs.«01_k».proof.Proof.Gen.Kernel.Frame

@[expose] public section

set_option maxRecDepth 16384

noncomputable section

namespace Cert.Kernel.Fn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

set_option maxHeartbeats 4000000 in
/-- The body at such a point: what it leaves in every buffer. -/
theorem runE (c : Dev nD) (E : Set ℕ) (i : grid0.Coords) (arg2 : Memref sig .tc .vmem S512x4480 .fp8e4m3) (harg2 : arg2.IsWhole) (arg3 : Memref sig .tc .vmem S1x1x512 .f32) (harg3 : arg3.IsWhole) (arg4 : Memref sig .tc .vmem S4480x768 .fp8e4m3) (harg4 : arg4.IsWhole) (arg5 : Memref sig .tc .vmem S1x768 .f32) (harg5 : arg5.IsWhole) (arg6 : Memref sig .tc .vmem S512x768 .bf16) (harg6 : arg6.IsWhole) (arg7 : Memref sig .tc .vmem S512x768 .fp8e4m3) (harg7 : arg7.IsWhole) (arg8 : Memref sig .tc .vmem S1x1x512 .f32) (harg8 : arg8.IsWhole) (arg9 : Memref sig .tc .vmem S27x512x768 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (hc1 : k0_cond1 i = 1#1) (hc2 : ¬ (Scalar.cmpi .ne (Scalar.extui (Scalar.andi (Scalar.cmpi .slt (BitVec.ofNat 32 (i 0).val) 32#32) (Scalar.cmpi .eq (BitVec.ofNat 32 (i 1).val) 0#32)) : BitVec 32) 0#32 : BitVec 1) = 1#1) (hc3 : ¬ k0_cond3 i = 1#1) (hc4 : ¬ k0_cond4 i = 1#1) (hc5 : k0_cond5 i = 1#1)
    (x0 : Vec F S512x4480 .fp8e4m3) (x1 : Vec F S1x1x512 .f32) (x2 : Vec F S4480x768 .fp8e4m3) (x3 : Vec F S1x768 .f32) (x4 : Vec F S512x768 .bf16)
    (d5 : Vec F S512x768 .fp8e4m3) (d6 : Vec F S1x1x512 .f32) (Y : Vec F S27x512x768 .f32) (A I X : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare Y ∗ owns (c : Thread nD τ) arg10 fullShare A ∗ owns (c : Thread nD τ) arg11 fullShare I ∗ owns (c : Thread nD τ) arg12 fullShare X
      ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (quant (slab ⟨(i 1).val, (i 1).isLt⟩ Y) (invTile A)) ∗ owns (c : Thread nD τ) arg8 fullShare (ysv A) ∗ owns (c : Thread nD τ) arg9 fullShare Y ∗ owns (c : Thread nD τ) arg10 fullShare A ∗ owns (c : Thread nD τ) arg11 fullShare (invTile A) ∗ owns (c : Thread nD τ) arg12 fullShare X) -∗ K ⟨⟩))
      ⊢ wp frame (wpE (defs₀ (F := F)) Variants.none c none) E (cc0_fp8_linear_requant i arg2 harg2 arg3 harg3 arg4 harg4 arg5 harg5 arg6 harg6 arg7 harg7 arg8 harg8 arg9 harg9 arg10 harg10 arg11 harg11 arg12 harg12) K := by
  simp only [cc0_fp8_linear_requant_eq_skeleton]; unfold cc0_fp8_linear_requant_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  sl_exec (disch := first | sl_exact hc1 | sl_exact hc2 | sl_exact hc3 | sl_exact hc4 | sl_exact hc5)
  sl_step
  iapply Hk
  isplitl [H0]
  · iexists _; isplitr
    swap; · iexact H0
    ipureintro
    exact harg2.read_unread _
  isplitl [H1]
  · iexists _; isplitr
    swap; · iexact H1
    ipureintro
    exact harg3.read_unread _
  isplitl [H2]
  · iexists _; isplitr
    swap; · iexact H2
    ipureintro
    exact harg4.read_unread _
  isplitl [H3]
  · iexists _; isplitr
    swap; · iexact H3
    ipureintro
    exact harg5.read_unread _
  isplitl [H4]
  · iexists _; isplitr
    swap; · iexact H4
    ipureintro
    exact harg6.read_unread _
  isplitl [H5]
  · iexists _; isplitr
    swap; · iexact H5
    ipureintro
    refine codes_read _ _ (quant (slab ⟨(i 1).val, (i 1).isLt⟩ Y) (invTile A)) _ _ _ _ _ _ _ _ _ _ _ _ ?_ ?_ ?_ ?_ ?_ ?_
    · intro k; exact qcr 0 harg9 Y ⟨(i 1).val, (i 1).isLt⟩ (invTile A) _ ((View.readCov_full arg11.view _ _ _ _).trans (congrArg invTile (ld2 harg10 A _))) _ _ (k0_off13_eq i) k
    · intro k; exact qcr 1 harg9 Y ⟨(i 1).val, (i 1).isLt⟩ (invTile A) _ ((View.readCov_full arg11.view _ _ _ _).trans (congrArg invTile (ld2 harg10 A _))) _ _ (k0_off14_eq i) k
    · intro k; exact qcr 2 harg9 Y ⟨(i 1).val, (i 1).isLt⟩ (invTile A) _ ((View.readCov_full arg11.view _ _ _ _).trans (congrArg invTile (ld2 harg10 A _))) _ _ (k0_off15_eq i) k
    · intro k; exact qcr 3 harg9 Y ⟨(i 1).val, (i 1).isLt⟩ (invTile A) _ ((View.readCov_full arg11.view _ _ _ _).trans (congrArg invTile (ld2 harg10 A _))) _ _ (k0_off16_eq i) k
    · intro k; exact qcr 4 harg9 Y ⟨(i 1).val, (i 1).isLt⟩ (invTile A) _ ((View.readCov_full arg11.view _ _ _ _).trans (congrArg invTile (ld2 harg10 A _))) _ _ (k0_off17_eq i) k
    · intro k; exact qcr 5 harg9 Y ⟨(i 1).val, (i 1).isLt⟩ (invTile A) _ ((View.readCov_full arg11.view _ _ _ _).trans (congrArg invTile (ld2 harg10 A _))) _ _ (k0_off18_eq i) k
  isplitl [H6]
  · iexists _; isplitr
    swap; · iexact H6
    ipureintro
    refine ys_read _ _ (ysv A) _ _ _ _ _ _ _ _ ?_ ?_ ?_ ?_
    · intro k; exact ysr0 A _ (ld2 harg10 A _) k
    · intro k; exact ysr1 A _ (ld2 harg10 A _) k
    · intro k; exact ysr2 A _ (ld2 harg10 A _) k
    · intro k; exact ysr3 A _ (ld2 harg10 A _) k
  isplitl [H7]
  · iexists _; isplitr
    swap; · iexact H7
    ipureintro
    exact harg9.read_unread _
  isplitl [H8]
  · iexists _; isplitr
    swap; · iexact H8
    ipureintro
    exact harg10.read_unread _
  isplitl [H9]
  · iexists _; isplitr
    swap; · iexact H9
    ipureintro
    exact (View.read_writes_full _ _ _ _ _).trans (congrArg invTile (ld2 harg10 A _))
  iexists _; isplitr
  swap; · iexact H10
  ipureintro
  exact harg12.read_unread _

end Cert.Kernel.Fn
-- ==== Proof.K.RunF.lean ====
/-
  The body run at the grid points of one kind: the drain step, past the first column block.
-/
module

public import proofs.«01_k».proof.Proof.K.Mem
public import proofs.«01_k».proof.Proof.Gen.Kernel.Frame

@[expose] public section

set_option maxRecDepth 16384

noncomputable section

namespace Cert.Kernel.Fn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

set_option maxHeartbeats 4000000 in
/-- The body at such a point: what it leaves in every buffer. -/
theorem runF (c : Dev nD) (E : Set ℕ) (i : grid0.Coords) (arg2 : Memref sig .tc .vmem S512x4480 .fp8e4m3) (harg2 : arg2.IsWhole) (arg3 : Memref sig .tc .vmem S1x1x512 .f32) (harg3 : arg3.IsWhole) (arg4 : Memref sig .tc .vmem S4480x768 .fp8e4m3) (harg4 : arg4.IsWhole) (arg5 : Memref sig .tc .vmem S1x768 .f32) (harg5 : arg5.IsWhole) (arg6 : Memref sig .tc .vmem S512x768 .bf16) (harg6 : arg6.IsWhole) (arg7 : Memref sig .tc .vmem S512x768 .fp8e4m3) (harg7 : arg7.IsWhole) (arg8 : Memref sig .tc .vmem S1x1x512 .f32) (harg8 : arg8.IsWhole) (arg9 : Memref sig .tc .vmem S27x512x768 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (hc1 : ¬ k0_cond1 i = 1#1) (hc2 : ¬ (Scalar.cmpi .ne (Scalar.extui (Scalar.andi (Scalar.cmpi .slt (BitVec.ofNat 32 (i 0).val) 32#32) (Scalar.cmpi .eq (BitVec.ofNat 32 (i 1).val) 0#32)) : BitVec 32) 0#32 : BitVec 1) = 1#1) (hc3 : ¬ k0_cond3 i = 1#1) (hc4 : ¬ k0_cond4 i = 1#1) (hc5 : k0_cond5 i = 1#1)
    (x0 : Vec F S512x4480 .fp8e4m3) (x1 : Vec F S1x1x512 .f32) (x2 : Vec F S4480x768 .fp8e4m3) (x3 : Vec F S1x768 .f32) (x4 : Vec F S512x768 .bf16)
    (d5 : Vec F S512x768 .fp8e4m3) (d6 : Vec F S1x1x512 .f32) (Y : Vec F S27x512x768 .f32) (A I X : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare Y ∗ owns (c : Thread nD τ) arg10 fullShare A ∗ owns (c : Thread nD τ) arg11 fullShare I ∗ owns (c : Thread nD τ) arg12 fullShare X
      ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (quant (slab ⟨(i 1).val, (i 1).isLt⟩ Y) I) ∗ owns (c : Thread nD τ) arg8 fullShare d6 ∗ owns (c : Thread nD τ) arg9 fullShare Y ∗ owns (c : Thread nD τ) arg10 fullShare A ∗ owns (c : Thread nD τ) arg11 fullShare I ∗ owns (c : Thread nD τ) arg12 fullShare X) -∗ K ⟨⟩))
      ⊢ wp frame (wpE (defs₀ (F := F)) Variants.none c none) E (cc0_fp8_linear_requant i arg2 harg2 arg3 harg3 arg4 harg4 arg5 harg5 arg6 harg6 arg7 harg7 arg8 harg8 arg9 harg9 arg10 harg10 arg11 harg11 arg12 harg12) K := by
  simp only [cc0_fp8_linear_requant_eq_skeleton]; unfold cc0_fp8_linear_requant_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  sl_exec (disch := first | sl_exact hc1 | sl_exact hc2 | sl_exact hc3 | sl_exact hc4 | sl_exact hc5)
  sl_step
  iapply Hk
  isplitl [H0]
  · iexists _; isplitr
    swap; · iexact H0
    ipureintro
    exact harg2.read_unread _
  isplitl [H1]
  · iexists _; isplitr
    swap; · iexact H1
    ipureintro
    exact harg3.read_unread _
  isplitl [H2]
  · iexists _; isplitr
    swap; · iexact H2
    ipureintro
    exact harg4.read_unread _
  isplitl [H3]
  · iexists _; isplitr
    swap; · iexact H3
    ipureintro
    exact harg5.read_unread _
  isplitl [H4]
  · iexists _; isplitr
    swap; · iexact H4
    ipureintro
    exact harg6.read_unread _
  isplitl [H5]
  · iexists _; isplitr
    swap; · iexact H5
    ipureintro
    refine codes_read _ _ (quant (slab ⟨(i 1).val, (i 1).isLt⟩ Y) I) _ _ _ _ _ _ _ _ _ _ _ _ ?_ ?_ ?_ ?_ ?_ ?_
    · intro k; exact qcr 0 harg9 Y ⟨(i 1).val, (i 1).isLt⟩ I _ (ld2 harg11 I _) _ _ (k0_off13_eq i) k
    · intro k; exact qcr 1 harg9 Y ⟨(i 1).val, (i 1).isLt⟩ I _ (ld2 harg11 I _) _ _ (k0_off14_eq i) k
    · intro k; exact qcr 2 harg9 Y ⟨(i 1).val, (i 1).isLt⟩ I _ (ld2 harg11 I _) _ _ (k0_off15_eq i) k
    · intro k; exact qcr 3 harg9 Y ⟨(i 1).val, (i 1).isLt⟩ I _ (ld2 harg11 I _) _ _ (k0_off16_eq i) k
    · intro k; exact qcr 4 harg9 Y ⟨(i 1).val, (i 1).isLt⟩ I _ (ld2 harg11 I _) _ _ (k0_off17_eq i) k
    · intro k; exact qcr 5 harg9 Y ⟨(i 1).val, (i 1).isLt⟩ I _ (ld2 harg11 I _) _ _ (k0_off18_eq i) k
  isplitl [H6]
  · iexists _; isplitr
    swap; · iexact H6
    ipureintro
    exact harg8.read_unread _
  isplitl [H7]
  · iexists _; isplitr
    swap; · iexact H7
    ipureintro
    exact harg9.read_unread _
  isplitl [H8]
  · iexists _; isplitr
    swap; · iexact H8
    ipureintro
    exact harg10.read_unread _
  isplitl [H9]
  · iexists _; isplitr
    swap; · iexact H9
    ipureintro
    exact harg11.read_unread _
  iexists _; isplitr
  swap; · iexact H10
  ipureintro
  exact harg12.read_unread _

end Cert.Kernel.Fn
-- ==== Proof.K.Sched.lean ====
/-
  The grid point by point: a point's row block and column block, the branch conditions, the blocks the windows name,
  and the points at which the two output windows are written back.
-/
module

public import proofs.«01_k».proof.Proof.Gen.Kernel.Frame
public import Idealize.ShloMosaic.Lib.Pipeline.TableIdle

@[expose] public section

set_option maxRecDepth 16384

noncomputable section

namespace Cert.Kernel.Fn

open Idealize.ShloMosaic Idealize.SL.Sem
open Cert.Kernel Cert.Kernel.Gen

theorem N_eq : cfg0.N = 891 := N_0

/-- The row block of a point. -/
theorem coord0 (t : Fin cfg0.N) : (cfg0.grid.coords t 0).val = t.val / 27 := by
  have h := Pipeline.Grid.coords_val (G := grid0) t 0 (S := 27) (B := 33) (by decide) rfl
  have ht : t.val < 891 := N_eq ▸ t.isLt
  rw [show (cfg0.grid.coords t 0).val = t.val / 27 % 33 from h]; omega
/-- The column block of a point. -/
theorem coord1 (t : Fin cfg0.N) : (cfg0.grid.coords t 1).val = t.val % 27 := by
  have h := Pipeline.Grid.coords_val (G := grid0) t 1 (S := 1) (B := 27) (by decide) rfl
  rw [show (cfg0.grid.coords t 1).val = t.val / 1 % 27 from h, Nat.div_one]

/-- The printed condition of the second conditional, by the grid point. -/
abbrev k0_cond2 (i : grid0.Coords) : BitVec 1 := (Scalar.cmpi .ne (Scalar.extui (Scalar.andi (Scalar.cmpi .slt (BitVec.ofNat 32 (i 0).val) 32#32) (Scalar.cmpi .eq (BitVec.ofNat 32 (i 1).val) 0#32)) : BitVec 32) 0#32 : BitVec 1)

theorem cond1_iff : ∀ t : Fin grid0.N, k0_cond1 (grid0.coords t) = 1#1 ↔ (27 ≤ t.val ∧ t.val % 27 = 0) := by decide +kernel
theorem cond2_iff : ∀ t : Fin grid0.N, k0_cond2 (grid0.coords t) = 1#1 ↔ (t.val < 864 ∧ t.val % 27 = 0) := by decide +kernel
theorem cond3_iff : ∀ t : Fin grid0.N, k0_cond3 (grid0.coords t) = 1#1 ↔ t.val < 27 := by decide +kernel
theorem cond4_iff : ∀ t : Fin grid0.N, k0_cond4 (grid0.coords t) = 1#1 ↔ (27 ≤ t.val ∧ t.val < 864) := by decide +kernel
theorem cond5_iff : ∀ t : Fin grid0.N, k0_cond5 (grid0.coords t) = 1#1 ↔ 864 ≤ t.val := by decide +kernel

/-! ## The blocks the windows name -/

theorem tr0 : ∀ t : Fin grid0.N, cc0_transform_0 (grid0.coords t) = ![min (t.val / 27) 31, 0] := by decide +kernel
theorem tr1 : ∀ t : Fin grid0.N, cc0_transform_1 (grid0.coords t) = ![min (t.val / 27) 31, 0, 0] := by decide +kernel
theorem tr2 : ∀ t : Fin grid0.N, cc0_transform_2 (grid0.coords t) = ![0, if t.val < 864 then t.val % 27 else 26] := by decide +kernel
theorem tr3 : ∀ t : Fin grid0.N, cc0_transform_3 (grid0.coords t) = ![0, if t.val < 864 then t.val % 27 else 26] := by decide +kernel
theorem tr4 : ∀ t : Fin grid0.N, cc0_transform_4 (grid0.coords t) = ![min (t.val / 27) 31, if t.val < 864 then t.val % 27 else 26] := by decide +kernel
theorem tr5 : ∀ t : Fin grid0.N, cc0_transform_5 (grid0.coords t) = ![t.val / 27 - 1, if t.val < 27 then 0 else t.val % 27] := by decide +kernel
theorem tr6 : ∀ t : Fin grid0.N, cc0_transform_6 (grid0.coords t) = ![t.val / 27 - 1, 0, 0] := by decide +kernel

/-! ## Idle points and write-backs of the two outputs -/

theorem idle5 (t : Fin cfg0.N) : cfg0.idle 5 (cfg0.grid.coords t) = decide (t.val < 27) := by
  show (!(k0_cond4 (grid0.coords t) == 1#1) && !(k0_cond5 (grid0.coords t) == 1#1)) = _
  have h4 := cond4_iff t
  have h5 := cond5_iff t
  rcases Nat.lt_or_ge t.val 27 with h | h
  · rw [beq_eq_false_iff_ne.mpr (fun e => by have := h4.mp e; omega), beq_eq_false_iff_ne.mpr (fun e => by have := h5.mp e; omega), decide_eq_true h]; rfl
  · rw [decide_eq_false (by omega)]
    rcases Nat.lt_or_ge t.val 864 with h' | h'
    · rw [beq_iff_eq.mpr (h4.mpr ⟨h, h'⟩)]; rfl
    · rw [beq_iff_eq.mpr (h5.mpr h')]; simp

theorem idle6 (t : Fin cfg0.N) : cfg0.idle 6 (cfg0.grid.coords t) = decide (¬ (27 ≤ t.val ∧ t.val % 27 = 0)) := by
  show (!(k0_cond1 (grid0.coords t) == 1#1)) = _
  have h1 := cond1_iff t
  by_cases h : 27 ≤ t.val ∧ t.val % 27 = 0
  · rw [beq_iff_eq.mpr (h1.mpr h), decide_eq_false (not_not_intro h)]; rfl
  · rw [beq_eq_false_iff_ne.mpr (fun e => h (h1.mp e)), decide_eq_true h]; rfl

theorem flush5 (t : Fin cfg0.N) : (cfg0.win 5).flush t = decide (27 ≤ t.val) := by
  rw [Pipeline.Window.flush_eq_flushF]
  have e : ∀ t : Fin grid0.N, (cfg0.win 5).index t = ![t.val / 27 - 1, if t.val < 27 then 0 else t.val % 27] := tr5
  have ht : t.val < 891 := N_eq ▸ t.isLt
  have hN : grid0.N = 891 := N_0
  rw [show (cfg0.win 5).flushF t = (true && (decide (t.val + 1 = grid0.N) || decide (∃ h : t.val + 1 < grid0.N, ∃ a : Fin 2, (cfg0.win 5).index ⟨t.val + 1, h⟩ a ≠ (cfg0.win 5).index t a))) from rfl]
  rw [Bool.true_and, ← Bool.decide_or, decide_eq_decide]
  simp only [e, Fin.exists_fin_two, Matrix.cons_val_zero, Matrix.cons_val_one, Matrix.cons_val_fin_one]
  constructor
  · rintro (h | ⟨h, h' | h'⟩)
    · omega
    · omega
    · split_ifs at h' <;> omega
  · intro h
    by_cases h1 : t.val + 1 = grid0.N
    · exact Or.inl h1
    · refine Or.inr ⟨by omega, Or.inr ?_⟩
      rw [if_neg (by omega), if_neg (by omega)]; omega

theorem flush6 (t : Fin cfg0.N) : (cfg0.win 6).flush t = decide (27 ≤ t.val ∧ t.val % 27 = 26) := by
  rw [Pipeline.Window.flush_eq_flushF]
  have e : ∀ t : Fin grid0.N, (cfg0.win 6).index t = ![t.val / 27 - 1, 0, 0] := tr6
  have ht : t.val < 891 := N_eq ▸ t.isLt
  have hN : grid0.N = 891 := N_0
  rw [show (cfg0.win 6).flushF t = (true && (decide (t.val + 1 = grid0.N) || decide (∃ h : t.val + 1 < grid0.N, ∃ a : Fin 3, (cfg0.win 6).index ⟨t.val + 1, h⟩ a ≠ (cfg0.win 6).index t a))) from rfl]
  rw [Bool.true_and, ← Bool.decide_or, decide_eq_decide]
  simp only [e, Fin.exists_fin_succ, Fin.exists_fin_zero, Matrix.cons_val_zero, Matrix.cons_val_succ, ne_eq, not_true_eq_false, or_false]
  constructor
  · rintro (h | ⟨h, h'⟩)
    · omega
    · omega
  · intro h
    by_cases h1 : t.val + 1 = grid0.N
    · exact Or.inl h1
    · exact Or.inr ⟨by omega, by omega⟩

/-- The scale window holds nothing of the run's through the first row of points, and at the first point of a row. -/
theorem fresh6 (t : Fin cfg0.N) : cfg0.fresh 6 t.val = decide (t.val < 27 ∨ t.val % 27 = 0) := by
  refine cfg0.fresh_tab 6 (fun n => decide (n < 27 ∨ n % 27 = 0)) rfl (fun s => ?_) t.val (Nat.le_of_lt t.isLt)
  have hs : s.val < 891 := N_eq ▸ s.isLt
  rw [flush6, idle6, ← Bool.decide_and, ← Bool.decide_or, decide_eq_decide]
  omega

end Cert.Kernel.Fn
-- ==== Proof.K.Inv.lean ====
/-
  What the buffers kept between points hold: the column blocks of `y` of the last 27 points, the running maximum, the
  inverse row scales and the input row scales of the row block at hand; and how one point moves this on.
-/
module

public import proofs.«01_k».proof.Proof.K.Fn
public import proofs.«01_k».proof.Proof.K.Sched

@[expose] public section

set_option maxRecDepth 16384

noncomputable section

namespace Cert.Kernel.Fn

open Idealize.ShloMosaic Idealize.ShloMosaic.TcCoe Idealize.SL.Sem
open Cert.Kernel Cert.Kernel.Gen

variable {F : FTy → Type} [FloatOps F]
variable (m : (ℓ : Loc nD τ sig) → Buf (Elt F) ℓ) (c : Dev nD)

/-- Point `n` of the grid. -/
def pt (n : ℕ) : Fin cfg0.N := ⟨n % 891, N_eq ▸ Nat.mod_lt _ (by decide)⟩

theorem pt_val (t : Fin cfg0.N) : pt t.val = t :=
  Fin.ext (Nat.mod_eq_of_lt (N_eq ▸ t.isLt))

/-- The block of `y` point `n` computes. -/
def yN (n : ℕ) : FVec F S512x768 .f32 :=
  yv (k0_pay50 (iblk m c 0 (pt n)) (iblk m c 2 (pt n))) (xsb (iblk m c 1 (pt (27 * (n / 27))))) (iblk m c 3 (pt n)) (iblk m c 4 (pt n))

/-- The running maximum after point `n`. -/
def accN : ℕ → FVec F S512x128 .f32
  | 0 => mv (yN m c 0)
  | n + 1 => amaxNew ((n + 1) % 27) (accN n) (yN m c (n + 1))

/-- The running maximum of the row block before point `n`'s. -/
def accPrev (n : ℕ) : FVec F S512x128 .f32 := accN m c (27 * (n / 27) - 1)

/-- The block of codes point `n` writes. -/
def codesN (n : ℕ) : FVec F S512x768 .fp8e4m3 := quant (yN m c (n - 27)) (invTile (accPrev m c n))
/-- The scale window's contents from the first point of a row on. -/
def scalesN (n : ℕ) : FVec F S1x1x512 .f32 := ysv (accPrev m c n)

theorem accN_of (n : ℕ) (A : Vec F S512x128 .f32) (hA : 0 < n → A = accN m c (n - 1)) : amaxNew (n % 27) A (yN m c n) = accN m c n := by
  cases n with
  | zero => rfl
  | succ n => rw [hA (Nat.succ_pos n)]; rfl

/-- The kept buffers before point `n`. -/
structure Inv (n : ℕ) (Y : Vec F S27x512x768 .f32) (A I X : Vec F S512x128 .f32) : Prop where
  y : ∀ k, k < min n 864 → min n 864 ≤ k + 27 → slab ⟨k % 27, Nat.mod_lt _ (by decide)⟩ Y = yN m c k
  a : 0 < n → A = accN m c (min n 864 - 1)
  i : 27 < n → I = invTile (accPrev m c (n - 1))
  x : 0 < n → n ≤ 864 → X = xsb (iblk m c 1 (pt (27 * ((n - 1) / 27))))

theorem inv_zero (Y A I X) : Inv m c 0 Y A I X :=
  ⟨fun k h => by omega, fun h => by omega, fun h => by omega, fun h => by omega⟩

variable {m c} {n : ℕ} {Y : Vec F S27x512x768 .f32} {A I X : Vec F S512x128 .f32}

theorem slab_put_self (j : Fin 27) (y : FVec F S512x768 .f32) : slab j (put j Y y) = y := by
  funext k
  exact (put_self j Y y j (k 0) (k 1) rfl).trans (congrArg y (eq_ix2 k).symm)
theorem slab_put_ne (j j' : Fin 27) (y : FVec F S512x768 .f32) (h : ¬ j'.val = j.val) : slab j' (put j Y y) = slab j' Y := by
  funext k
  exact put_ne j Y y j' (k 0) (k 1) h

/-- The input row scales a point uses. -/
theorem Inv.xs (h : Inv m c n Y A I X) (hn : n < 864) (h0 : ¬ n % 27 = 0) : X = xsb (iblk m c 1 (pt (27 * (n / 27)))) := by
  rw [h.x (by omega) (by omega), show (n - 1) / 27 = n / 27 by omega]
theorem xs_start (hn : n % 27 = 0) : xsb (iblk m c 1 (pt n)) = xsb (iblk m c 1 (pt (27 * (n / 27)))) := by
  rw [show 27 * (n / 27) = n by omega]
/-- The inverse row scales a point uses. -/
theorem Inv.inv (h : Inv m c n Y A I X) (hn : 27 ≤ n) (h0 : ¬ n % 27 = 0) : I = invTile (accPrev m c n) := by
  rw [h.i (by omega)]
  unfold accPrev; rw [show (n - 1) / 27 = n / 27 by omega]
theorem Inv.inv_start (h : Inv m c n Y A I X) (hn : 27 ≤ n) (hN : n < 891) (h0 : n % 27 = 0) : A = accPrev m c n := by
  rw [h.a (by omega), show min n 864 - 1 = 27 * (n / 27) - 1 by omega]; rfl
/-- The codes a point writes. -/
theorem Inv.codes (h : Inv m c n Y A I X) (hn : 27 ≤ n) (hN : n < 891) (I' : Vec F S512x128 .f32) (hI : I' = invTile (accPrev m c n)) (j : Fin 27) (hj : j.val = n % 27) :
    quant (slab j Y) I' = codesN m c n := by
  have hy := h.y (n - 27) (by omega) (by omega)
  rw [show (⟨(n - 27) % 27, Nat.mod_lt _ (by decide)⟩ : Fin 27) = j from Fin.ext (by simp only; omega)] at hy
  rw [hy, hI]; rfl
/-- After a point that computes a block of `y`. -/
theorem Inv.next (h : Inv m c n Y A I X) (hn : n < 864) (X' I' : Vec F S512x128 .f32) (hX : X' = xsb (iblk m c 1 (pt (27 * (n / 27)))))
    (hI : 27 ≤ n → I' = invTile (accPrev m c n)) (j : Fin 27) (hj : j.val = n % 27) :
    Inv m c (n + 1) (put j Y (yv (k0_pay50 (iblk m c 0 (pt n)) (iblk m c 2 (pt n))) X' (iblk m c 3 (pt n)) (iblk m c 4 (pt n))))
      (amaxNew j.val A (yv (k0_pay50 (iblk m c 0 (pt n)) (iblk m c 2 (pt n))) X' (iblk m c 3 (pt n)) (iblk m c 4 (pt n)))) I' X' := by
  have hy : yv (k0_pay50 (iblk m c 0 (pt n)) (iblk m c 2 (pt n))) X' (iblk m c 3 (pt n)) (iblk m c 4 (pt n)) = yN m c n := by rw [hX]; rfl
  rw [hy]
  refine ⟨fun k hk hk' => ?_, fun _ => ?_, fun hh => ?_, fun _ _ => ?_⟩
  · by_cases hkn : k = n
    · subst hkn
      rw [show (⟨k % 27, Nat.mod_lt _ (by decide)⟩ : Fin 27) = j from Fin.ext hj.symm, slab_put_self]
    · rw [slab_put_ne _ _ _ (by simp only [hj]; omega)]
      exact h.y k (by omega) (by omega)
  · rw [hj, accN_of m c n A (fun h0 => by rw [h.a h0, show min n 864 - 1 = n - 1 by omega]), show min (n + 1) 864 - 1 = n by omega]
  · rw [hI (by omega)]; rfl
  · rw [hX]; rfl
/-- After a point of the drain. -/
theorem Inv.next' (h : Inv m c n Y A I X) (hn : 864 ≤ n) (I' : Vec F S512x128 .f32) (hI : I' = invTile (accPrev m c n)) : Inv m c (n + 1) Y A I' X := by
  refine ⟨fun k hk hk' => h.y k (by omega) (by omega), fun _ => ?_, fun hh => hI, fun _ _ => by omega⟩
  rw [h.a (by omega), show min n 864 = min (n + 1) 864 by omega]

end Cert.Kernel.Fn
-- ==== Proof.K.Point.lean ====
/-
  One grid point, whatever its kind: from the kept buffers' contents before it to the contents after it, and what it
  leaves in the two results' windows.
-/
module

public import proofs.«01_k».proof.Proof.K.RunA
public import proofs.«01_k».proof.Proof.K.RunB
public import proofs.«01_k».proof.Proof.K.RunC
public import proofs.«01_k».proof.Proof.K.RunD
public import proofs.«01_k».proof.Proof.K.RunE
public import proofs.«01_k».proof.Proof.K.RunF
public import proofs.«01_k».proof.Proof.K.Inv

@[expose] public section

set_option maxRecDepth 16384

noncomputable section

namespace Cert.Kernel.Fn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- What point `n` leaves in the codes' window, found at `d`. -/
def new5 (c : Dev nD) (n : ℕ) (d : FVec F S512x768 .fp8e4m3) : FVec F S512x768 .fp8e4m3 := if n < 27 then d else codesN m c n
/-- What point `n` leaves in the scales' window, found at `d`. -/
def new6 (c : Dev nD) (n : ℕ) (d : FVec F S1x1x512 .f32) : FVec F S1x1x512 .f32 := if 27 ≤ n ∧ n % 27 = 0 then scalesN m c n else d

/-- The body's post at a point. -/
def runPost (c : Dev nD) (t : Fin cfg0.N) (arg2 : Memref sig .tc .vmem S512x4480 .fp8e4m3) (arg3 : Memref sig .tc .vmem S1x1x512 .f32) (arg4 : Memref sig .tc .vmem S4480x768 .fp8e4m3) (arg5 : Memref sig .tc .vmem S1x768 .f32) (arg6 : Memref sig .tc .vmem S512x768 .bf16) (arg7 : Memref sig .tc .vmem S512x768 .fp8e4m3) (arg8 : Memref sig .tc .vmem S1x1x512 .f32) (arg9 : Memref sig .tc .vmem S27x512x768 .f32) (arg10 : Memref sig .tc .vmem S512x128 .f32) (arg11 : Memref sig .tc .vmem S512x128 .f32) (arg12 : Memref sig .tc .vmem S512x128 .f32)
    (d5 : FVec F S512x768 .fp8e4m3) (d6 : FVec F S1x1x512 .f32) : sProp 𝕄 :=
  iprop(∃ Y' A' I' X', ⌜Inv m c (t.val + 1) Y' A' I' X'⌝ ∗ owns (c : Thread nD τ) arg2 fullShare (iblk m c 0 t) ∗ owns (c : Thread nD τ) arg3 fullShare (iblk m c 1 t) ∗ owns (c : Thread nD τ) arg4 fullShare (iblk m c 2 t) ∗ owns (c : Thread nD τ) arg5 fullShare (iblk m c 3 t) ∗ owns (c : Thread nD τ) arg6 fullShare (iblk m c 4 t) ∗ owns (c : Thread nD τ) arg7 fullShare (new5 m c t.val d5) ∗ owns (c : Thread nD τ) arg8 fullShare (new6 m c t.val d6) ∗ owns (c : Thread nD τ) arg9 fullShare Y' ∗ owns (c : Thread nD τ) arg10 fullShare A' ∗ owns (c : Thread nD τ) arg11 fullShare I' ∗ owns (c : Thread nD τ) arg12 fullShare X')

theorem pointA (c : Dev nD) (E : Set ℕ) (t : Fin cfg0.N) (arg2 : Memref sig .tc .vmem S512x4480 .fp8e4m3) (harg2 : arg2.IsWhole) (arg3 : Memref sig .tc .vmem S1x1x512 .f32) (harg3 : arg3.IsWhole) (arg4 : Memref sig .tc .vmem S4480x768 .fp8e4m3) (harg4 : arg4.IsWhole) (arg5 : Memref sig .tc .vmem S1x768 .f32) (harg5 : arg5.IsWhole) (arg6 : Memref sig .tc .vmem S512x768 .bf16) (harg6 : arg6.IsWhole) (arg7 : Memref sig .tc .vmem S512x768 .fp8e4m3) (harg7 : arg7.IsWhole) (arg8 : Memref sig .tc .vmem S1x1x512 .f32) (harg8 : arg8.IsWhole) (arg9 : Memref sig .tc .vmem S27x512x768 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (d5 : FVec F S512x768 .fp8e4m3) (d6 : FVec F S1x1x512 .f32) (Y : Vec F S27x512x768 .f32) (A I X : Vec F S512x128 .f32) (h : Inv m c t.val Y A I X)
    (hg : t.val < 27) (hz : t.val % 27 = 0) (K : PUnit → sProp 𝕄) :
    iprop(owns (c : Thread nD τ) arg2 fullShare (iblk m c 0 t) ∗ owns (c : Thread nD τ) arg3 fullShare (iblk m c 1 t) ∗ owns (c : Thread nD τ) arg4 fullShare (iblk m c 2 t) ∗ owns (c : Thread nD τ) arg5 fullShare (iblk m c 3 t) ∗ owns (c : Thread nD τ) arg6 fullShare (iblk m c 4 t) ∗ owns (c : Thread nD τ) arg7 fullShare d5 ∗ owns (c : Thread nD τ) arg8 fullShare d6 ∗ owns (c : Thread nD τ) arg9 fullShare Y ∗ owns (c : Thread nD τ) arg10 fullShare A ∗ owns (c : Thread nD τ) arg11 fullShare I ∗ owns (c : Thread nD τ) arg12 fullShare X
      ∗ (runPost m c t arg2 arg3 arg4 arg5 arg6 arg7 arg8 arg9 arg10 arg11 arg12 d5 d6 -∗ K ⟨⟩))
      ⊢ wp frame (wpE (defs₀ (F := F)) Variants.none c none) E (cc0_fp8_linear_requant (grid0.coords t) arg2 harg2 arg3 harg3 arg4 harg4 arg5 harg5 arg6 harg6 arg7 harg7 arg8 harg8 arg9 harg9 arg10 harg10 arg11 harg11 arg12 harg12) K := by
  have hN : t.val < 891 := N_eq ▸ t.isLt
  have hj : ((grid0.coords t) 1).val = t.val % 27 := coord1 t
  have hX : xsb (iblk m c 1 t) = xsb (iblk m c 1 (pt (27 * (t.val / 27)))) := by
    have := xs_start (m := m) (c := c) hz; rwa [pt_val] at this
  have hnext := h.next (by omega) (xsb (iblk m c 1 t)) I hX (fun hh => by omega) ⟨((grid0.coords t) 1).val, ((grid0.coords t) 1).isLt⟩ hj
  rw [pt_val] at hnext
  have h5 : d5 = new5 m c t.val d5 := (if_pos (by omega)).symm
  have h6 : d6 = new6 m c t.val d6 := (if_neg (by omega)).symm
  iintro ⟨H0, H1, H2, H3, H4, H5, H6, H7, H8, H9, H10, Hk⟩
  iapply (runA c E (grid0.coords t) arg2 harg2 arg3 harg3 arg4 harg4 arg5 harg5 arg6 harg6 arg7 harg7 arg8 harg8 arg9 harg9 arg10 harg10 arg11 harg11 arg12 harg12 (by rw [cond1_iff]; omega) ((cond2_iff t).mpr (by omega)) (by rw [cond3_iff]; omega) (by rw [cond4_iff]; omega) (by rw [cond5_iff]; omega)
    (iblk m c 0 t) (iblk m c 1 t) (iblk m c 2 t) (iblk m c 3 t) (iblk m c 4 t) d5 d6 Y A I X K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  iapply Hk
  unfold runPost
  iexists (put ⟨((grid0.coords t) 1).val, ((grid0.coords t) 1).isLt⟩ Y (yv (k0_pay50 (iblk m c 0 t) (iblk m c 2 t)) (xsb (iblk m c 1 t)) (iblk m c 3 t) (iblk m c 4 t))), (amaxNew ((grid0.coords t) 1).val A (yv (k0_pay50 (iblk m c 0 t) (iblk m c 2 t)) (xsb (iblk m c 1 t)) (iblk m c 3 t) (iblk m c 4 t))), I, (xsb (iblk m c 1 t))
  isplitr; · ipureintro; exact hnext
  isplitl [H0]; · iexact H0
  isplitl [H1]; · iexact H1
  isplitl [H2]; · iexact H2
  isplitl [H3]; · iexact H3
  isplitl [H4]; · iexact H4
  isplitl [H5]; · rw [← h5]; iexact H5
  isplitl [H6]; · rw [← h6]; iexact H6
  isplitl [H7]; · iexact H7
  isplitl [H8]; · iexact H8
  isplitl [H9]; · iexact H9
  iexact H10

theorem pointB (c : Dev nD) (E : Set ℕ) (t : Fin cfg0.N) (arg2 : Memref sig .tc .vmem S512x4480 .fp8e4m3) (harg2 : arg2.IsWhole) (arg3 : Memref sig .tc .vmem S1x1x512 .f32) (harg3 : arg3.IsWhole) (arg4 : Memref sig .tc .vmem S4480x768 .fp8e4m3) (harg4 : arg4.IsWhole) (arg5 : Memref sig .tc .vmem S1x768 .f32) (harg5 : arg5.IsWhole) (arg6 : Memref sig .tc .vmem S512x768 .bf16) (harg6 : arg6.IsWhole) (arg7 : Memref sig .tc .vmem S512x768 .fp8e4m3) (harg7 : arg7.IsWhole) (arg8 : Memref sig .tc .vmem S1x1x512 .f32) (harg8 : arg8.IsWhole) (arg9 : Memref sig .tc .vmem S27x512x768 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (d5 : FVec F S512x768 .fp8e4m3) (d6 : FVec F S1x1x512 .f32) (Y : Vec F S27x512x768 .f32) (A I X : Vec F S512x128 .f32) (h : Inv m c t.val Y A I X)
    (hg : t.val < 27) (hz : ¬ t.val % 27 = 0) (K : PUnit → sProp 𝕄) :
    iprop(owns (c : Thread nD τ) arg2 fullShare (iblk m c 0 t) ∗ owns (c : Thread nD τ) arg3 fullShare (iblk m c 1 t) ∗ owns (c : Thread nD τ) arg4 fullShare (iblk m c 2 t) ∗ owns (c : Thread nD τ) arg5 fullShare (iblk m c 3 t) ∗ owns (c : Thread nD τ) arg6 fullShare (iblk m c 4 t) ∗ owns (c : Thread nD τ) arg7 fullShare d5 ∗ owns (c : Thread nD τ) arg8 fullShare d6 ∗ owns (c : Thread nD τ) arg9 fullShare Y ∗ owns (c : Thread nD τ) arg10 fullShare A ∗ owns (c : Thread nD τ) arg11 fullShare I ∗ owns (c : Thread nD τ) arg12 fullShare X
      ∗ (runPost m c t arg2 arg3 arg4 arg5 arg6 arg7 arg8 arg9 arg10 arg11 arg12 d5 d6 -∗ K ⟨⟩))
      ⊢ wp frame (wpE (defs₀ (F := F)) Variants.none c none) E (cc0_fp8_linear_requant (grid0.coords t) arg2 harg2 arg3 harg3 arg4 harg4 arg5 harg5 arg6 harg6 arg7 harg7 arg8 harg8 arg9 harg9 arg10 harg10 arg11 harg11 arg12 harg12) K := by
  have hN : t.val < 891 := N_eq ▸ t.isLt
  have hj : ((grid0.coords t) 1).val = t.val % 27 := coord1 t
  have hX : X = xsb (iblk m c 1 (pt (27 * (t.val / 27)))) := h.xs (by omega) hz
  have hnext := h.next (by omega) X I hX (fun hh => by omega) ⟨((grid0.coords t) 1).val, ((grid0.coords t) 1).isLt⟩ hj
  rw [pt_val] at hnext
  have h5 : d5 = new5 m c t.val d5 := (if_pos (by omega)).symm
  have h6 : d6 = new6 m c t.val d6 := (if_neg (by omega)).symm
  iintro ⟨H0, H1, H2, H3, H4, H5, H6, H7, H8, H9, H10, Hk⟩
  iapply (runB c E (grid0.coords t) arg2 harg2 arg3 harg3 arg4 harg4 arg5 harg5 arg6 harg6 arg7 harg7 arg8 harg8 arg9 harg9 arg10 harg10 arg11 harg11 arg12 harg12 (by rw [cond1_iff]; omega) (fun h => absurd ((cond2_iff t).mp h) (by omega)) (by rw [cond3_iff]; omega) (by rw [cond4_iff]; omega) (by rw [cond5_iff]; omega)
    (iblk m c 0 t) (iblk m c 1 t) (iblk m c 2 t) (iblk m c 3 t) (iblk m c 4 t) d5 d6 Y A I X K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  iapply Hk
  unfold runPost
  iexists (put ⟨((grid0.coords t) 1).val, ((grid0.coords t) 1).isLt⟩ Y (yv (k0_pay50 (iblk m c 0 t) (iblk m c 2 t)) X (iblk m c 3 t) (iblk m c 4 t))), (amaxNew ((grid0.coords t) 1).val A (yv (k0_pay50 (iblk m c 0 t) (iblk m c 2 t)) X (iblk m c 3 t) (iblk m c 4 t))), I, X
  isplitr; · ipureintro; exact hnext
  isplitl [H0]; · iexact H0
  isplitl [H1]; · iexact H1
  isplitl [H2]; · iexact H2
  isplitl [H3]; · iexact H3
  isplitl [H4]; · iexact H4
  isplitl [H5]; · rw [← h5]; iexact H5
  isplitl [H6]; · rw [← h6]; iexact H6
  isplitl [H7]; · iexact H7
  isplitl [H8]; · iexact H8
  isplitl [H9]; · iexact H9
  iexact H10

theorem pointC (c : Dev nD) (E : Set ℕ) (t : Fin cfg0.N) (arg2 : Memref sig .tc .vmem S512x4480 .fp8e4m3) (harg2 : arg2.IsWhole) (arg3 : Memref sig .tc .vmem S1x1x512 .f32) (harg3 : arg3.IsWhole) (arg4 : Memref sig .tc .vmem S4480x768 .fp8e4m3) (harg4 : arg4.IsWhole) (arg5 : Memref sig .tc .vmem S1x768 .f32) (harg5 : arg5.IsWhole) (arg6 : Memref sig .tc .vmem S512x768 .bf16) (harg6 : arg6.IsWhole) (arg7 : Memref sig .tc .vmem S512x768 .fp8e4m3) (harg7 : arg7.IsWhole) (arg8 : Memref sig .tc .vmem S1x1x512 .f32) (harg8 : arg8.IsWhole) (arg9 : Memref sig .tc .vmem S27x512x768 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (d5 : FVec F S512x768 .fp8e4m3) (d6 : FVec F S1x1x512 .f32) (Y : Vec F S27x512x768 .f32) (A I X : Vec F S512x128 .f32) (h : Inv m c t.val Y A I X)
    (hg : 27 ≤ t.val ∧ t.val < 864) (hz : t.val % 27 = 0) (K : PUnit → sProp 𝕄) :
    iprop(owns (c : Thread nD τ) arg2 fullShare (iblk m c 0 t) ∗ owns (c : Thread nD τ) arg3 fullShare (iblk m c 1 t) ∗ owns (c : Thread nD τ) arg4 fullShare (iblk m c 2 t) ∗ owns (c : Thread nD τ) arg5 fullShare (iblk m c 3 t) ∗ owns (c : Thread nD τ) arg6 fullShare (iblk m c 4 t) ∗ owns (c : Thread nD τ) arg7 fullShare d5 ∗ owns (c : Thread nD τ) arg8 fullShare d6 ∗ owns (c : Thread nD τ) arg9 fullShare Y ∗ owns (c : Thread nD τ) arg10 fullShare A ∗ owns (c : Thread nD τ) arg11 fullShare I ∗ owns (c : Thread nD τ) arg12 fullShare X
      ∗ (runPost m c t arg2 arg3 arg4 arg5 arg6 arg7 arg8 arg9 arg10 arg11 arg12 d5 d6 -∗ K ⟨⟩))
      ⊢ wp frame (wpE (defs₀ (F := F)) Variants.none c none) E (cc0_fp8_linear_requant (grid0.coords t) arg2 harg2 arg3 harg3 arg4 harg4 arg5 harg5 arg6 harg6 arg7 harg7 arg8 harg8 arg9 harg9 arg10 harg10 arg11 harg11 arg12 harg12) K := by
  have hN : t.val < 891 := N_eq ▸ t.isLt
  have hj : ((grid0.coords t) 1).val = t.val % 27 := coord1 t
  have hX : xsb (iblk m c 1 t) = xsb (iblk m c 1 (pt (27 * (t.val / 27)))) := by
    have := xs_start (m := m) (c := c) hz; rwa [pt_val] at this
  have hI : invTile A = invTile (accPrev m c t.val) := congrArg invTile (h.inv_start (by omega) hN hz)
  have hnext := h.next (by omega) (xsb (iblk m c 1 t)) (invTile A) hX (fun _ => hI) ⟨((grid0.coords t) 1).val, ((grid0.coords t) 1).isLt⟩ hj
  rw [pt_val] at hnext
  have h5 : quant (slab ⟨((grid0.coords t) 1).val, ((grid0.coords t) 1).isLt⟩ Y) (invTile A) = new5 m c t.val d5 :=
    (h.codes (by omega) hN (invTile A) hI _ hj).trans (if_neg (by omega)).symm
  have h6 : ysv A = new6 m c t.val d6 := (congrArg ysv (h.inv_start (by omega) hN hz)).trans (if_pos (by omega)).symm
  iintro ⟨H0, H1, H2, H3, H4, H5, H6, H7, H8, H9, H10, Hk⟩
  iapply (runC c E (grid0.coords t) arg2 harg2 arg3 harg3 arg4 harg4 arg5 harg5 arg6 harg6 arg7 harg7 arg8 harg8 arg9 harg9 arg10 harg10 arg11 harg11 arg12 harg12 (by rw [cond1_iff]; omega) ((cond2_iff t).mpr (by omega)) (by rw [cond3_iff]; omega) (by rw [cond4_iff]; omega) (by rw [cond5_iff]; omega)
    (iblk m c 0 t) (iblk m c 1 t) (iblk m c 2 t) (iblk m c 3 t) (iblk m c 4 t) d5 d6 Y A I X K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  iapply Hk
  unfold runPost
  iexists (put ⟨((grid0.coords t) 1).val, ((grid0.coords t) 1).isLt⟩ Y (yv (k0_pay50 (iblk m c 0 t) (iblk m c 2 t)) (xsb (iblk m c 1 t)) (iblk m c 3 t) (iblk m c 4 t))), (amaxNew ((grid0.coords t) 1).val A (yv (k0_pay50 (iblk m c 0 t) (iblk m c 2 t)) (xsb (iblk m c 1 t)) (iblk m c 3 t) (iblk m c 4 t))), (invTile A), (xsb (iblk m c 1 t))
  isplitr; · ipureintro; exact hnext
  isplitl [H0]; · iexact H0
  isplitl [H1]; · iexact H1
  isplitl [H2]; · iexact H2
  isplitl [H3]; · iexact H3
  isplitl [H4]; · iexact H4
  isplitl [H5]; · rw [← h5]; iexact H5
  isplitl [H6]; · rw [← h6]; iexact H6
  isplitl [H7]; · iexact H7
  isplitl [H8]; · iexact H8
  isplitl [H9]; · iexact H9
  iexact H10

theorem pointD (c : Dev nD) (E : Set ℕ) (t : Fin cfg0.N) (arg2 : Memref sig .tc .vmem S512x4480 .fp8e4m3) (harg2 : arg2.IsWhole) (arg3 : Memref sig .tc .vmem S1x1x512 .f32) (harg3 : arg3.IsWhole) (arg4 : Memref sig .tc .vmem S4480x768 .fp8e4m3) (harg4 : arg4.IsWhole) (arg5 : Memref sig .tc .vmem S1x768 .f32) (harg5 : arg5.IsWhole) (arg6 : Memref sig .tc .vmem S512x768 .bf16) (harg6 : arg6.IsWhole) (arg7 : Memref sig .tc .vmem S512x768 .fp8e4m3) (harg7 : arg7.IsWhole) (arg8 : Memref sig .tc .vmem S1x1x512 .f32) (harg8 : arg8.IsWhole) (arg9 : Memref sig .tc .vmem S27x512x768 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (d5 : FVec F S512x768 .fp8e4m3) (d6 : FVec F S1x1x512 .f32) (Y : Vec F S27x512x768 .f32) (A I X : Vec F S512x128 .f32) (h : Inv m c t.val Y A I X)
    (hg : 27 ≤ t.val ∧ t.val < 864) (hz : ¬ t.val % 27 = 0) (K : PUnit → sProp 𝕄) :
    iprop(owns (c : Thread nD τ) arg2 fullShare (iblk m c 0 t) ∗ owns (c : Thread nD τ) arg3 fullShare (iblk m c 1 t) ∗ owns (c : Thread nD τ) arg4 fullShare (iblk m c 2 t) ∗ owns (c : Thread nD τ) arg5 fullShare (iblk m c 3 t) ∗ owns (c : Thread nD τ) arg6 fullShare (iblk m c 4 t) ∗ owns (c : Thread nD τ) arg7 fullShare d5 ∗ owns (c : Thread nD τ) arg8 fullShare d6 ∗ owns (c : Thread nD τ) arg9 fullShare Y ∗ owns (c : Thread nD τ) arg10 fullShare A ∗ owns (c : Thread nD τ) arg11 fullShare I ∗ owns (c : Thread nD τ) arg12 fullShare X
      ∗ (runPost m c t arg2 arg3 arg4 arg5 arg6 arg7 arg8 arg9 arg10 arg11 arg12 d5 d6 -∗ K ⟨⟩))
      ⊢ wp frame (wpE (defs₀ (F := F)) Variants.none c none) E (cc0_fp8_linear_requant (grid0.coords t) arg2 harg2 arg3 harg3 arg4 harg4 arg5 harg5 arg6 harg6 arg7 harg7 arg8 harg8 arg9 harg9 arg10 harg10 arg11 harg11 arg12 harg12) K := by
  have hN : t.val < 891 := N_eq ▸ t.isLt
  have hj : ((grid0.coords t) 1).val = t.val % 27 := coord1 t
  have hX : X = xsb (iblk m c 1 (pt (27 * (t.val / 27)))) := h.xs (by omega) hz
  have hI : I = invTile (accPrev m c t.val) := h.inv (by omega) hz
  have hnext := h.next (by omega) X I hX (fun _ => hI) ⟨((grid0.coords t) 1).val, ((grid0.coords t) 1).isLt⟩ hj
  rw [pt_val] at hnext
  have h5 : quant (slab ⟨((grid0.coords t) 1).val, ((grid0.coords t) 1).isLt⟩ Y) I = new5 m c t.val d5 :=
    (h.codes (by omega) hN I hI _ hj).trans (if_neg (by omega)).symm
  have h6 : d6 = new6 m c t.val d6 := (if_neg (by omega)).symm
  iintro ⟨H0, H1, H2, H3, H4, H5, H6, H7, H8, H9, H10, Hk⟩
  iapply (runD c E (grid0.coords t) arg2 harg2 arg3 harg3 arg4 harg4 arg5 harg5 arg6 harg6 arg7 harg7 arg8 harg8 arg9 harg9 arg10 harg10 arg11 harg11 arg12 harg12 (by rw [cond1_iff]; omega) (fun h => absurd ((cond2_iff t).mp h) (by omega)) (by rw [cond3_iff]; omega) (by rw [cond4_iff]; omega) (by rw [cond5_iff]; omega)
    (iblk m c 0 t) (iblk m c 1 t) (iblk m c 2 t) (iblk m c 3 t) (iblk m c 4 t) d5 d6 Y A I X K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  iapply Hk
  unfold runPost
  iexists (put ⟨((grid0.coords t) 1).val, ((grid0.coords t) 1).isLt⟩ Y (yv (k0_pay50 (iblk m c 0 t) (iblk m c 2 t)) X (iblk m c 3 t) (iblk m c 4 t))), (amaxNew ((grid0.coords t) 1).val A (yv (k0_pay50 (iblk m c 0 t) (iblk m c 2 t)) X (iblk m c 3 t) (iblk m c 4 t))), I, X
  isplitr; · ipureintro; exact hnext
  isplitl [H0]; · iexact H0
  isplitl [H1]; · iexact H1
  isplitl [H2]; · iexact H2
  isplitl [H3]; · iexact H3
  isplitl [H4]; · iexact H4
  isplitl [H5]; · rw [← h5]; iexact H5
  isplitl [H6]; · rw [← h6]; iexact H6
  isplitl [H7]; · iexact H7
  isplitl [H8]; · iexact H8
  isplitl [H9]; · iexact H9
  iexact H10

theorem pointE (c : Dev nD) (E : Set ℕ) (t : Fin cfg0.N) (arg2 : Memref sig .tc .vmem S512x4480 .fp8e4m3) (harg2 : arg2.IsWhole) (arg3 : Memref sig .tc .vmem S1x1x512 .f32) (harg3 : arg3.IsWhole) (arg4 : Memref sig .tc .vmem S4480x768 .fp8e4m3) (harg4 : arg4.IsWhole) (arg5 : Memref sig .tc .vmem S1x768 .f32) (harg5 : arg5.IsWhole) (arg6 : Memref sig .tc .vmem S512x768 .bf16) (harg6 : arg6.IsWhole) (arg7 : Memref sig .tc .vmem S512x768 .fp8e4m3) (harg7 : arg7.IsWhole) (arg8 : Memref sig .tc .vmem S1x1x512 .f32) (harg8 : arg8.IsWhole) (arg9 : Memref sig .tc .vmem S27x512x768 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (d5 : FVec F S512x768 .fp8e4m3) (d6 : FVec F S1x1x512 .f32) (Y : Vec F S27x512x768 .f32) (A I X : Vec F S512x128 .f32) (h : Inv m c t.val Y A I X)
    (hg : 864 ≤ t.val) (hz : t.val % 27 = 0) (K : PUnit → sProp 𝕄) :
    iprop(owns (c : Thread nD τ) arg2 fullShare (iblk m c 0 t) ∗ owns (c : Thread nD τ) arg3 fullShare (iblk m c 1 t) ∗ owns (c : Thread nD τ) arg4 fullShare (iblk m c 2 t) ∗ owns (c : Thread nD τ) arg5 fullShare (iblk m c 3 t) ∗ owns (c : Thread nD τ) arg6 fullShare (iblk m c 4 t) ∗ owns (c : Thread nD τ) arg7 fullShare d5 ∗ owns (c : Thread nD τ) arg8 fullShare d6 ∗ owns (c : Thread nD τ) arg9 fullShare Y ∗ owns (c : Thread nD τ) arg10 fullShare A ∗ owns (c : Thread nD τ) arg11 fullShare I ∗ owns (c : Thread nD τ) arg12 fullShare X
      ∗ (runPost m c t arg2 arg3 arg4 arg5 arg6 arg7 arg8 arg9 arg10 arg11 arg12 d5 d6 -∗ K ⟨⟩))
      ⊢ wp frame (wpE (defs₀ (F := F)) Variants.none c none) E (cc0_fp8_linear_requant (grid0.coords t) arg2 harg2 arg3 harg3 arg4 harg4 arg5 harg5 arg6 harg6 arg7 harg7 arg8 harg8 arg9 harg9 arg10 harg10 arg11 harg11 arg12 harg12) K := by
  have hN : t.val < 891 := N_eq ▸ t.isLt
  have hj : ((grid0.coords t) 1).val = t.val % 27 := coord1 t
  have hI : invTile A = invTile (accPrev m c t.val) := congrArg invTile (h.inv_start (by omega) hN hz)
  have hnext := h.next' (by omega) (invTile A) hI
  have h5 : quant (slab ⟨((grid0.coords t) 1).val, ((grid0.coords t) 1).isLt⟩ Y) (invTile A) = new5 m c t.val d5 :=
    (h.codes (by omega) hN (invTile A) hI _ hj).trans (if_neg (by omega)).symm
  have h6 : ysv A = new6 m c t.val d6 := (congrArg ysv (h.inv_start (by omega) hN hz)).trans (if_pos (by omega)).symm
  iintro ⟨H0, H1, H2, H3, H4, H5, H6, H7, H8, H9, H10, Hk⟩
  iapply (runE c E (grid0.coords t) arg2 harg2 arg3 harg3 arg4 harg4 arg5 harg5 arg6 harg6 arg7 harg7 arg8 harg8 arg9 harg9 arg10 harg10 arg11 harg11 arg12 harg12 (by rw [cond1_iff]; omega) (fun h => absurd ((cond2_iff t).mp h) (by omega)) (by rw [cond3_iff]; omega) (by rw [cond4_iff]; omega) (by rw [cond5_iff]; omega)
    (iblk m c 0 t) (iblk m c 1 t) (iblk m c 2 t) (iblk m c 3 t) (iblk m c 4 t) d5 d6 Y A I X K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  iapply Hk
  unfold runPost
  iexists Y, A, (invTile A), X
  isplitr; · ipureintro; exact hnext
  isplitl [H0]; · iexact H0
  isplitl [H1]; · iexact H1
  isplitl [H2]; · iexact H2
  isplitl [H3]; · iexact H3
  isplitl [H4]; · iexact H4
  isplitl [H5]; · rw [← h5]; iexact H5
  isplitl [H6]; · rw [← h6]; iexact H6
  isplitl [H7]; · iexact H7
  isplitl [H8]; · iexact H8
  isplitl [H9]; · iexact H9
  iexact H10

theorem pointF (c : Dev nD) (E : Set ℕ) (t : Fin cfg0.N) (arg2 : Memref sig .tc .vmem S512x4480 .fp8e4m3) (harg2 : arg2.IsWhole) (arg3 : Memref sig .tc .vmem S1x1x512 .f32) (harg3 : arg3.IsWhole) (arg4 : Memref sig .tc .vmem S4480x768 .fp8e4m3) (harg4 : arg4.IsWhole) (arg5 : Memref sig .tc .vmem S1x768 .f32) (harg5 : arg5.IsWhole) (arg6 : Memref sig .tc .vmem S512x768 .bf16) (harg6 : arg6.IsWhole) (arg7 : Memref sig .tc .vmem S512x768 .fp8e4m3) (harg7 : arg7.IsWhole) (arg8 : Memref sig .tc .vmem S1x1x512 .f32) (harg8 : arg8.IsWhole) (arg9 : Memref sig .tc .vmem S27x512x768 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (d5 : FVec F S512x768 .fp8e4m3) (d6 : FVec F S1x1x512 .f32) (Y : Vec F S27x512x768 .f32) (A I X : Vec F S512x128 .f32) (h : Inv m c t.val Y A I X)
    (hg : 864 ≤ t.val) (hz : ¬ t.val % 27 = 0) (K : PUnit → sProp 𝕄) :
    iprop(owns (c : Thread nD τ) arg2 fullShare (iblk m c 0 t) ∗ owns (c : Thread nD τ) arg3 fullShare (iblk m c 1 t) ∗ owns (c : Thread nD τ) arg4 fullShare (iblk m c 2 t) ∗ owns (c : Thread nD τ) arg5 fullShare (iblk m c 3 t) ∗ owns (c : Thread nD τ) arg6 fullShare (iblk m c 4 t) ∗ owns (c : Thread nD τ) arg7 fullShare d5 ∗ owns (c : Thread nD τ) arg8 fullShare d6 ∗ owns (c : Thread nD τ) arg9 fullShare Y ∗ owns (c : Thread nD τ) arg10 fullShare A ∗ owns (c : Thread nD τ) arg11 fullShare I ∗ owns (c : Thread nD τ) arg12 fullShare X
      ∗ (runPost m c t arg2 arg3 arg4 arg5 arg6 arg7 arg8 arg9 arg10 arg11 arg12 d5 d6 -∗ K ⟨⟩))
      ⊢ wp frame (wpE (defs₀ (F := F)) Variants.none c none) E (cc0_fp8_linear_requant (grid0.coords t) arg2 harg2 arg3 harg3 arg4 harg4 arg5 harg5 arg6 harg6 arg7 harg7 arg8 harg8 arg9 harg9 arg10 harg10 arg11 harg11 arg12 harg12) K := by
  have hN : t.val < 891 := N_eq ▸ t.isLt
  have hj : ((grid0.coords t) 1).val = t.val % 27 := coord1 t
  have hI : I = invTile (accPrev m c t.val) := h.inv (by omega) hz
  have hnext := h.next' (by omega) I hI
  have h5 : quant (slab ⟨((grid0.coords t) 1).val, ((grid0.coords t) 1).isLt⟩ Y) I = new5 m c t.val d5 :=
    (h.codes (by omega) hN I hI _ hj).trans (if_neg (by omega)).symm
  have h6 : d6 = new6 m c t.val d6 := (if_neg (by omega)).symm
  iintro ⟨H0, H1, H2, H3, H4, H5, H6, H7, H8, H9, H10, Hk⟩
  iapply (runF c E (grid0.coords t) arg2 harg2 arg3 harg3 arg4 harg4 arg5 harg5 arg6 harg6 arg7 harg7 arg8 harg8 arg9 harg9 arg10 harg10 arg11 harg11 arg12 harg12 (by rw [cond1_iff]; omega) (fun h => absurd ((cond2_iff t).mp h) (by omega)) (by rw [cond3_iff]; omega) (by rw [cond4_iff]; omega) (by rw [cond5_iff]; omega)
    (iblk m c 0 t) (iblk m c 1 t) (iblk m c 2 t) (iblk m c 3 t) (iblk m c 4 t) d5 d6 Y A I X K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  iapply Hk
  unfold runPost
  iexists Y, A, I, X
  isplitr; · ipureintro; exact hnext
  isplitl [H0]; · iexact H0
  isplitl [H1]; · iexact H1
  isplitl [H2]; · iexact H2
  isplitl [H3]; · iexact H3
  isplitl [H4]; · iexact H4
  isplitl [H5]; · rw [← h5]; iexact H5
  isplitl [H6]; · rw [← h6]; iexact H6
  isplitl [H7]; · iexact H7
  isplitl [H8]; · iexact H8
  isplitl [H9]; · iexact H9
  iexact H10

/-- The body at any point. -/
theorem point (c : Dev nD) (E : Set ℕ) (t : Fin cfg0.N) (arg2 : Memref sig .tc .vmem S512x4480 .fp8e4m3) (harg2 : arg2.IsWhole) (arg3 : Memref sig .tc .vmem S1x1x512 .f32) (harg3 : arg3.IsWhole) (arg4 : Memref sig .tc .vmem S4480x768 .fp8e4m3) (harg4 : arg4.IsWhole) (arg5 : Memref sig .tc .vmem S1x768 .f32) (harg5 : arg5.IsWhole) (arg6 : Memref sig .tc .vmem S512x768 .bf16) (harg6 : arg6.IsWhole) (arg7 : Memref sig .tc .vmem S512x768 .fp8e4m3) (harg7 : arg7.IsWhole) (arg8 : Memref sig .tc .vmem S1x1x512 .f32) (harg8 : arg8.IsWhole) (arg9 : Memref sig .tc .vmem S27x512x768 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (d5 : FVec F S512x768 .fp8e4m3) (d6 : FVec F S1x1x512 .f32) (Y : Vec F S27x512x768 .f32) (A I X : Vec F S512x128 .f32) (h : Inv m c t.val Y A I X) (K : PUnit → sProp 𝕄) :
    iprop(owns (c : Thread nD τ) arg2 fullShare (iblk m c 0 t) ∗ owns (c : Thread nD τ) arg3 fullShare (iblk m c 1 t) ∗ owns (c : Thread nD τ) arg4 fullShare (iblk m c 2 t) ∗ owns (c : Thread nD τ) arg5 fullShare (iblk m c 3 t) ∗ owns (c : Thread nD τ) arg6 fullShare (iblk m c 4 t) ∗ owns (c : Thread nD τ) arg7 fullShare d5 ∗ owns (c : Thread nD τ) arg8 fullShare d6 ∗ owns (c : Thread nD τ) arg9 fullShare Y ∗ owns (c : Thread nD τ) arg10 fullShare A ∗ owns (c : Thread nD τ) arg11 fullShare I ∗ owns (c : Thread nD τ) arg12 fullShare X
      ∗ (runPost m c t arg2 arg3 arg4 arg5 arg6 arg7 arg8 arg9 arg10 arg11 arg12 d5 d6 -∗ K ⟨⟩))
      ⊢ wp frame (wpE (defs₀ (F := F)) Variants.none c none) E (cc0_fp8_linear_requant (grid0.coords t) arg2 harg2 arg3 harg3 arg4 harg4 arg5 harg5 arg6 harg6 arg7 harg7 arg8 harg8 arg9 harg9 arg10 harg10 arg11 harg11 arg12 harg12) K := by
  by_cases hz : t.val % 27 = 0
  · by_cases h1 : t.val < 27
    · exact pointA m c E t arg2 harg2 arg3 harg3 arg4 harg4 arg5 harg5 arg6 harg6 arg7 harg7 arg8 harg8 arg9 harg9 arg10 harg10 arg11 harg11 arg12 harg12 d5 d6 Y A I X h h1 hz K
    by_cases h2 : t.val < 864
    · exact pointC m c E t arg2 harg2 arg3 harg3 arg4 harg4 arg5 harg5 arg6 harg6 arg7 harg7 arg8 harg8 arg9 harg9 arg10 harg10 arg11 harg11 arg12 harg12 d5 d6 Y A I X h ⟨by omega, h2⟩ hz K
    · exact pointE m c E t arg2 harg2 arg3 harg3 arg4 harg4 arg5 harg5 arg6 harg6 arg7 harg7 arg8 harg8 arg9 harg9 arg10 harg10 arg11 harg11 arg12 harg12 d5 d6 Y A I X h (by omega) hz K
  · by_cases h1 : t.val < 27
    · exact pointB m c E t arg2 harg2 arg3 harg3 arg4 harg4 arg5 harg5 arg6 harg6 arg7 harg7 arg8 harg8 arg9 harg9 arg10 harg10 arg11 harg11 arg12 harg12 d5 d6 Y A I X h h1 hz K
    by_cases h2 : t.val < 864
    · exact pointD m c E t arg2 harg2 arg3 harg3 arg4 harg4 arg5 harg5 arg6 harg6 arg7 harg7 arg8 harg8 arg9 harg9 arg10 harg10 arg11 harg11 arg12 harg12 d5 d6 Y A I X h ⟨by omega, h2⟩ hz K
    · exact pointF m c E t arg2 harg2 arg3 harg3 arg4 harg4 arg5 harg5 arg6 harg6 arg7 harg7 arg8 harg8 arg9 harg9 arg10 harg10 arg11 harg11 arg12 harg12 d5 d6 Y A I X h (by omega) hz K

end Cert.Kernel.Fn
-- ==== Proof.K.Data.lean ====
/-
  The proof data of the pipeline, the body obligation and the run: every fair execution ends, with every array at what
  the proof data says and every argument array unchanged.
-/
module

public import proofs.«01_k».proof.Proof.K.Point
public import Idealize.ShloMosaic.Lib.Claim

@[expose] public section

set_option maxRecDepth 16384

noncomputable section

namespace Cert.Kernel.Fn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is kept before point `n`: the four buffers at contents as `Inv` says, and the generator register. -/
def Kept (c : Dev nD) (n : ℕ) : sProp 𝕄 :=
  iprop(∃ Y A I X, ⌜Inv m c n Y A I X⌝ ∗ owns (c : Thread nD τ) (Memref.whole cc0_scratch0) fullShare Y ∗ owns (c : Thread nD τ) (Memref.whole cc0_scratch1) fullShare A
    ∗ owns (c : Thread nD τ) (Memref.whole cc0_scratch2) fullShare I ∗ owns (c : Thread nD τ) (Memref.whole cc0_scratch3) fullShare X ∗ ∃ r, prngReg c r)

/-- The proof data on core `c`: the arrays as the region finds them; each input's window at its block, the results'
    windows at the codes and the scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => codesN m c t.val
    | ⟨6, _⟩ => scalesN m c t.val
  Φ t := Kept m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = codesN m c t.val := by dsimp only [dats]
theorem after0_6 (c : Dev nD) (t : Fin cfg0.N) : (dats m 0 c).after 6 t = scalesN m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The scales do not change along a row of points. -/
theorem scalesN_pred (c : Dev nD) (n : ℕ) (h : ¬ n % 27 = 0) : scalesN m c n = scalesN m c (n - 1) := by
  unfold scalesN accPrev; rw [show (n - 1) / 27 = n / 27 by omega]

/-- At the last point of a row the scales' window still holds what the row's first point left. -/
theorem before0_6 (c : Dev nD) (t : Fin cfg0.N) (h : 27 ≤ t.val) (h' : ¬ t.val % 27 = 0) (d) : (dats m 0 c).before 6 t d = scalesN m c t.val := by
  rw [(dats m 0 c).before_out_traj 6 rfl (fun _ _ => rfl) (fun t ht hi hf => by
    rw [after0_6, after0_6]
    rw [fresh6] at hf
    exact scalesN_pred m c t.val (by have := of_decide_eq_false hf; omega)) t.val t rfl d, fresh6, if_neg (by rw [decide_eq_true_eq]; omega), after0_6]
  exact (scalesN_pred m c t.val h').symm

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns: a result's window the point does not store into as found. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare (new5 m c t.val ((dats m 0 c).before 5 t d)))
    ∗ (∃ d, owns (c : Thread nD τ) (st0_6 t) fullShare (new6 m c t.val ((dats m 0 c).before 6 t d))))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = Kept m c t.val from rfl, show (dats m 0 c).Φ t.succ = Kept m c (t.val + 1) from rfl,
    show (dats m 0 c).owesAt () t.succ = (dats m 0 c).owesAt () t.castSucc from rfl, after0_0, after0_1, after0_2, after0_3, after0_4]
  unfold Kept
  iintro ⟨⟨%Y, %A, %I, %X, %hInv, H7, H8, H9, H10, Hr⟩, Ho, ⟨%d0, H0⟩, ⟨%d1, H1⟩, ⟨%d2, H2⟩, ⟨%d3, H3⟩, ⟨%d4, H4⟩, ⟨%d5, H5⟩, ⟨%d6, H6⟩⟩
  iapply (point m c Set.univ t _ _ _ _ _ _ _ _ _ _ _ _ _ _ _ _ _ _ _ _ _ _ ((dats m 0 c).before 5 t d5) ((dats m 0 c).before 6 t d6) Y A I X hInv _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold runPost
  iintro ⟨%Y', %A', %I', %X', %hInv', H0, H1, H2, H3, H4, H5, H6, H7, H8, H9, H10⟩
  isplitl [H7 H8 H9 H10 Hr]
  · iexists Y', A', I', X'
    isplitr; · ipureintro; exact hInv'
    isplitl [H7]; · iexact H7
    isplitl [H8]; · iexact H8
    isplitl [H9]; · iexact H9
    isplitl [H10]; · iexact H10
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  iexists d6; iexact H6

theorem defs₀_row (t : Fin cfg0.N) :
    defs₀ (F := F) .tc cfg0.body (cfg0.bodyArgs t (cfg0.slots t)) = bodyAt0 t := by
  unfold defs₀; rw [Defs.onTc_tc]

/-- What a point returns in the codes' window is what the library asks for, -/
theorem post5 (c : Dev nD) (t : Fin cfg0.N) :
    iprop(∃ d, owns (c : Thread nD τ) (st0_5 t) fullShare (new5 m c t.val ((dats m 0 c).before 5 t d))) ⊢ (match cfg0.idle 5 (cfg0.grid.coords t) with
      | true => match (cfg0.win 5).flush t with
        | false => iprop(∃ d, owns (c : Thread nD τ) (st0_5 t) fullShare ((dats m 0 c).before 5 t d))
        | true => owns (c : Thread nD τ) (st0_5 t) fullShare ((dats m 0 c).after 5 t)
      | false => owns (c : Thread nD τ) (st0_5 t) fullShare ((dats m 0 c).after 5 t) : sProp 𝕄) := by
  rw [idle5, flush5, after0_5]
  unfold new5
  by_cases h : t.val < 27
  · rw [decide_eq_true h, decide_eq_false (by omega)]
    simp only [if_pos h]
    exact .rfl
  · rw [decide_eq_false h]
    simp only [if_neg h]
    iintro ⟨%d, H⟩
    iexact H

/-- and in the scales' window. -/
theorem post6 (c : Dev nD) (t : Fin cfg0.N) :
    iprop(∃ d, owns (c : Thread nD τ) (st0_6 t) fullShare (new6 m c t.val ((dats m 0 c).before 6 t d))) ⊢ (match cfg0.idle 6 (cfg0.grid.coords t) with
      | true => match (cfg0.win 6).flush t with
        | false => iprop(∃ d, owns (c : Thread nD τ) (st0_6 t) fullShare ((dats m 0 c).before 6 t d))
        | true => owns (c : Thread nD τ) (st0_6 t) fullShare ((dats m 0 c).after 6 t)
      | false => owns (c : Thread nD τ) (st0_6 t) fullShare ((dats m 0 c).after 6 t) : sProp 𝕄) := by
  rw [idle6, flush6, after0_6]
  unfold new6
  by_cases h : 27 ≤ t.val ∧ t.val % 27 = 0
  · rw [decide_eq_false (not_not_intro h)]
    simp only [if_pos h]
    iintro ⟨%d, H⟩
    iexact H
  · rw [decide_eq_true h]
    simp only [if_neg h]
    by_cases h' : 27 ≤ t.val ∧ t.val % 27 = 26
    · rw [decide_eq_true h']
      simp only [before0_6 m c t h'.1 (by omega)]
      iintro ⟨%d, H⟩
      iexact H
    · rw [decide_eq_false h']

/-- The library's body obligation, at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HΦ, Ho, H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · ihave H := (post5 m c t) $$ H5; iexact H
  · ihave H := (post6 m c t) $$ H6; iexact H

/-- The kept buffers from the region's scoped buffers, -/
theorem kept_in (c : Dev nD) : (Pipeline.ΦA spec0 c : sProp 𝕄) ⊢ Kept m c 0 := by
  unfold Pipeline.ΦA Kept
  rw [scopedRest0_eq]
  iintro ⟨⟨⟨%Y, H7⟩, ⟨%A, H8⟩, ⟨%I, H9⟩, ⟨%X, H10⟩⟩, Hr⟩
  iexists Y, A, I, X
  isplitr; · ipureintro; exact inv_zero m c _ _ _ _
  rw [owns_whole, owns_whole, owns_whole, owns_whole]
  isplitl [H7]; · iexact H7
  isplitl [H8]; · iexact H8
  isplitl [H9]; · iexact H9
  isplitl [H10]; · iexact H10
  iexact Hr
/-- and back. -/
theorem kept_out (c : Dev nD) (n : ℕ) : Kept m c n ⊢ (Pipeline.ΦA spec0 c : sProp 𝕄) := by
  unfold Pipeline.ΦA Kept
  rw [scopedRest0_eq]
  simp only [owns_whole]
  iintro ⟨%Y, %A, %I, %X, %hI, H7, H8, H9, H10, Hr⟩
  isplitr [Hr]
  · isplitl [H7]; · iexists Y; iexact H7
    isplitl [H8]; · iexists A; iexact H8
    isplitl [H9]; · iexists I; iexact H9
    iexists X; iexact H10
  · iexact Hr

set_option backward.isDefEq.respectTransparency.types false in
set_option maxHeartbeats 800000 in
/-- The run: every fair execution ends, every array at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => kept_in m c) (hout := fun c => kept_out m c _)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Fn
-- ==== Proof.Expo.lean ====
/-
# The exponent of the row scale

The largest `n` with `2 ^ (n - 127) ≤ v` found two ways: by the kernel's bisection over the exponent field of a
float (`stp`), and by the reference's count of the powers of two not above `v`. Both agree for every `v`, and so do
the powers of two read as floats from the exponent field (`pw`) or computed from the exponent (`sc`).
-/
module

public import Idealize.ShloMosaic.Lib.Pointwise

@[expose] public section
set_option maxRecDepth 16384
noncomputable section
namespace Cert.Value
open Idealize.ShloMosaic

/-- The float whose exponent field is `b` and whose other fields are zero. -/
def pw (b : BitVec 32) : EReal := Ideal.ofBits .f32 (b <<< 23#32)
/-- Two to the power of a signed word. -/
def sc (b : BitVec 32) : EReal := Ideal.exp2 ((b.toInt : ℝ) : EReal)
/-- One step of the bisection. -/
def stp (v : EReal) (s b : BitVec 32) : BitVec 32 := if pw (b + s) ≤ v then b + s else b

/-- The code of `y` under an inverse scale `s`. -/
def code (y s : EReal) : EReal := min (Ideal.ofBits .f32 0x43E00000#32) (max (Ideal.ofBits .f32 0xC3E00000#32) (y * s))

theorem field_sign : ∀ f : Fin 256, ((BitVec.ofNat 32 f.val <<< 23#32).extractLsb' 31 1 == 1#1) = false := by
  decide +kernel
theorem field_exp : ∀ f : Fin 256, ((BitVec.ofNat 32 f.val <<< 23#32).extractLsb' 23 8).toNat = f.val := by
  decide +kernel
theorem field_frac : ∀ f : Fin 256, ((BitVec.ofNat 32 f.val <<< 23#32).extractLsb' 0 23).toNat = 0 := by
  decide +kernel

theorem pw_ieee (f : ℕ) (h : f < 256) : pw (BitVec.ofNat 32 f)
    = if f = 255 then ⊤ else if f = 0 then (((1 : ℝ) * (0 : ℕ) * (2 : ℝ) ^ (1 - (127 : ℤ) - 23)  : ℝ) : EReal)
      else (((1 : ℝ) * (2 ^ 23 + 0 : ℕ) * (2 : ℝ) ^ ((f : ℤ) - 127 - 23) : ℝ) : EReal) := by
  have e1 := field_sign ⟨f, h⟩
  have e2 := field_exp ⟨f, h⟩
  have e3 := field_frac ⟨f, h⟩
  simp only at e1 e2 e3
  show Ideal.ieee 8 23 _ = _
  unfold Ideal.ieee
  simp only [show 8 + 23 = 31 from rfl, e1, e2, e3]
  norm_num

/-- A power of two from its exponent field. -/
theorem pw_eq (f : ℕ) (h1 : 1 ≤ f) (h2 : f ≤ 254) : pw (BitVec.ofNat 32 f) = (((2 : ℝ) ^ ((f : ℤ) - 127) : ℝ) : EReal) := by
  rw [pw_ieee f (by omega), if_neg (by omega), if_neg (by omega)]
  congr 1
  rw [show (f : ℤ) - 127 = 23 + ((f : ℤ) - 127 - 23) by ring, zpow_add₀ (by norm_num : (2 : ℝ) ≠ 0)]
  norm_num

theorem pw_top : pw (BitVec.ofNat 32 255) = ⊤ := by
  rw [pw_ieee 255 (by omega), if_pos rfl]

/-- The float read from an exponent field grows with the field. -/
theorem pw_mono (a b : ℕ) (h1 : 1 ≤ a) (h2 : a ≤ b) (h3 : b ≤ 255) : pw (BitVec.ofNat 32 a) ≤ pw (BitVec.ofNat 32 b) := by
  by_cases hb : b = 255
  · rw [hb, pw_top]; exact le_top
  · rw [pw_eq a h1 (by omega), pw_eq b (by omega) (by omega), EReal.coe_le_coe_iff]
    exact zpow_le_zpow_right₀ (by norm_num) (by omega)

/-- What the bisection keeps: the word is `lo`, whose float is not above `v`, and the answer is below `lo + w`. -/
structure Bis (v : EReal) (lo w : ℕ) (b : BitVec 32) : Prop where
  word : b = BitVec.ofNat 32 lo
  bound : lo + w ≤ 256
  low : lo = 0 ∨ pw (BitVec.ofNat 32 lo) ≤ v
  high : lo + w ≤ 255 → ¬ pw (BitVec.ofNat 32 (lo + w)) ≤ v

theorem Bis.start (v : EReal) : Bis v 0 256 0#32 := ⟨rfl, by omega, .inl rfl, by omega⟩

theorem Bis.step {v : EReal} {lo w : ℕ} {b : BitVec 32} (h : Bis v lo (2 * w) b) (hw : 1 ≤ w) :
    ∃ lo', Bis v lo' w (stp v (BitVec.ofNat 32 w) b) := by
  obtain ⟨rfl, hb, hl, hh⟩ := h
  unfold stp
  rw [← BitVec.ofNat_add]
  by_cases hc : pw (BitVec.ofNat 32 (lo + w)) ≤ v
  · rw [if_pos hc]
    exact ⟨lo + w, rfl, by omega, .inr hc, by rw [show lo + w + w = lo + 2 * w by ring]; exact fun h => hh (by omega)⟩
  · rw [if_neg hc]
    exact ⟨lo, rfl, by omega, hl, fun _ => hc⟩

/-- The kernel's bisection. -/
def bis (v : EReal) : BitVec 32 :=
  stp v 1#32 (stp v 2#32 (stp v 4#32 (stp v 8#32 (stp v 16#32 (stp v 32#32 (stp v 64#32 (stp v 128#32 0#32)))))))

theorem bis_spec (v : EReal) : ∃ n, Bis v n 1 (bis v) := by
  obtain ⟨_, h⟩ := (Bis.start v).step (w := 128) (by omega)
  obtain ⟨_, h⟩ := h.step (w := 64) (by omega)
  obtain ⟨_, h⟩ := h.step (w := 32) (by omega)
  obtain ⟨_, h⟩ := h.step (w := 16) (by omega)
  obtain ⟨_, h⟩ := h.step (w := 8) (by omega)
  obtain ⟨_, h⟩ := h.step (w := 4) (by omega)
  obtain ⟨_, h⟩ := h.step (w := 2) (by omega)
  exact h.step (w := 1) (by omega)

/-- Which powers of two are not above `v`: those up to the bisection's answer. -/
theorem Bis.le_iff {v : EReal} {n : ℕ} {b : BitVec 32} (h : Bis v n 1 b) (f : ℕ) (h1 : 1 ≤ f) (h2 : f ≤ 255) :
    pw (BitVec.ofNat 32 f) ≤ v ↔ f ≤ n := by
  constructor
  · intro hf
    by_contra hn
    exact h.high (by omega) ((pw_mono (n + 1) f (by omega) (by omega) h2).trans hf)
  · intro hf
    rcases h.low with h0 | h0
    · omega
    · exact (pw_mono f n h1 hf (by have := h.bound; omega)).trans h0

/-- The kernel's exponent. -/
def expK (v : EReal) : BitVec 32 :=
  Scalar.select (IntOp.cmpi .eq (IntOp.minsi (bis v) 246#32) 0#32) 0#32 (IntOp.subi (IntOp.minsi (bis v) 246#32) 126#32)
/-- The reference's exponent. -/
def expR (v : EReal) : BitVec 32 :=
  if v < Ideal.ofBits .f32 8388608#32 then 0#32
  else IntOp.subi (Finset.fold IntOp.addi 0#32 (fun x : Fin 246 =>
    BitVec.setWidth 32 (BitVec.ofBool (decide (sc (IntOp.subi (BitVec.ofNat 32 x.val) 126#32) ≤ v)))) Finset.univ) 126#32
/-- The exponent of a count of powers of two. -/
def expE (n : ℕ) : BitVec 32 := if n = 0 then 0#32 else BitVec.ofNat 32 n - 126#32

theorem toInt_sub : ∀ f : Fin 256, (BitVec.ofNat 32 f.val - 126#32).toInt = (f.val : ℤ) - 126 := by decide +kernel
theorem toInt_sub' : ∀ f : Fin 256, (0#32 - (BitVec.ofNat 32 f.val - 126#32)).toInt = 126 - (f.val : ℤ) := by decide +kernel
theorem add_127 : ∀ f : Fin 256, BitVec.ofNat 32 f.val - 126#32 + 127#32 = BitVec.ofNat 32 (f.val + 1) := by decide +kernel
theorem sub_127 : ∀ f : Fin 254, 127#32 - (BitVec.ofNat 32 f.val - 126#32) = BitVec.ofNat 32 (253 - f.val) := by decide +kernel
theorem min_word : ∀ f : Fin 256, IntOp.minsi (BitVec.ofNat 32 f.val) 246#32 = BitVec.ofNat 32 (min f.val 246) := by decide +kernel
theorem eq_word : ∀ f : Fin 247, Scalar.select (IntOp.cmpi .eq (BitVec.ofNat 32 f.val) 0#32) 0#32
    (IntOp.subi (BitVec.ofNat 32 f.val) 126#32) = expE f.val := by decide +kernel
theorem card_word : ∀ n : Fin 256, (Finset.univ.filter fun x : Fin 246 => x.val + 1 ≤ n.val).card = min n.val 246 := by
  decide +kernel

theorem sc_eq (b : BitVec 32) : sc b = (((2 : ℝ) ^ b.toInt : ℝ) : EReal) := by
  unfold sc
  rw [Ideal.exp2_coe]
  congr 1
  exact Real.rpow_intCast 2 b.toInt

/-- The reference's powers of two are the kernel's. -/
theorem sc_sub (x : Fin 246) : sc (IntOp.subi (BitVec.ofNat 32 x.val) 126#32) = pw (BitVec.ofNat 32 (x.val + 1)) := by
  rw [pw_eq _ (by omega) (by omega), sc_eq, show (IntOp.subi (BitVec.ofNat 32 x.val) 126#32).toInt = (x.val : ℤ) - 126 from
    toInt_sub ⟨x.val, by omega⟩]
  congr 2; push_cast; ring

/-- A sum of truth values as words is the word of their count. -/
theorem fold_count {n : ℕ} (p : Fin n → Prop) [DecidablePred p] :
    Finset.fold IntOp.addi 0#32 (fun x => BitVec.setWidth 32 (BitVec.ofBool (decide (p x)))) Finset.univ
      = BitVec.ofNat 32 (Finset.univ.filter p).card := by
  generalize (Finset.univ : Finset (Fin n)) = s
  induction s using Finset.induction_on with
  | empty => rfl
  | insert a s ha ih =>
    rw [Finset.fold_insert ha, ih, Finset.filter_insert]
    by_cases h : p a
    · rw [if_pos h, Finset.card_insert_of_notMem (by simp [ha]), Nat.add_comm, BitVec.ofNat_add]
      simp [h, IntOp.addi]
    · rw [if_neg h]
      simp [h, IntOp.addi]

theorem ofBits_min : Ideal.ofBits .f32 8388608#32 = pw (BitVec.ofNat 32 1) := rfl

/-- Both exponents, from one count of at most 246. -/
theorem exp_spec (v : EReal) : ∃ n ≤ 246, expK v = expE n ∧ expR v = expE n := by
  obtain ⟨n, h⟩ := bis_spec v
  have hn : n < 256 := by have := h.bound; omega
  refine ⟨min n 246, by omega, ?_, ?_⟩
  · unfold expK
    rw [h.word, min_word ⟨n, hn⟩]
    exact eq_word ⟨min n 246, by omega⟩
  · unfold expR
    rw [fold_count (fun x : Fin 246 => sc (IntOp.subi (BitVec.ofNat 32 x.val) 126#32) ≤ v)]
    have e : (Finset.univ.filter fun x : Fin 246 => sc (IntOp.subi (BitVec.ofNat 32 x.val) 126#32) ≤ v)
        = Finset.univ.filter fun x : Fin 246 => x.val + 1 ≤ n := by
      refine Finset.filter_congr fun x _ => ?_
      rw [sc_sub]
      exact h.le_iff _ (by omega) (by omega)
    rw [e, card_word ⟨n, hn⟩, ofBits_min]
    unfold expE
    by_cases h0 : n = 0
    · rw [if_pos (not_le.mp fun hc => by have := (h.le_iff 1 (by omega) (by omega)).mp hc; omega), if_pos (by simp [h0])]
    · rw [if_neg (not_lt.mpr ((h.le_iff 1 (by omega) (by omega)).mpr (by omega))), if_neg (by simp; omega)]
      rfl

theorem expK_eq_expR (v : EReal) : expK v = expR v := by
  obtain ⟨n, _, h1, h2⟩ := exp_spec v
  rw [h1, h2]

/-- The scale: two to the exponent, read from an exponent field. -/
theorem pw_exp (v : EReal) : pw (IntOp.addi (expK v) 127#32) = sc (expR v) := by
  obtain ⟨n, hn, h1, h2⟩ := exp_spec v
  rw [h1, h2]
  unfold expE IntOp.addi
  by_cases h0 : n = 0
  · rw [if_pos h0, show 0#32 + 127#32 = BitVec.ofNat 32 127 from rfl, pw_eq 127 (by omega) (by omega), sc_eq]
    norm_num
  · rw [if_neg h0, add_127 ⟨n, by omega⟩, pw_eq _ (by omega) (by simp; omega), sc_eq, toInt_sub ⟨n, by omega⟩]
    congr 2; push_cast; ring

/-- The inverse scale: two to minus the exponent, read from an exponent field. -/
theorem pw_neg (v : EReal) : pw (IntOp.subi 127#32 (expK v)) = sc (IntOp.subi 0#32 (expR v)) := by
  obtain ⟨n, hn, h1, h2⟩ := exp_spec v
  rw [h1, h2]
  unfold expE IntOp.subi
  by_cases h0 : n = 0
  · rw [if_pos h0, show 127#32 - 0#32 = BitVec.ofNat 32 127 from rfl, pw_eq 127 (by omega) (by omega), sc_eq]
    norm_num
  · rw [if_neg h0, sub_127 ⟨n, by omega⟩, pw_eq _ (by simp; omega) (by simp; omega), sc_eq, toInt_sub' ⟨n, by omega⟩]
    congr 2; simp only; omega

end Cert.Value
-- ==== Proof.Ref.lean ====
/-
# The reference's values at coordinates

`y` at a row and column, the exponent of a row from its largest `|y|`, the codes and the scales.
-/
module

public import proofs.«01_k».proof.Proof.Gen.ReferenceIdeal.Frame
public import proofs.«01_k».proof.Proof.Expo
public import Idealize.ShloMosaic.Lib.Pointwise

@[expose] public section
set_option maxRecDepth 16384
noncomputable section
namespace Cert.Value.Ref
open Idealize.ShloMosaic Idealize.ShloMosaic.TcCoe Idealize.SL.Sem
open Cert.ReferenceIdeal Cert.ReferenceIdeal.Gen

/-- The largest `|y|` of a row. -/
def rmax (y : FVec Ideal S16384x20736 .f32) (r : Fin 16384) : EReal :=
  Finset.fold max (Ideal.ofBits FTy.f32 4286578688#32) (fun x : Fin 20736 => absf y (ix2 r x)) Finset.univ

/-- A reduction by the maximum along the rows, at a row. -/
theorem reduce_apply (z : FVec Ideal S16384x20736 .f32) (r : Fin 16384) :
    multiReduction .maximumf [1] S16384 z 0xFF800000#32 reduces_S16384x20736_S16384 (.inl rfl) rfl (ix1 r)
      = Finset.fold max (Ideal.ofBits FTy.f32 4286578688#32) (fun x : Fin 20736 => z (ix2 r x)) Finset.univ := by
  pointwise

/-- The row bounds from the rows' largest `|y|`, as a column. -/
def boundOf (m : FVec Ideal S16384 .f32) : FVec Ideal S16384x1 .f32 :=
  mulf (shapeCast S16384x1 m shapeCasts_S16384_S16384x1) (broadcast S16384x1 (Scalar.ofBits .f32 0x3B124925#32))

theorem boundOf_apply (m : FVec Ideal S16384 .f32) (r : Fin 16384) :
    boundOf m (ix2 r (0 : Fin 1)) = m (ix1 r) * Ideal.ofBits .f32 991054117#32 := by
  unfold boundOf
  pointwise

/-- The row bounds over the largest code, as a column. -/
def bound (y : FVec Ideal S16384x20736 .f32) : FVec Ideal S16384x1 .f32 :=
  boundOf (multiReduction .maximumf [1] S16384 (absf y) 0xFF800000#32 reduces_S16384x20736_S16384 (.inl rfl) rfl)

theorem bound_apply (y : FVec Ideal S16384x20736 .f32) (r : Fin 16384) :
    bound y (ix2 r (0 : Fin 1)) = rmax y r * Ideal.ofBits .f32 991054117#32 := by
  rw [bound, boundOf_apply, reduce_apply, rmax]

/-- The powers of two the reference counts, as a row. -/
def powers : FVec Ideal S1x246 .f32 :=
  exp2 (sitofp .f32 (subi (iota .tc S1x246 32 [1] iota_S1x246_d1_w32) (broadcast S1x246 126#32)))

theorem powers_apply (k : Fin 246) : powers (ix2 (0 : Fin 1) k) = sc (IntOp.subi (BitVec.ofNat 32 k.val) 126#32) := by
  unfold powers
  pointwise
  rfl

/-- Which powers of two are not above a row's bound, as words. -/
def tests (p : FVec Ideal S1x246 .f32) (a : FVec Ideal S16384x1 .f32) : IVec S16384x246 32 :=
  extui 32 (cmpf .ole (broadcastTo S16384x246 p broadcasts_S1x246_S16384x246) (broadcastTo S16384x246 a broadcasts_S16384x1_S16384x246)) natLt_1_32

theorem tests_apply (p : FVec Ideal S1x246 .f32) (a : FVec Ideal S16384x1 .f32) (r : Fin 16384) (k : Fin 246) :
    tests p a (ix2 r k) = BitVec.setWidth 32 (BitVec.ofBool (decide (p (ix2 (0 : Fin 1) k) ≤ a (ix2 r (0 : Fin 1))))) := by
  unfold tests
  pointwise

/-- The exponents from the tests, as a column. -/
def expCol (a : FVec Ideal S16384x1 .f32) (n : IVec S16384x246 32) : IVec S16384x1 32 :=
  select (cmpf .olt a (broadcast S16384x1 (Scalar.ofBits .f32 0x00800000#32))) (broadcast S16384x1 0#32)
    (subi (shapeCast S16384x1 (multiReductionI .add [1] S16384 n 0#32 reduces_S16384x246_S16384 rfl) shapeCasts_S16384_S16384x1)
      (broadcast S16384x1 126#32))

theorem expCol_apply (a : FVec Ideal S16384x1 .f32) (n : IVec S16384x246 32) (r : Fin 16384) :
    expCol a n (ix2 r (0 : Fin 1)) = if a (ix2 r (0 : Fin 1)) < Ideal.ofBits .f32 8388608#32 then 0#32
      else IntOp.subi (Finset.fold IntOp.addi 0#32 (fun x : Fin 246 => n (ix2 r x)) Finset.univ) 126#32 := by
  unfold expCol
  pointwise

theorem pay4_eq (P0 : Vec Ideal S16384x4480 .fp8e4m3) (P1 : Vec Ideal S4480x20736 .fp8e4m3) (P2 : Vec Ideal S16384x1 .f32)
    (P3 : Vec Ideal S1x20736 .f32) (P4 : Vec Ideal S16384x20736 .bf16) :
    k0_pay4 P0 P1 P2 P3 P4 = expCol (bound (k0_pay3 P0 P1 P2 P3 P4)) (tests powers (bound (k0_pay3 P0 P1 P2 P3 P4))) := rfl

theorem pay4_apply (P0 : Vec Ideal S16384x4480 .fp8e4m3) (P1 : Vec Ideal S4480x20736 .fp8e4m3) (P2 : Vec Ideal S16384x1 .f32)
    (P3 : Vec Ideal S1x20736 .f32) (P4 : Vec Ideal S16384x20736 .bf16) (r : Fin 16384) :
    k0_pay4 P0 P1 P2 P3 P4 (ix2 r (0 : Fin 1)) = expR (rmax (k0_pay3 P0 P1 P2 P3 P4) r * Ideal.ofBits .f32 991054117#32) := by
  rw [pay4_eq, expCol_apply]
  simp only [tests_apply, powers_apply, bound_apply]
  rfl

/-- `y` at a row and column. -/
theorem pay3_apply (P0 : Vec Ideal S16384x4480 .fp8e4m3) (P1 : Vec Ideal S4480x20736 .fp8e4m3) (P2 : Vec Ideal S16384x1 .f32)
    (P3 : Vec Ideal S1x20736 .f32) (P4 : Vec Ideal S16384x20736 .bf16) (r : Fin 16384) (q : Fin 20736) :
    k0_pay3 P0 P1 P2 P3 P4 (ix2 r q) = (∑ x : Fin 4480, P0 (ix2 r x) * P1 (ix2 x q)) * P2 (ix2 r (0 : Fin 1)) * P3 (ix2 (0 : Fin 1) q) + P4 (ix2 r q) := by
  pointwise [k0_pay3]

theorem pay1_apply (y : FVec Ideal S16384x20736 .f32) (e : IVec S16384x1 32) (r : Fin 16384) (q : Fin 20736) :
    k0_pay1 y e (ix2 r q) = code (y (ix2 r q)) (sc (e (ix2 r (0 : Fin 1)))) := by
  unfold code
  pointwise [k0_pay1]
  rfl

theorem pay2_apply (s : FVec Ideal S16384x1 .f32) (i : Fin 32) (k : Fin 512) :
    k0_pay2 s (ix3 i (0 : Fin 1) k) = s (ix2 (⟨i.val * 512 + k.val, by omega⟩ : Fin 16384) (0 : Fin 1)) := by
  pointwise [k0_pay2]

end Cert.Value.Ref
-- ==== Proof.Tile.lean ====
/-
# The row scales of a tile, by row

The kernel's row scale and inverse scale at a row and lane are powers of two whose exponent is found from the row's
largest `|y|`; here they are brought to the reference's exponent.
-/
module

public import proofs.«01_k».proof.Proof.Fn
public import proofs.«01_k».proof.Proof.Expo
public import Idealize.ShloMosaic.Lib.Pointwise

@[expose] public section
set_option maxRecDepth 16384
noncomputable section
namespace Cert.Value
open Idealize.ShloMosaic Idealize.ShloMosaic.TcCoe Idealize.SL.Sem
open Cert.KernelIdeal Cert.KernelIdeal.Gen

/-- One step of the bisection on a whole tile. -/
def stepV (v : FVec Ideal S512x128 .f32) (s : BitVec 32) (b : IVec S512x128 32) : IVec S512x128 32 :=
  select (cmpf .oge v (bitcastToFloat .f32 (shli (addi b (broadcast S512x128 s)) (broadcast S512x128 23#32))))
    (addi b (broadcast S512x128 s)) b

theorem stepV_apply (v : FVec Ideal S512x128 .f32) (s : BitVec 32) (b : IVec S512x128 32) (p : Fin 512) (q : Fin 128) :
    stepV v s b (ix2 p q) = stp (v (ix2 p q)) s (b (ix2 p q)) := by
  unfold stepV
  pointwise
  rfl

/-- The bisection on a whole tile. -/
def bisV (v : FVec Ideal S512x128 .f32) : IVec S512x128 32 :=
  stepV v 1#32 (stepV v 2#32 (stepV v 4#32 (stepV v 8#32 (stepV v 16#32 (stepV v 32#32 (stepV v 64#32
    (stepV v 128#32 (broadcast S512x128 0#32))))))))

theorem bisV_apply (v : FVec Ideal S512x128 .f32) (p : Fin 512) (q : Fin 128) : bisV v (ix2 p q) = bis (v (ix2 p q)) := by
  unfold bisV bis
  rw [stepV_apply, stepV_apply, stepV_apply, stepV_apply, stepV_apply, stepV_apply, stepV_apply, stepV_apply]
  rfl

theorem pay17_eq (A : Vec Ideal S512x128 .f32) :
    k0_pay17 (k0_pay13 A) (k0_pay14 A) (k0_pay15 A) (k0_pay16 A) = minsi (bisV (k0_pay13 A)) (broadcast S512x128 246#32) := rfl

theorem expTile_apply (A : Vec Ideal S512x128 .f32) (p : Fin 512) (q : Fin 128) :
    Cert.KernelIdeal.Fn.expTile A (ix2 p q) = expK (k0_pay13 A (ix2 p q)) := by
  have e : k0_pay17 (k0_pay13 A) (k0_pay14 A) (k0_pay15 A) (k0_pay16 A) (ix2 p q) = IntOp.minsi (bis (k0_pay13 A (ix2 p q))) 246#32 := by
    rw [pay17_eq, ← bisV_apply]; rfl
  unfold expK
  rw [← e]
  rfl

/-- The largest element of row `p` of the tile. -/
def tmax (A : Vec Ideal S512x128 .f32) (p : Fin 512) : EReal :=
  Finset.fold max (Ideal.ofBits FTy.f32 4286578688#32) (fun x : Fin 128 => A (ix2 p x)) Finset.univ

theorem pay13_apply (A : Vec Ideal S512x128 .f32) (p : Fin 512) (q : Fin 128) :
    k0_pay13 A (ix2 p q) = tmax A p * Ideal.ofBits .f32 991054117#32 := by
  unfold tmax
  pointwise [k0_pay13]

theorem scaleTile_apply (A : Vec Ideal S512x128 .f32) (p : Fin 512) (q : Fin 128) :
    Cert.KernelIdeal.Fn.scaleTile A (ix2 p q) = sc (expR (tmax A p * Ideal.ofBits .f32 991054117#32)) := by
  rw [← pw_exp, ← pay13_apply A p q, ← expTile_apply]
  rfl

theorem scast (X : FVec Ideal S512x128 .f32) (p : Fin 512) (q : Fin 128) :
    shapeCast S512x128 X shapeCasts_S512x128_S512x128 (ix2 p q) = X (ix2 p q) := by
  pointwise

theorem invTile_apply (A : Vec Ideal S512x128 .f32) (p : Fin 512) (q : Fin 128) :
    Cert.KernelIdeal.Fn.invTile A (ix2 p q) = sc (IntOp.subi 0#32 (expR (tmax A p * Ideal.ofBits .f32 991054117#32))) := by
  rw [← pw_neg, ← pay13_apply A p q, ← expTile_apply]
  unfold Cert.KernelIdeal.Fn.invTile k0_pay23
  rw [scast]
  rfl

end Cert.Value
-- ==== Proof.Blocks.lean ====
/-
# The kernel's blocks at coordinates

Each block a grid point reads is a part of its array, so the block of `y` a point computes is that part of the whole
`y`.
-/
module

public import proofs.«01_k».proof.Proof.Inv
public import proofs.«01_k».proof.Proof.Tile
public import Idealize.ShloMosaic.Lib.Pointwise
public import Idealize.ShloMosaic.Lib.Pipeline.ValueKit

@[expose] public section
set_option maxRecDepth 16384
noncomputable section
namespace Cert.Value
open Idealize.ShloMosaic Idealize.ShloMosaic.TcCoe Idealize.SL.Sem
open Cert.KernelIdeal Cert.KernelIdeal.Gen Cert.KernelIdeal.Fn

theorem i0 (t : Fin cfg0.N) : win0_0.index t = ![min (t.val / 27) 31, 0] := tr0 t
theorem i1 (t : Fin cfg0.N) : win0_1.index t = ![min (t.val / 27) 31, 0, 0] := tr1 t
theorem i2 (t : Fin cfg0.N) : win0_2.index t = ![0, if t.val < 864 then t.val % 27 else 26] := tr2 t
theorem i3 (t : Fin cfg0.N) : win0_3.index t = ![0, if t.val < 864 then t.val % 27 else 26] := tr3 t
theorem i4 (t : Fin cfg0.N) : win0_4.index t = ![min (t.val / 27) 31, if t.val < 864 then t.val % 27 else 26] := tr4 t
theorem i5 (t : Fin cfg0.N) : win0_5.index t = ![t.val / 27 - 1, if t.val < 27 then 0 else t.val % 27] := tr5 t
theorem i6 (t : Fin cfg0.N) : win0_6.index t = ![t.val / 27 - 1, 0, 0] := tr6 t

variable (m : (ℓ : Loc nD τ sig) → Buf (Elt Ideal) ℓ) (c : Dev nD)

theorem blk0 (t : Fin cfg0.N) (r : Fin 512) (x : Fin 4480) :
    iblk m c 0 t (ix2 r x) = V m c main_v0 (ix2 (⟨512 * min (t.val / 27) 31 + r.val, by omega⟩ : Fin 16384) x) := by
  blk_ext [iblk, i0]

theorem blk1 (t : Fin cfg0.N) (r : Fin 512) :
    iblk m c 1 t (ix3 (0 : Fin 1) (0 : Fin 1) r) = V m c main_v1 (ix3 (⟨min (t.val / 27) 31, by omega⟩ : Fin 32) (0 : Fin 1) r) := by
  blk_ext [iblk, i1]

theorem blk2 (t : Fin cfg0.N) (h : t.val < 864) (x : Fin 4480) (l : Fin 768) :
    iblk m c 2 t (ix2 x l) = V m c main_arg2 (ix2 x (⟨768 * (t.val % 27) + l.val, by omega⟩ : Fin 20736)) := by
  have e : win0_2.index t = ![0, t.val % 27] := by rw [i2, if_pos h]
  blk_ext [iblk, e]

theorem blk3 (t : Fin cfg0.N) (h : t.val < 864) (l : Fin 768) :
    iblk m c 3 t (ix2 (0 : Fin 1) l) = V m c main_arg3 (ix2 (0 : Fin 1) (⟨768 * (t.val % 27) + l.val, by omega⟩ : Fin 20736)) := by
  have e : win0_3.index t = ![0, t.val % 27] := by rw [i3, if_pos h]
  blk_ext [iblk, e]

theorem blk4 (t : Fin cfg0.N) (h : t.val < 864) (r : Fin 512) (l : Fin 768) :
    iblk m c 4 t (ix2 r l) = V m c main_v2 (ix2 (⟨512 * min (t.val / 27) 31 + r.val, by omega⟩ : Fin 16384) (⟨768 * (t.val % 27) + l.val, by omega⟩ : Fin 20736)) := by
  have e : win0_4.index t = ![min (t.val / 27) 31, t.val % 27] := by rw [i4, if_pos h]
  blk_ext [iblk, e]

/-- The whole `y` at a row and column, from the inputs, the row scales and the column scales. -/
def yOf (X : Fin 16384 → Fin 4480 → EReal) (S : Fin 16384 → EReal) (W : Fin 4480 → Fin 20736 → EReal) (D : Fin 20736 → EReal)
    (R : Fin 16384 → Fin 20736 → EReal) (r : Fin 16384) (q : Fin 20736) : EReal :=
  (∑ x : Fin 4480, X r x * W x q) * S r * D q + R r q

/-- The whole `y` the kernel's arrays give. -/
def yAt : Fin 16384 → Fin 20736 → EReal :=
  yOf (fun r x => V m c main_v0 (ix2 r x))
    (fun r => V m c main_v1 (ix3 (⟨r.val / 512, by omega⟩ : Fin 32) (0 : Fin 1) (⟨r.val % 512, by omega⟩ : Fin 512)))
    (fun x q => V m c main_arg2 (ix2 x q)) (fun q => V m c main_arg3 (ix2 (0 : Fin 1) q)) (fun r q => V m c main_v2 (ix2 r q))

theorem pay50_apply (a : Vec Ideal S512x4480 .fp8e4m3) (b : Vec Ideal S4480x768 .fp8e4m3) (r : Fin 512) (l : Fin 768) :
    k0_pay50 a b (ix2 r l) = ∑ x : Fin 4480, a (ix2 r x) * b (ix2 x l) := by
  pointwise [k0_pay50]

theorem yv_apply (d : FVec Ideal S512x768 .f32) (X : Vec Ideal S1x1x512 .f32) (w : Vec Ideal S1x768 .f32) (e : Vec Ideal S512x768 .bf16)
    (r : Fin 512) (l : Fin 768) :
    yv d (xsb X) w e (ix2 r l) = d (ix2 r l) * X (ix3 (0 : Fin 1) (0 : Fin 1) r) * w (ix2 (0 : Fin 1) l) + e (ix2 r l) := rfl

/-- The block of `y` point `n` computes is a block of the whole `y`. -/
theorem yN_apply (n : ℕ) (hn : n < 864) (r : Fin 512) (l : Fin 768) :
    yN m c n (ix2 r l) = yAt m c (⟨512 * (n / 27) + r.val, by omega⟩ : Fin 16384) (⟨768 * (n % 27) + l.val, by omega⟩ : Fin 20736) := by
  have hp : (pt n).val = n := Nat.mod_eq_of_lt (by omega)
  have hp' : (pt (27 * (n / 27))).val = 27 * (n / 27) := Nat.mod_eq_of_lt (by omega)
  have h1 : min ((pt n).val / 27) 31 = n / 27 := by omega
  have h2 : min ((pt (27 * (n / 27))).val / 27) 31 = n / 27 := by omega
  unfold yN
  rw [yv_apply, pay50_apply, blk1, blk3 m c (pt n) (by omega), blk4 m c (pt n) (by omega)]
  simp only [blk0, blk2 m c (pt n) (by omega)]
  unfold yAt yOf
  have e1 : (512 * (n / 27) + r.val) / 512 = n / 27 := by omega
  have e2 : (512 * (n / 27) + r.val) % 512 = r.val := by omega
  have h3 : min (n / 27) 31 = n / 27 := by omega
  simp only [h2, hp, h3, e1, e2]

end Cert.Value
-- ==== Proof.RowMax.lean ====
/-
# The largest `|y|` of a row

The kernel keeps, for each row and lane, the largest `|y|` over the column blocks seen so far; after the last block the
largest over the lanes is the largest of the whole row.
-/
module

public import proofs.«01_k».proof.Proof.Blocks

@[expose] public section
set_option maxRecDepth 16384
noncomputable section
namespace Cert.Value
open Idealize.ShloMosaic Idealize.ShloMosaic.TcCoe Idealize.SL.Sem
open Cert.KernelIdeal Cert.KernelIdeal.Gen Cert.KernelIdeal.Fn

/-- The absolute value. -/
def ab (x : EReal) : EReal := max x (-x)

theorem chunk_apply (y : FVec Ideal S512x768 .f32) (n : Fin 6) (r : Fin 512) (l : Fin 128) :
    absf (chunk y n) (ix2 r l) = ab (y (ix2 r (col n l))) := rfl

theorem mv_apply (y : FVec Ideal S512x768 .f32) (r : Fin 512) (l : Fin 128) :
    mv y (ix2 r l) = max (max (max (max (max (ab (y (ix2 r (col 0 l)))) (ab (y (ix2 r (col 1 l))))) (ab (y (ix2 r (col 2 l)))))
      (ab (y (ix2 r (col 3 l))))) (ab (y (ix2 r (col 4 l))))) (ab (y (ix2 r (col 5 l)))) := rfl

/-- A bound on a block's largest `|y|` at a row and lane bounds every column of that lane. -/
theorem mv_le (y : FVec Ideal S512x768 .f32) (r : Fin 512) (l : Fin 128) (b : EReal) :
    mv y (ix2 r l) ≤ b ↔ ∀ k : Fin 6, ab (y (ix2 r (col k l))) ≤ b := by
  rw [mv_apply]
  simp only [max_le_iff, Fin.forall_fin_succ, Fin.forall_fin_zero_pi, IsEmpty.forall_iff, and_true]
  tauto

theorem max_apply (A B : FVec Ideal S512x128 .f32) (r : Fin 512) (l : Fin 128) :
    maximumf A B (ix2 r l) = max (A (ix2 r l)) (B (ix2 r l)) := rfl

variable (m : (ℓ : Loc nD τ sig) → Buf (Elt Ideal) ℓ) (c : Dev nD)

theorem accN_start (n : ℕ) (h : n % 27 = 0) : accN m c n = mv (yN m c n) := by
  cases n with
  | zero => rfl
  | succ n => show amaxNew _ _ _ = _; unfold amaxNew; rw [if_pos h]

theorem accN_next (n : ℕ) (h : ¬ (n + 1) % 27 = 0) : accN m c (n + 1) = maximumf (mv (yN m c (n + 1))) (accN m c n) := by
  show amaxNew _ _ _ = _; unfold amaxNew; rw [if_neg h]

/-- A bound on the running maximum bounds every column of the lane in the blocks seen so far. -/
theorem accN_le (i : ℕ) (r : Fin 512) (l : Fin 128) (b : EReal) (j : ℕ) (hj : j < 27) :
    accN m c (27 * i + j) (ix2 r l) ≤ b ↔ ∀ j' ≤ j, ∀ k : Fin 6, ab (yN m c (27 * i + j') (ix2 r (col k l))) ≤ b := by
  induction j with
  | zero =>
    rw [accN_start m c _ (by omega), mv_le]
    exact ⟨fun h j' hj' => by rw [Nat.le_zero.mp hj']; exact h, fun h => h 0 le_rfl⟩
  | succ j ih =>
    rw [show 27 * i + (j + 1) = 27 * i + j + 1 from rfl, accN_next m c _ (by omega), max_apply, max_le_iff, mv_le, ih (by omega)]
    constructor
    · rintro ⟨h1, h2⟩ j' hj'
      rcases Nat.lt_or_ge j j' with h | h
      · rw [show j' = j + 1 by omega]; exact h1
      · exact h2 j' h
    · intro h
      exact ⟨h (j + 1) le_rfl, fun j' hj' => h j' (by omega)⟩

/-- The maximum of a function over the reals extended, started from the least element. -/
theorem fold_le {n : ℕ} (f : Fin n → EReal) (b : EReal) :
    Finset.fold max (Ideal.ofBits FTy.f32 4286578688#32) f Finset.univ ≤ b ↔ ∀ x, f x ≤ b := by
  have e : Ideal.ofBits FTy.f32 4286578688#32 = ⊥ := by
    show Ideal.ieee 8 23 (4286578688#32) = ⊥
    unfold Ideal.ieee
    rw [if_pos (by decide), if_pos (by decide), if_pos (by decide)]
  rw [Finset.fold_max_le, e]
  simp

/-- The largest `|y|` of a whole row. -/
def rowMax (y : Fin 16384 → Fin 20736 → EReal) (r : Fin 16384) : EReal :=
  Finset.fold max (Ideal.ofBits FTy.f32 4286578688#32) (fun q : Fin 20736 => ab (y r q)) Finset.univ

/-- The largest over the lanes of the running maximum after a row block's last point is the row's largest `|y|`. -/
theorem tmax_acc (i : ℕ) (hi : i < 32) (r : Fin 512) :
    tmax (accN m c (27 * i + 26)) r = rowMax (yAt m c) (⟨512 * i + r.val, by omega⟩ : Fin 16384) := by
  refine eq_of_forall_ge_iff fun b => ?_
  unfold tmax rowMax
  rw [fold_le, fold_le]
  constructor
  · intro h q
    have := (accN_le m c i r ⟨q.val % 128, by omega⟩ b 26 (by omega)).mp (h _) (q.val / 768) (by omega) ⟨q.val % 768 / 128, by omega⟩
    rw [yN_apply m c _ (by omega)] at this
    have e1 : (27 * i + q.val / 768) / 27 = i := by omega
    have e2 : 768 * ((27 * i + q.val / 768) % 27) + (128 * (q.val % 768 / 128) + q.val % 128) = q.val := by omega
    simpa only [col, e1, e2] using this
  · intro h l
    rw [accN_le m c i r l b 26 (by omega)]
    intro j hj k
    rw [yN_apply m c _ (by omega)]
    have e1 : (27 * i + j) / 27 = i := by omega
    have := h ⟨768 * ((27 * i + j) % 27) + (col k l).val, by have := (col k l).isLt; omega⟩
    simpa only [e1] using this

end Cert.Value
-- ==== Proof.Final.lean ====
/-
# The arrays the kernel leaves

The codes and the scales after the run, at every index: the quantised `y` and the row scales of the whole `y`.
-/
module

public import proofs.«01_k».proof.Proof.RowMax
public import proofs.«01_k».proof.Proof.Data

@[expose] public section
set_option maxRecDepth 16384
noncomputable section
namespace Cert.Value
open Idealize.ShloMosaic Idealize.ShloMosaic.TcCoe Idealize.SL.Sem
open Cert.KernelIdeal Cert.KernelIdeal.Gen Cert.KernelIdeal.Fn

/-- The exponent of a row's scale. -/
def rowExp (y : Fin 16384 → Fin 20736 → EReal) (r : Fin 16384) : BitVec 32 := expR (rowMax y r * Ideal.ofBits .f32 991054117#32)
/-- The codes of the whole `y`. -/
def codesOf (y : Fin 16384 → Fin 20736 → EReal) : S16384x20736.Idx → EReal :=
  fun k => code (y (k 0) (k 1)) (sc (IntOp.subi 0#32 (rowExp y (k 0))))
/-- The row scales of the whole `y`, in 32 rows of 512. -/
def scalesOf (y : Fin 16384 → Fin 20736 → EReal) : S32x1x512.Idx → EReal :=
  fun k => sc (rowExp y (⟨512 * (k 0).val + (k 2).val, by have h0 : (k 0).val < 32 := (k 0).isLt; have h2 : (k 2).val < 512 := (k 2).isLt; omega⟩ : Fin 16384))

theorem quant_apply (y : FVec Ideal S512x768 .f32) (I : Vec Ideal S512x128 .f32) (r : Fin 512) (l : Fin 768) :
    quant y I (ix2 r l) = code (y (ix2 r l)) (I (ix2 r (lane l))) := rfl

variable (m : (ℓ : Loc nD τ sig) → Buf (Elt Ideal) ℓ) (c : Dev nD)

theorem rowExp_acc (n : ℕ) (h1 : 27 ≤ n) (h2 : n < 891) (r : Fin 512) :
    expR (tmax (accPrev m c n) r * Ideal.ofBits .f32 991054117#32)
      = rowExp (yAt m c) (⟨512 * (n / 27 - 1) + r.val, by omega⟩ : Fin 16384) := by
  unfold rowExp accPrev
  rw [show 27 * (n / 27) - 1 = 27 * (n / 27 - 1) + 26 by omega, tmax_acc m c _ (by omega)]

theorem codesN_apply (n : ℕ) (h1 : 27 ≤ n) (h2 : n < 891) (r : Fin 512) (l : Fin 768) :
    codesN m c n (ix2 r l) = codesOf (yAt m c) (ix2 (⟨512 * (n / 27 - 1) + r.val, by omega⟩ : Fin 16384) (⟨768 * (n % 27) + l.val, by omega⟩ : Fin 20736)) := by
  unfold codesN
  rw [quant_apply, invTile_apply, rowExp_acc m c n h1 h2, yN_apply m c _ (by omega)]
  have e1 : (n - 27) / 27 = n / 27 - 1 := by omega
  have e2 : (n - 27) % 27 = n % 27 := by omega
  simp only [e1, e2]
  rfl

theorem scalesN_apply (n : ℕ) (h1 : 27 ≤ n) (h2 : n < 891) (r : Fin 512) :
    scalesN m c n (ix3 (0 : Fin 1) (0 : Fin 1) r) = scalesOf (yAt m c) (ix3 (⟨n / 27 - 1, by omega⟩ : Fin 32) (0 : Fin 1) r) := by
  show scaleTile (accPrev m c n) (ix2 r (0 : Fin 128)) = _
  rw [scaleTile_apply, rowExp_acc m c n h1 h2]
  rfl

theorem final_codes : (dats m 0 c).arrAt 5 cfg0.N = codesOf (yAt m c) := by
  refine (dats m 0 c).arrAt_eq_of_covers 5 _ (by decide +kernel) fun t hf y => ?_
  have ht : t.val < 891 := N_eq ▸ t.isLt
  have hf' : 27 ≤ t.val := of_decide_eq_true ((flush5 t).symm.trans hf)
  blk_simp
  rw [after0_5]
  obtain ⟨r, l, rfl⟩ : ∃ (r : Fin 512) (l : Fin 768), y = ix2 r l := ⟨y 0, y 1, eq_ix2 y⟩
  refine (codesN_apply m c t.val hf' ht r l).trans (congrArg (codesOf (yAt m c)) ?_)
  have e : win0_5.index t = ![t.val / 27 - 1, t.val % 27] := by rw [i5, if_neg (by omega)]
  blk_ext [e]

theorem final_scales : (dats m 0 c).arrAt 6 cfg0.N = scalesOf (yAt m c) := by
  refine (dats m 0 c).arrAt_eq_of_covers 6 _ (by decide +kernel) fun t hf y => ?_
  have ht : t.val < 891 := N_eq ▸ t.isLt
  have hf' : 27 ≤ t.val := (of_decide_eq_true ((flush6 t).symm.trans hf)).1
  blk_simp
  rw [after0_6]
  obtain ⟨r, rfl⟩ : ∃ (r : Fin 512), y = ix3 (0 : Fin 1) (0 : Fin 1) r := ⟨y 2, by
    rw [eq_ix3 y]; congr 1 <;> exact Subsingleton.elim (α := Fin 1) _ _⟩
  refine (scalesN_apply m c t.val hf' ht r).trans (congrArg (scalesOf (yAt m c)) ?_)
  blk_ext [i6]

end Cert.Value
-- ==== Proof.RefFinal.lean ====
/-
# The arrays the reference leaves

The reference runs at one point on whole arrays, so its codes and scales are the quantised `y` and the row scales.
-/
module

public import proofs.«01_k».proof.Proof.Ref
public import proofs.«01_k».proof.Proof.Final
public import Idealize.ShloMosaic.Lib.Pipeline.ValueKit

@[expose] public section
set_option maxRecDepth 16384
noncomputable section
namespace Cert.Value.Ref
open Idealize.ShloMosaic Idealize.ShloMosaic.TcCoe Idealize.SL.Sem
open Cert.ReferenceIdeal Cert.ReferenceIdeal.Gen

theorem i0 : ∀ t : Fin cfg0.N, win0_0.index t = ![0, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![0, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![0, 0] := (by decide +kernel : ∀ t : Fin grid0.N, _)
theorem i6 : ∀ t : Fin cfg0.N, win0_6.index t = ![0, 0, 0] := (by decide +kernel : ∀ t : Fin grid0.N, _)

variable (m : (ℓ : Loc nD τ sig) → Buf (Elt Ideal) ℓ) (c : Dev nD)

theorem blk0 (t : Fin cfg0.N) (r : Fin 16384) (x : Fin 4480) : iblk m c 0 t (ix2 r x) = V m c main_v0 (ix2 r x) := by
  blk_ext [iblk, i0]
theorem blk1 (t : Fin cfg0.N) (r : Fin 16384) : iblk m c 1 t (ix2 r (0 : Fin 1)) = V m c main_v1 (ix2 r (0 : Fin 1)) := by
  blk_ext [iblk, i1]
theorem blk2 (t : Fin cfg0.N) (x : Fin 4480) (q : Fin 20736) : iblk m c 2 t (ix2 x q) = V m c main_arg2 (ix2 x q) := by
  blk_ext [iblk, i2]
theorem blk3 (t : Fin cfg0.N) (q : Fin 20736) : iblk m c 3 t (ix2 (0 : Fin 1) q) = V m c main_arg3 (ix2 (0 : Fin 1) q) := by
  blk_ext [iblk, i3]
theorem blk4 (t : Fin cfg0.N) (r : Fin 16384) (q : Fin 20736) : iblk m c 4 t (ix2 r q) = V m c main_v2 (ix2 r q) := by
  blk_ext [iblk, i4]

theorem out5_eq (x0 : Vec Ideal S16384x4480 .fp8e4m3) (x1 : Vec Ideal S16384x1 .f32) (x2 : Vec Ideal S4480x20736 .fp8e4m3) (x3 : Vec Ideal S1x20736 .f32) (x4 : Vec Ideal S16384x20736 .bf16) (y : S16384x20736.Idx) : out0_5 x0 x1 x2 x3 x4 y = k0_pay1 (k0_pay3 x0 x2 x1 x3 x4) (k0_pay6 x0 x2 x1 x3 x4) y := by
  frame_out
theorem out6_eq (x0 : Vec Ideal S16384x4480 .fp8e4m3) (x1 : Vec Ideal S16384x1 .f32) (x2 : Vec Ideal S4480x20736 .fp8e4m3) (x3 : Vec Ideal S1x20736 .f32) (x4 : Vec Ideal S16384x20736 .bf16) (y : S32x1x512.Idx) : out0_6 x0 x1 x2 x3 x4 y = k0_pay2 (k0_pay5 x0 x2 x1 x3 x4) y := by
  frame_out

/-- The whole `y` the reference's arrays give. -/
def yR : Fin 16384 → Fin 20736 → EReal :=
  yOf (fun r x => V m c main_v0 (ix2 r x)) (fun r => V m c main_v1 (ix2 r (0 : Fin 1)))
    (fun x q => V m c main_arg2 (ix2 x q)) (fun q => V m c main_arg3 (ix2 (0 : Fin 1) q)) (fun r q => V m c main_v2 (ix2 r q))

theorem y_apply (t : Fin cfg0.N) (r : Fin 16384) (q : Fin 20736) :
    k0_pay3 (iblk m c 0 t) (iblk m c 2 t) (iblk m c 1 t) (iblk m c 3 t) (iblk m c 4 t) (ix2 r q) = yR m c r q := by
  rw [pay3_apply, blk1, blk3, blk4]
  simp only [blk0, blk2]
  rfl

theorem rmax_y (t : Fin cfg0.N) (r : Fin 16384) :
    rmax (k0_pay3 (iblk m c 0 t) (iblk m c 2 t) (iblk m c 1 t) (iblk m c 3 t) (iblk m c 4 t)) r = rowMax (yR m c) r := by
  have e : ∀ (z : FVec Ideal S16384x20736 .f32) (k : S16384x20736.Idx), absf z k = ab (z k) := fun _ _ => rfl
  unfold rmax rowMax
  simp only [e, y_apply]

theorem exp_y (t : Fin cfg0.N) (r : Fin 16384) :
    k0_pay4 (iblk m c 0 t) (iblk m c 2 t) (iblk m c 1 t) (iblk m c 3 t) (iblk m c 4 t) (ix2 r (0 : Fin 1)) = rowExp (yR m c) r := by
  rw [pay4_apply, rmax_y]; rfl

theorem pay5_apply (P0 : Vec Ideal S16384x4480 .fp8e4m3) (P1 : Vec Ideal S4480x20736 .fp8e4m3) (P2 : Vec Ideal S16384x1 .f32)
    (P3 : Vec Ideal S1x20736 .f32) (P4 : Vec Ideal S16384x20736 .bf16) (k : S16384x1.Idx) :
    k0_pay5 P0 P1 P2 P3 P4 k = sc (k0_pay4 P0 P1 P2 P3 P4 k) := rfl
theorem pay6_apply (P0 : Vec Ideal S16384x4480 .fp8e4m3) (P1 : Vec Ideal S4480x20736 .fp8e4m3) (P2 : Vec Ideal S16384x1 .f32)
    (P3 : Vec Ideal S1x20736 .f32) (P4 : Vec Ideal S16384x20736 .bf16) (k : S16384x1.Idx) :
    k0_pay6 P0 P1 P2 P3 P4 k = IntOp.subi 0#32 (k0_pay4 P0 P1 P2 P3 P4 k) := rfl

theorem codes_apply (t : Fin cfg0.N) (r : Fin 16384) (q : Fin 20736) :
    out0_5 (iblk m c 0 t) (iblk m c 1 t) (iblk m c 2 t) (iblk m c 3 t) (iblk m c 4 t) (ix2 r q) = codesOf (yR m c) (ix2 r q) := by
  rw [out5_eq, pay1_apply, pay6_apply, y_apply, exp_y]; rfl

theorem scales_apply (t : Fin cfg0.N) (i : Fin 32) (k : Fin 512) :
    out0_6 (iblk m c 0 t) (iblk m c 1 t) (iblk m c 2 t) (iblk m c 3 t) (iblk m c 4 t) (ix3 i (0 : Fin 1) k)
      = scalesOf (yR m c) (ix3 i (0 : Fin 1) k) := by
  rw [out6_eq, pay2_apply, pay5_apply, exp_y]
  unfold scalesOf
  have e : (⟨i.val * 512 + k.val, by omega⟩ : Fin 16384) = ⟨512 * i.val + k.val, by omega⟩ := Fin.ext (by simp only; omega)
  rw [e]
  rfl

theorem final_codes : (dats m 0 c).arrAt 5 cfg0.N = codesOf (yR m c) := by
  refine (dats m 0 c).arrAt_eq_of_covers 5 _ (by decide +kernel) fun t hf y => ?_
  blk_simp
  rw [after0_5]
  obtain ⟨r, l, rfl⟩ : ∃ (r : Fin 16384) (l : Fin 20736), y = ix2 r l := ⟨y 0, y 1, eq_ix2 y⟩
  refine (codes_apply m c t r l).trans (congrArg (codesOf (yR m c)) ?_)
  blk_ext [i5]

theorem final_scales : (dats m 0 c).arrAt 6 cfg0.N = scalesOf (yR m c) := by
  refine (dats m 0 c).arrAt_eq_of_covers 6 _ (by decide +kernel) fun t hf y => ?_
  blk_simp
  rw [after0_6]
  obtain ⟨i, r, rfl⟩ : ∃ (i : Fin 32) (r : Fin 512), y = ix3 i (0 : Fin 1) r := ⟨y 0, y 2, by
    rw [eq_ix3 y]; congr 1; exact Subsingleton.elim (α := Fin 1) _ _⟩
  refine (scales_apply m c t i r).trans (congrArg (scalesOf (yR m c)) ?_)
  blk_ext [i6]

end Cert.Value.Ref
-- ==== Proof.Value.lean ====
/-
# Kernel and reference end with equal results

From memories with equal arguments the two programs' whole `y` are the same function, so their codes and scales are.
-/
module

public import proofs.«01_k».proof.Proof.RefFinal
public import proofs.«01_k».proof.Defs
public import Idealize.ShloMosaic.Lib.Claim

@[expose] public section
set_option maxRecDepth 16384
noncomputable section
namespace Cert.Value
open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-! ## The arrays the region finds -/

section
open Cert.KernelIdeal Cert.KernelIdeal.Gen
theorem kv0 (c : Dev nD) : V m c main_v0 = shapeCast S16384x4480 (m (c, Proc.devRef .tc main_arg0)) shapeCasts_S8x2048x4480_S16384x4480 := by
  entry_read; rfl
theorem kv1 (c : Dev nD) : V m c main_v1 = shapeCast S32x1x512 (m (c, Proc.devRef .tc main_arg1)) shapeCasts_S8x2048x1_S32x1x512 := by
  entry_read; rfl
theorem kv2 (c : Dev nD) : V m c main_v2 = shapeCast S16384x20736 (m (c, Proc.devRef .tc main_arg4)) shapeCasts_S8x2048x20736_S16384x20736 := by
  entry_read; rfl
end

section
open Cert.ReferenceIdeal Cert.ReferenceIdeal.Gen
theorem rv0 (c : Dev nD) : V m' c main_v0 = shapeCast S16384x4480 (m' (c, Proc.devRef .tc main_arg0)) shapeCasts_S8x2048x4480_S16384x4480 := by
  entry_read; rfl
theorem rv1 (c : Dev nD) : V m' c main_v1 = shapeCast S16384x1 (m' (c, Proc.devRef .tc main_arg1)) shapeCasts_S8x2048x1_S16384x1 := by
  entry_read; rfl
theorem rv2 (c : Dev nD) : V m' c main_v2 = shapeCast S16384x20736 (m' (c, Proc.devRef .tc main_arg4)) shapeCasts_S8x2048x20736_S16384x20736 := by
  entry_read; rfl
end

/-- The row scales laid out as one column or as 32 rows of 512. -/
theorem scale_cast (a : Vec Ideal Cert.KernelIdeal.S8x2048x1 .f32) (r : Fin 16384) :
    shapeCast Cert.ReferenceIdeal.S16384x1 a Cert.ReferenceIdeal.Gen.shapeCasts_S8x2048x1_S16384x1 (ix2 r (0 : Fin 1))
      = shapeCast Cert.KernelIdeal.S32x1x512 a Cert.KernelIdeal.Gen.shapeCasts_S8x2048x1_S32x1x512
          (ix3 (⟨r.val / 512, by omega⟩ : Fin 32) (0 : Fin 1) (⟨r.val % 512, by omega⟩ : Fin 512)) := by
  pointwise
  have e1 : r.val / 512 / 4 = r.val / 2048 := by omega
  have e2 : r.val / 512 % 4 * 512 + r.val % 512 = r.val % 2048 := by omega
  simp only [e1, e2]

open Cert.KernelIdeal in
/-- Equal arguments give equal `y`. -/
theorem y_eq (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4)) :
    Ref.yR m' c = yAt m c := by
  unfold Ref.yR yAt
  rw [kv0, kv1, kv2, rv0, rv1, rv2, Cert.KernelIdeal.Gen.V_main_arg2, Cert.KernelIdeal.Gen.V_main_arg3,
    Cert.ReferenceIdeal.Gen.V_main_arg2, Cert.ReferenceIdeal.Gen.V_main_arg3]
  have e0 : ∀ (r : Fin 16384) (x : Fin 4480), shapeCast Cert.ReferenceIdeal.S16384x4480 (m' (c, Proc.devRef .tc Cert.ReferenceIdeal.main_arg0)) Cert.ReferenceIdeal.Gen.shapeCasts_S8x2048x4480_S16384x4480 (ix2 r x)
      = shapeCast S16384x4480 (m (c, Proc.devRef .tc main_arg0)) Cert.KernelIdeal.Gen.shapeCasts_S8x2048x4480_S16384x4480 (ix2 r x) := fun r x =>
    congrArg (fun a : Vec Ideal S8x2048x4480 .fp8e4m3 => shapeCast S16384x4480 a Cert.KernelIdeal.Gen.shapeCasts_S8x2048x4480_S16384x4480 (ix2 r x)) h0
  have e1 : ∀ (r : Fin 16384), shapeCast Cert.ReferenceIdeal.S16384x1 (m' (c, Proc.devRef .tc Cert.ReferenceIdeal.main_arg1)) Cert.ReferenceIdeal.Gen.shapeCasts_S8x2048x1_S16384x1 (ix2 r (0 : Fin 1))
      = shapeCast S32x1x512 (m (c, Proc.devRef .tc main_arg1)) Cert.KernelIdeal.Gen.shapeCasts_S8x2048x1_S32x1x512
          (ix3 (⟨r.val / 512, by omega⟩ : Fin 32) (0 : Fin 1) (⟨r.val % 512, by omega⟩ : Fin 512)) := fun r =>
    (congrArg (fun a : Vec Ideal S8x2048x1 .f32 => shapeCast Cert.ReferenceIdeal.S16384x1 a Cert.ReferenceIdeal.Gen.shapeCasts_S8x2048x1_S16384x1 (ix2 r (0 : Fin 1))) h1).trans (scale_cast _ r)
  have e4 : ∀ (r : Fin 16384) (q : Fin 20736), shapeCast Cert.ReferenceIdeal.S16384x20736 (m' (c, Proc.devRef .tc Cert.ReferenceIdeal.main_arg4)) Cert.ReferenceIdeal.Gen.shapeCasts_S8x2048x20736_S16384x20736 (ix2 r q)
      = shapeCast S16384x20736 (m (c, Proc.devRef .tc main_arg4)) Cert.KernelIdeal.Gen.shapeCasts_S8x2048x20736_S16384x20736 (ix2 r q) := fun r q =>
    congrArg (fun a : Vec Ideal S8x2048x20736 .bf16 => shapeCast S16384x20736 a Cert.KernelIdeal.Gen.shapeCasts_S8x2048x20736_S16384x20736 (ix2 r q)) h4
  have e2 : ∀ (x : Fin 4480) (q : Fin 20736), m' ((c.tc : Thread Cert.ReferenceIdeal.nD Cert.ReferenceIdeal.τ).loc Cert.ReferenceIdeal.main_arg2) (ix2 x q)
      = m ((c.tc : Thread nD τ).loc main_arg2) (ix2 x q) := fun x q => congrFun h2 (ix2 x q)
  have e3 : ∀ (q : Fin 20736), m' ((c.tc : Thread Cert.ReferenceIdeal.nD Cert.ReferenceIdeal.τ).loc Cert.ReferenceIdeal.main_arg3) (ix2 (0 : Fin 1) q)
      = m ((c.tc : Thread nD τ).loc main_arg3) (ix2 (0 : Fin 1) q) := fun q => congrFun h3 (ix2 (0 : Fin 1) q)
  exact congr (congr (congr (congr (congrArg yOf (funext fun r => funext fun x => e0 r x)) (funext e1)) (funext fun x => funext fun q => e2 x q)) (funext e3))
    (funext fun r => funext fun q => e4 r q)

/-- Kernel and reference end with equal results at the ideal instance, their arguments unchanged. -/
theorem algebraic [Cert.KernelIdeal.Facts] [Cert.ReferenceIdeal.Facts] : algebraic_KernelIdeal_ReferenceIdeal := by
  intro m g m' g' _ h
  refine ⟨fun c => codesOf (yAt m c), fun c => scalesOf (yAt m c), ?_, ?_⟩
  · refine (θ_run _ _ _).mono (fun r hr c => ⟨?_, ?_, hr.2 c⟩)
      (θ_run_and (Cert.KernelIdeal.Fn.run_main m g) (Cert.KernelIdeal.Fn.unchanged m g))
    · exact ((hr.1 c).1 5).trans (final_codes m c)
    · exact ((hr.1 c).1 6).trans (final_scales m c)
  · refine (θ_run _ _ _).mono (fun r hr c => ⟨?_, ?_, hr.2 c⟩)
      (θ_run_and (Cert.ReferenceIdeal.Gen.run_main m' g') (Cert.ReferenceIdeal.Gen.unchanged m' g'))
    · obtain ⟨h0, h1, h2, h3, h4⟩ := h c
      exact (((hr.1 c).1 5).trans (Ref.final_codes m' c)).trans (congrArg codesOf (y_eq m m' c h0 h1 h2 h3 h4))
    · obtain ⟨h0, h1, h2, h3, h4⟩ := h c
      exact (((hr.1 c).1 6).trans (Ref.final_scales m' c)).trans (congrArg scalesOf (y_eq m m' c h0 h1 h2 h3 h4))

end Cert.Value
-- ==== Proof.lean ====
/-
  The certificate's claims: each program runs to the end with its arguments unchanged and every counter at zero,
  and kernel and reference end with equal results at the ideal instance.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Data
public import proofs.«01_k».proof.Proof.K.Data
public import proofs.«01_k».proof.Proof.Value

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m ρ _ => Cert.Kernel.Fn.frame m ρ, fun m ρ _ => Cert.KernelIdeal.Fn.frame m ρ, fun m ρ _ => Cert.ReferenceIdeal.Gen.frame m ρ,
  trivial,
  Cert.Value.algebraic⟩

end Cert.Proof

end
